-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x1024 : Shape := ⟨3, ![8, 2048, 1024]⟩
abbrev S8x32x1x1024 : Shape := ⟨4, ![8, 32, 1, 1024]⟩
abbrev S8x8x128x128 : Shape := ⟨4, ![8, 8, 128, 128]⟩
abbrev S16x1x6144 : Shape := ⟨3, ![16, 1, 6144]⟩
abbrev S1x128 : Shape := ⟨2, ![1, 128]⟩
abbrev S1x1024 : Shape := ⟨2, ![1, 1024]⟩
abbrev S1024x512 : Shape := ⟨2, ![1024, 512]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x512x1024 : Shape := ⟨3, ![1, 512, 1024]⟩
abbrev S1x8x1x1024 : Shape := ⟨4, ![1, 8, 1, 1024]⟩
abbrev S1x8x128x128 : Shape := ⟨4, ![1, 8, 128, 128]⟩
abbrev S1x1x6144 : Shape := ⟨3, ![1, 1, 6144]⟩
abbrev S8x128x128 : Shape := ⟨3, ![8, 128, 128]⟩
abbrev S1x6144 : Shape := ⟨2, ![1, 6144]⟩
abbrev S1x1x1x1024 : Shape := ⟨4, ![1, 1, 1, 1024]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S64x1024 : Shape := ⟨2, ![64, 1024]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x512 : Shape := ⟨2, ![256, 512]⟩
abbrev S256x2048 : Shape := ⟨2, ![256, 2048]⟩
abbrev S256x128 : Shape := ⟨2, ![256, 128]⟩
abbrev S256x2816 : Shape := ⟨2, ![256, 2816]⟩

abbrev nBuf : Space → Nat
  | .hbm => 24
  | .vmem => 34
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x32x1x1024, .f32⟩
  | .hbm, ⟨5, _⟩ => ⟨S8x8x128x128, .f32⟩
  | .hbm, ⟨6, _⟩ => ⟨S8x2048x1024, .f32⟩
  | .hbm, ⟨7, _⟩ => ⟨S16x1x6144, .f32⟩
  | .hbm, ⟨8, _⟩ => ⟨S1x128, .f32⟩
  | .hbm, ⟨9, _⟩ => ⟨S1x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x512, .bf16⟩
  | .hbm, ⟨15, _⟩ => ⟨S1024x512, .bf16⟩
  | .hbm, ⟨16, _⟩ => ⟨S1024x2048, .bf16⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x8x1x1024, .f32⟩
  | .local _ .vmem, ⟨9, _⟩ => ⟨S1x8x1x1024, .f32⟩
  | .local _ .vmem, ⟨10, _⟩ => ⟨S1x8x128x128, .f32⟩
  | .local _ .vmem, ⟨11, _⟩ => ⟨S1x8x128x128, .f32⟩
  | .local _ .vmem, ⟨12, _⟩ => ⟨S1x512x1024, .f32⟩
  | .local _ .vmem, ⟨13, _⟩ => ⟨S1x512x1024, .f32⟩
  | .local _ .vmem, ⟨14, _⟩ => ⟨S1x1x6144, .f32⟩
  | .local _ .vmem, ⟨15, _⟩ => ⟨S1x1x6144, .f32⟩
  | .local _ .vmem, ⟨16, _⟩ => ⟨S1x128, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x512, .bf16⟩
  | .local _ .vmem, ⟨23, _⟩ => ⟨S1024x512, .bf16⟩
  | .local _ .vmem, ⟨24, _⟩ => ⟨S1024x2048, .bf16⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1024x2816, .bf16⟩
  | .local _ .vmem, ⟨29, _⟩ => ⟨S1024x2816, .bf16⟩
  | .local _ .vmem, ⟨30, _⟩ => ⟨S2816x1024, .bf16⟩
  | .local _ .vmem, ⟨31, _⟩ => ⟨S1x512x1024, .f32⟩
  | .local _ .vmem, ⟨32, _⟩ => ⟨S1x512x1024, .f32⟩
  | .local _ .vmem, ⟨33, _⟩ => ⟨S8x128x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg23_0 : Ref sig .tc := ⟨.vmem, 31, rfl⟩
abbrev cc0_stg23_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x2816 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ReferenceIdeal.lean ====
abbrev S8x2048x1024 : Shape := ⟨3, ![8, 2048, 1024]⟩
abbrev S8x32x1x1024 : Shape := ⟨4, ![8, 32, 1, 1024]⟩
abbrev S8x8x128x128 : Shape := ⟨4, ![8, 8, 128, 128]⟩
abbrev S16x1x6144 : Shape := ⟨3, ![16, 1, 6144]⟩
abbrev S1x128 : Shape := ⟨2, ![1, 128]⟩
abbrev S1x1024 : Shape := ⟨2, ![1, 1024]⟩
abbrev S1024x512 : Shape := ⟨2, ![1024, 512]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x1x6144 : Shape := ⟨3, ![8, 1, 6144]⟩
abbrev S8x32x64x1024 : Shape := ⟨4, ![8, 32, 64, 1024]⟩
abbrev S32x8x64x1024 : Shape := ⟨4, ![32, 8, 64, 1024]⟩
abbrev S32x8x1x1024 : Shape := ⟨4, ![32, 8, 1, 1024]⟩
abbrev S_ : Shape := ⟨0, ![]⟩
abbrev S1x8x64x1024 : Shape := ⟨4, ![1, 8, 64, 1024]⟩
abbrev S8x64x1024 : Shape := ⟨3, ![8, 64, 1024]⟩
abbrev S1x8x1x1024 : Shape := ⟨4, ![1, 8, 1, 1024]⟩
abbrev S8x1x1024 : Shape := ⟨3, ![8, 1, 1024]⟩
abbrev S8x64x8x128 : Shape := ⟨4, ![8, 64, 8, 128]⟩
abbrev S8x8x128x64 : Shape := ⟨4, ![8, 8, 128, 64]⟩
abbrev S8x64 : Shape := ⟨2, ![8, 64]⟩
abbrev S8x64x1 : Shape := ⟨3, ![8, 64, 1]⟩
abbrev S1x1x1024 : Shape := ⟨3, ![1, 1, 1024]⟩
abbrev S8x64x4x128 : Shape := ⟨4, ![8, 64, 4, 128]⟩
abbrev S8x64x4 : Shape := ⟨3, ![8, 64, 4]⟩
abbrev S8x64x4x1 : Shape := ⟨4, ![8, 64, 4, 1]⟩
abbrev S1x1x1x128 : Shape := ⟨4, ![1, 1, 1, 128]⟩
abbrev S8x64x512 : Shape := ⟨3, ![8, 64, 512]⟩
abbrev S8x64x2048 : Shape := ⟨3, ![8, 64, 2048]⟩
abbrev S8x64x2816 : Shape := ⟨3, ![8, 64, 2816]⟩
abbrev S8x8x1x128 : Shape := ⟨4, ![8, 8, 1, 128]⟩

abbrev nBuf : Space → Nat
  | .hbm => 319
  | .vmem => 0
  | .smem => 0
  | _ => 0

abbrev hbmTy0_0 (i : Nat) : BufTy := match i % 128 with
  | 0 => ⟨S8x2048x1024, .bf16⟩
  | 1 => ⟨S8x2048x1024, .bf16⟩
  | 2 => ⟨S8x2048x1024, .bf16⟩
  | 3 => ⟨S8x2048x1024, .bf16⟩
  | 4 => ⟨S8x32x1x1024, .f32⟩
  | 5 => ⟨S8x8x128x128, .f32⟩
  | 6 => ⟨S8x2048x1024, .f32⟩
  | 7 => ⟨S16x1x6144, .f32⟩
  | 8 => ⟨S1x128, .f32⟩
  | 9 => ⟨S1x128, .f32⟩
  | 10 => ⟨S1x1024, .f32⟩
  | 11 => ⟨S1x1024, .f32⟩
  | 12 => ⟨S1x1024, .f32⟩
  | 13 => ⟨S1x1024, .f32⟩
  | 14 => ⟨S1024x512, .bf16⟩
  | 15 => ⟨S1024x512, .bf16⟩
  | 16 => ⟨S1024x2048, .bf16⟩
  | 17 => ⟨S512x1024, .bf16⟩
  | 18 => ⟨S512x1024, .bf16⟩
  | 19 => ⟨S1024x1024, .bf16⟩
  | 20 => ⟨S1024x2816, .bf16⟩
  | 21 => ⟨S1024x2816, .bf16⟩
  | 22 => ⟨S2816x1024, .bf16⟩
  | 23 => ⟨S8x1x6144, .f32⟩
  | 24 => ⟨S8x32x64x1024, .bf16⟩
  | 25 => ⟨S32x8x64x1024, .bf16⟩
  | 26 => ⟨S8x32x64x1024, .bf16⟩
  | 27 => ⟨S32x8x64x1024, .bf16⟩
  | 28 => ⟨S8x32x64x1024, .bf16⟩
  | 29 => ⟨S32x8x64x1024, .bf16⟩
  | 30 => ⟨S8x32x64x1024, .bf16⟩
  | 31 => ⟨S32x8x64x1024, .bf16⟩
  | 32 => ⟨S8x32x64x1024, .f32⟩
  | 33 => ⟨S32x8x64x1024, .f32⟩
  | 34 => ⟨S32x8x1x1024, .f32⟩
  | 35 => ⟨S_, .f32⟩
  | 36 => ⟨S32x8x64x1024, .f32⟩
  | 37 => ⟨S_, .i32⟩
  | 38 => ⟨S32x8x64x1024, .bf16⟩
  | 39 => ⟨S32x8x64x1024, .bf16⟩
  | 40 => ⟨S32x8x64x1024, .bf16⟩
  | 41 => ⟨S32x8x64x1024, .bf16⟩
  | 42 => ⟨S32x8x64x1024, .f32⟩
  | 43 => ⟨S32x8x1x1024, .f32⟩
  | 44 => ⟨S8x1x6144, .f32⟩
  | 45 => ⟨S1x1024, .f32⟩
  | 46 => ⟨S1x128, .f32⟩
  | 47 => ⟨S1024x512, .bf16⟩
  | 48 => ⟨S1x128, .f32⟩
  | 49 => ⟨S1024x512, .bf16⟩
  | 50 => ⟨S1024x2048, .bf16⟩
  | 51 => ⟨S512x1024, .bf16⟩
  | 52 => ⟨S512x1024, .bf16⟩
  | 53 => ⟨S1024x1024, .bf16⟩
  | 54 => ⟨S1x1024, .f32⟩
  | 55 => ⟨S1x1024, .f32⟩
  | 56 => ⟨S1024x2816, .bf16⟩
  | 57 => ⟨S1024x2816, .bf16⟩
  | 58 => ⟨S2816x1024, .bf16⟩
  | 59 => ⟨S1x1024, .f32⟩
  | 60 => ⟨S_, .i32⟩
  | 61 => ⟨S8x8x128x128, .f32⟩
  | 62 => ⟨S32x8x64x1024, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S1x8x64x1024, .bf16⟩
  | 73 => ⟨S8x64x1024, .bf16⟩
  | 74 => ⟨S_, .i32⟩
  | 75 => ⟨S_, .i32⟩
  | 76 => ⟨S_, .i32⟩
  | 77 => ⟨S1x8x64x1024, .bf16⟩
  | 78 => ⟨S8x64x1024, .bf16⟩
  | 79 => ⟨S_, .i32⟩
  | 80 => ⟨S_, .i32⟩
  | 81 => ⟨S_, .i32⟩
  | 82 => ⟨S1x8x64x1024, .bf16⟩
  | 83 => ⟨S8x64x1024, .bf16⟩
  | 84 => ⟨S_, .i32⟩
  | 85 => ⟨S_, .i32⟩
  | 86 => ⟨S_, .i32⟩
  | 87 => ⟨S1x8x64x1024, .bf16⟩
  | 88 => ⟨S8x64x1024, .bf16⟩
  | 89 => ⟨S_, .i32⟩
  | 90 => ⟨S_, .i32⟩
  | 91 => ⟨S_, .i32⟩
  | 92 => ⟨S1x8x64x1024, .f32⟩
  | 93 => ⟨S8x64x1024, .f32⟩
  | 94 => ⟨S_, .i32⟩
  | 95 => ⟨S_, .i32⟩
  | 96 => ⟨S_, .i32⟩
  | 97 => ⟨S1x8x1x1024, .f32⟩
  | 98 => ⟨S8x1x1024, .f32⟩
  | 99 => ⟨S8x1x1024, .f32⟩
  | 100 => ⟨S8x1x1024, .f32⟩
  | 101 => ⟨S8x1x1024, .f32⟩
  | 102 => ⟨S8x1x1024, .f32⟩
  | 103 => ⟨S8x1x1024, .f32⟩
  | 104 => ⟨S8x1x1024, .f32⟩
  | 105 => ⟨S8x64x1024, .f32⟩
  | 106 => ⟨S8x64x8x128, .f32⟩
  | 107 => ⟨S8x64x1024, .f32⟩
  | 108 => ⟨S8x64x8x128, .f32⟩
  | 109 => ⟨S8x8x128x64, .f32⟩
  | 110 => ⟨S8x64x8x128, .f32⟩
  | 111 => ⟨S8x64x8x128, .f32⟩
  | 112 => ⟨S8x64x1024, .f32⟩
  | 113 => ⟨S_, .f32⟩
  | 114 => ⟨S8x64, .f32⟩
  | 115 => ⟨S8x64x1, .f32⟩
  | 116 => ⟨S_, .f32⟩
  | 117 => ⟨S8x64x1, .f32⟩
  | 118 => ⟨S8x64x1, .f32⟩
  | 119 => ⟨S_, .f32⟩
  | 120 => ⟨S8x64x1, .f32⟩
  | 121 => ⟨S8x64x1, .f32⟩
  | 122 => ⟨S8x64x1, .f32⟩
  | 123 => ⟨S8x64x1024, .f32⟩
  | 124 => ⟨S8x64x1024, .f32⟩
  | 125 => ⟨S1x1x1024, .f32⟩
  | 126 => ⟨S8x64x1024, .f32⟩
  | 127 => ⟨S8x64x1024, .f32⟩
  | _ => ⟨S8x2048x1024, .bf16⟩

abbrev hbmTy0_1 (i : Nat) : BufTy := match i % 128 with
  | 0 => ⟨S_, .f32⟩
  | 1 => ⟨S8x1x1024, .f32⟩
  | 2 => ⟨S8x1x1024, .f32⟩
  | 3 => ⟨S8x64x1024, .f32⟩
  | 4 => ⟨S8x64x1024, .f32⟩
  | 5 => ⟨S8x64x1024, .f32⟩
  | 6 => ⟨S8x64x1024, .f32⟩
  | 7 => ⟨S8x64x4x128, .f32⟩
  | 8 => ⟨S8x64x4x128, .f32⟩
  | 9 => ⟨S_, .f32⟩
  | 10 => ⟨S8x64x4, .f32⟩
  | 11 => ⟨S8x64x4x1, .f32⟩
  | 12 => ⟨S_, .f32⟩
  | 13 => ⟨S8x64x4x1, .f32⟩
  | 14 => ⟨S8x64x4x1, .f32⟩
  | 15 => ⟨S_, .f32⟩
  | 16 => ⟨S8x64x4x1, .f32⟩
  | 17 => ⟨S8x64x4x1, .f32⟩
  | 18 => ⟨S8x64x4x1, .f32⟩
  | 19 => ⟨S8x64x4x128, .f32⟩
  | 20 => ⟨S8x64x4x128, .f32⟩
  | 21 => ⟨S1x1x1x128, .f32⟩
  | 22 => ⟨S8x64x4x128, .f32⟩
  | 23 => ⟨S8x64x4x128, .f32⟩
  | 24 => ⟨S8x64x512, .f32⟩
  | 25 => ⟨S1024x512, .f32⟩
  | 26 => ⟨S8x64x512, .f32⟩
  | 27 => ⟨S8x64x512, .f32⟩
  | 28 => ⟨S8x64x512, .f32⟩
  | 29 => ⟨S_, .f32⟩
  | 30 => ⟨S8x64x512, .f32⟩
  | 31 => ⟨S8x64x512, .f32⟩
  | 32 => ⟨S_, .f32⟩
  | 33 => ⟨S8x64x512, .f32⟩
  | 34 => ⟨S8x64x512, .f32⟩
  | 35 => ⟨S8x64x512, .f32⟩
  | 36 => ⟨S8x64x512, .f32⟩
  | 37 => ⟨S8x64x4x128, .f32⟩
  | 38 => ⟨S8x64x4x128, .f32⟩
  | 39 => ⟨S_, .f32⟩
  | 40 => ⟨S8x64x4, .f32⟩
  | 41 => ⟨S8x64x4x1, .f32⟩
  | 42 => ⟨S_, .f32⟩
  | 43 => ⟨S8x64x4x1, .f32⟩
  | 44 => ⟨S8x64x4x1, .f32⟩
  | 45 => ⟨S_, .f32⟩
  | 46 => ⟨S8x64x4x1, .f32⟩
  | 47 => ⟨S8x64x4x1, .f32⟩
  | 48 => ⟨S8x64x4x1, .f32⟩
  | 49 => ⟨S8x64x4x128, .f32⟩
  | 50 => ⟨S8x64x4x128, .f32⟩
  | 51 => ⟨S1x1x1x128, .f32⟩
  | 52 => ⟨S8x64x4x128, .f32⟩
  | 53 => ⟨S8x64x4x128, .f32⟩
  | 54 => ⟨S8x64x512, .f32⟩
  | 55 => ⟨S1024x512, .f32⟩
  | 56 => ⟨S8x64x512, .f32⟩
  | 57 => ⟨S8x64x512, .f32⟩
  | 58 => ⟨S8x64x512, .f32⟩
  | 59 => ⟨S_, .f32⟩
  | 60 => ⟨S8x64x512, .f32⟩
  | 61 => ⟨S8x64x512, .f32⟩
  | 62 => ⟨S_, .f32⟩
  | 63 => ⟨S8x64x512, .f32⟩
  | 64 => ⟨S8x64x512, .f32⟩
  | 65 => ⟨S8x64x512, .f32⟩
  | 66 => ⟨S8x64x512, .f32⟩
  | 67 => ⟨S1024x2048, .f32⟩
  | 68 => ⟨S8x64x2048, .f32⟩
  | 69 => ⟨S8x64x1024, .f32⟩
  | 70 => ⟨S8x64x1024, .f32⟩
  | 71 => ⟨S8x64x1024, .f32⟩
  | 72 => ⟨S8x64x1024, .f32⟩
  | 73 => ⟨S_, .f32⟩
  | 74 => ⟨S8x64x1024, .f32⟩
  | 75 => ⟨S8x64x1024, .f32⟩
  | 76 => ⟨S_, .f32⟩
  | 77 => ⟨S8x64x1024, .f32⟩
  | 78 => ⟨S8x64x1024, .f32⟩
  | 79 => ⟨S512x1024, .f32⟩
  | 80 => ⟨S8x64x1024, .f32⟩
  | 81 => ⟨S8x64x1024, .f32⟩
  | 82 => ⟨S8x64x1024, .f32⟩
  | 83 => ⟨S8x64x1024, .f32⟩
  | 84 => ⟨S_, .f32⟩
  | 85 => ⟨S8x64x1024, .f32⟩
  | 86 => ⟨S8x64x1024, .f32⟩
  | 87 => ⟨S_, .f32⟩
  | 88 => ⟨S8x64x1024, .f32⟩
  | 89 => ⟨S8x64x1024, .f32⟩
  | 90 => ⟨S512x1024, .f32⟩
  | 91 => ⟨S8x64x1024, .f32⟩
  | 92 => ⟨S8x64x1024, .f32⟩
  | 93 => ⟨S8x64x1024, .f32⟩
  | 94 => ⟨S1024x1024, .f32⟩
  | 95 => ⟨S8x64x1024, .f32⟩
  | 96 => ⟨S8x64x1024, .f32⟩
  | 97 => ⟨S_, .f32⟩
  | 98 => ⟨S8x64, .f32⟩
  | 99 => ⟨S8x64x1, .f32⟩
  | 100 => ⟨S_, .f32⟩
  | 101 => ⟨S8x64x1, .f32⟩
  | 102 => ⟨S8x64x1, .f32⟩
  | 103 => ⟨S_, .f32⟩
  | 104 => ⟨S8x64x1, .f32⟩
  | 105 => ⟨S8x64x1, .f32⟩
  | 106 => ⟨S8x64x1, .f32⟩
  | 107 => ⟨S8x64x1024, .f32⟩
  | 108 => ⟨S8x64x1024, .f32⟩
  | 109 => ⟨S1x1x1024, .f32⟩
  | 110 => ⟨S8x64x1024, .f32⟩
  | 111 => ⟨S8x64x1024, .f32⟩
  | 112 => ⟨S8x64x1024, .f32⟩
  | 113 => ⟨S8x64x1024, .f32⟩
  | 114 => ⟨S8x64x1024, .f32⟩
  | 115 => ⟨S8x64x1024, .f32⟩
  | 116 => ⟨S_, .f32⟩
  | 117 => ⟨S8x64, .f32⟩
  | 118 => ⟨S8x64x1, .f32⟩
  | 119 => ⟨S_, .f32⟩
  | 120 => ⟨S8x64x1, .f32⟩
  | 121 => ⟨S8x64x1, .f32⟩
  | 122 => ⟨S_, .f32⟩
  | 123 => ⟨S8x64x1, .f32⟩
  | 124 => ⟨S8x64x1, .f32⟩
  | 125 => ⟨S8x64x1, .f32⟩
  | 126 => ⟨S8x64x1024, .f32⟩
  | 127 => ⟨S8x64x1024, .f32⟩
  | _ => ⟨S8x2048x1024, .bf16⟩

abbrev hbmTy0_2 (i : Nat) : BufTy := match i % 128 with
  | 0 => ⟨S1x1x1024, .f32⟩
  | 1 => ⟨S8x64x1024, .f32⟩
  | 2 => ⟨S8x64x1024, .f32⟩
  | 3 => ⟨S_, .f32⟩
  | 4 => ⟨S8x1x1024, .f32⟩
  | 5 => ⟨S8x1x1024, .f32⟩
  | 6 => ⟨S8x64x1024, .f32⟩
  | 7 => ⟨S8x64x1024, .f32⟩
  | 8 => ⟨S8x64x1024, .f32⟩
  | 9 => ⟨S8x64x1024, .f32⟩
  | 10 => ⟨S1024x2816, .f32⟩
  | 11 => ⟨S8x64x2816, .f32⟩
  | 12 => ⟨S8x64x2816, .f32⟩
  | 13 => ⟨S8x64x2816, .f32⟩
  | 14 => ⟨S_, .f32⟩
  | 15 => ⟨S8x64x2816, .f32⟩
  | 16 => ⟨S8x64x2816, .f32⟩
  | 17 => ⟨S_, .f32⟩
  | 18 => ⟨S8x64x2816, .f32⟩
  | 19 => ⟨S8x64x2816, .f32⟩
  | 20 => ⟨S8x64x2816, .f32⟩
  | 21 => ⟨S1024x2816, .f32⟩
  | 22 => ⟨S8x64x2816, .f32⟩
  | 23 => ⟨S8x64x2816, .f32⟩
  | 24 => ⟨S2816x1024, .f32⟩
  | 25 => ⟨S8x64x1024, .f32⟩
  | 26 => ⟨S8x64x1024, .f32⟩
  | 27 => ⟨S_, .f32⟩
  | 28 => ⟨S8x64, .f32⟩
  | 29 => ⟨S8x64x1, .f32⟩
  | 30 => ⟨S_, .f32⟩
  | 31 => ⟨S8x64x1, .f32⟩
  | 32 => ⟨S8x64x1, .f32⟩
  | 33 => ⟨S_, .f32⟩
  | 34 => ⟨S8x64x1, .f32⟩
  | 35 => ⟨S8x64x1, .f32⟩
  | 36 => ⟨S8x64x1, .f32⟩
  | 37 => ⟨S8x64x1024, .f32⟩
  | 38 => ⟨S8x64x1024, .f32⟩
  | 39 => ⟨S1x1x1024, .f32⟩
  | 40 => ⟨S8x64x1024, .f32⟩
  | 41 => ⟨S8x64x1024, .f32⟩
  | 42 => ⟨S8x64x1024, .f32⟩
  | 43 => ⟨S8x64x1024, .f32⟩
  | 44 => ⟨S8x64x1024, .f32⟩
  | 45 => ⟨S8x8x1x128, .f32⟩
  | 46 => ⟨S8x8x128x128, .f32⟩
  | 47 => ⟨S8x8x128x128, .f32⟩
  | 48 => ⟨S8x64x1024, .f32⟩
  | 49 => ⟨S8x64x8x128, .f32⟩
  | 50 => ⟨S8x64x1024, .f32⟩
  | 51 => ⟨S8x64x8x128, .f32⟩
  | 52 => ⟨S8x8x128x128, .f32⟩
  | 53 => ⟨S8x8x128x128, .f32⟩
  | 54 => ⟨S1x8x64x1024, .f32⟩
  | 55 => ⟨S_, .i32⟩
  | 56 => ⟨S_, .i32⟩
  | 57 => ⟨S_, .i32⟩
  | 58 => ⟨S32x8x64x1024, .f32⟩
  | 59 => ⟨S_, .i32⟩
  | 60 => ⟨S_, .i32⟩
  | 61 => ⟨S8x32x64x1024, .f32⟩
  | 62 => ⟨S8x2048x1024, .f32⟩
  | _ => ⟨S8x2048x1024, .bf16⟩

abbrev hbmTy (i : Nat) : BufTy := match i / 128 with
  | 0 => hbmTy0_0 i
  | 1 => hbmTy0_1 i
  | 2 => hbmTy0_2 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_c : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v13_3 : Ref sig .tc := ⟨.hbm, 41, rfl⟩
abbrev main_v13_4 : Ref sig .tc := ⟨.hbm, 42, rfl⟩
abbrev main_v13_5 : Ref sig .tc := ⟨.hbm, 43, rfl⟩
abbrev main_v13_6 : Ref sig .tc := ⟨.hbm, 44, rfl⟩
abbrev main_v13_7 : Ref sig .tc := ⟨.hbm, 45, rfl⟩
abbrev main_v13_8 : Ref sig .tc := ⟨.hbm, 46, rfl⟩
abbrev main_v13_9 : Ref sig .tc := ⟨.hbm, 47, rfl⟩
abbrev main_v13_10 : Ref sig .tc := ⟨.hbm, 48, rfl⟩
abbrev main_v13_11 : Ref sig .tc := ⟨.hbm, 49, rfl⟩
abbrev main_v13_12 : Ref sig .tc := ⟨.hbm, 50, rfl⟩
abbrev main_v13_13 : Ref sig .tc := ⟨.hbm, 51, rfl⟩
abbrev main_v13_14 : Ref sig .tc := ⟨.hbm, 52, rfl⟩
abbrev main_v13_15 : Ref sig .tc := ⟨.hbm, 53, rfl⟩
abbrev main_v13_16 : Ref sig .tc := ⟨.hbm, 54, rfl⟩
abbrev main_v13_17 : Ref sig .tc := ⟨.hbm, 55, rfl⟩
abbrev main_v13_18 : Ref sig .tc := ⟨.hbm, 56, rfl⟩
abbrev main_v13_19 : Ref sig .tc := ⟨.hbm, 57, rfl⟩
abbrev main_v13_20 : Ref sig .tc := ⟨.hbm, 58, rfl⟩
abbrev main_v13_21 : Ref sig .tc := ⟨.hbm, 59, rfl⟩
abbrev main_v13_22 : Ref sig .tc := ⟨.hbm, 60, rfl⟩
abbrev main_v13_23 : Ref sig .tc := ⟨.hbm, 61, rfl⟩
abbrev main_v13_24 : Ref sig .tc := ⟨.hbm, 62, rfl⟩
abbrev main_while0c_c_24 : Ref sig .tc := ⟨.hbm, 63, rfl⟩
abbrev main_while0c_v16 : Ref sig .tc := ⟨.hbm, 64, rfl⟩
abbrev main_while0b_c_24 : Ref sig .tc := ⟨.hbm, 65, rfl⟩
abbrev main_while0b_v16 : Ref sig .tc := ⟨.hbm, 66, rfl⟩
abbrev main_while0b_c_25 : Ref sig .tc := ⟨.hbm, 67, rfl⟩
abbrev main_while0b_v17 : Ref sig .tc := ⟨.hbm, 68, rfl⟩
abbrev main_while0b_call0_c : Ref sig .tc := ⟨.hbm, 69, rfl⟩
abbrev main_while0b_call0_c_0 : Ref sig .tc := ⟨.hbm, 70, rfl⟩
abbrev main_while0b_call0_c_1 : Ref sig .tc := ⟨.hbm, 71, rfl⟩
abbrev main_while0b_call0_v0 : Ref sig .tc := ⟨.hbm, 72, rfl⟩
abbrev main_while0b_v18 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_v0 : Ref sig .tc := ⟨.hbm, 77, rfl⟩
abbrev main_while0b_v19 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_v0 : Ref sig .tc := ⟨.hbm, 82, rfl⟩
abbrev main_while0b_v20 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_v0 : Ref sig .tc := ⟨.hbm, 87, rfl⟩
abbrev main_while0b_v21 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_v0 : Ref sig .tc := ⟨.hbm, 92, rfl⟩
abbrev main_while0b_v22 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_v0 : Ref sig .tc := ⟨.hbm, 97, rfl⟩
abbrev main_while0b_v23 : Ref sig .tc := ⟨.hbm, 98, rfl⟩
abbrev main_while0b_v24 : Ref sig .tc := ⟨.hbm, 99, rfl⟩
abbrev main_while0b_v25 : Ref sig .tc := ⟨.hbm, 100, rfl⟩
abbrev main_while0b_v26 : Ref sig .tc := ⟨.hbm, 101, rfl⟩
abbrev main_while0b_v27 : Ref sig .tc := ⟨.hbm, 102, rfl⟩
abbrev main_while0b_v28 : Ref sig .tc := ⟨.hbm, 103, rfl⟩
abbrev main_while0b_v29 : Ref sig .tc := ⟨.hbm, 104, rfl⟩
abbrev main_while0b_v30 : Ref sig .tc := ⟨.hbm, 105, rfl⟩
abbrev main_while0b_v31 : Ref sig .tc := ⟨.hbm, 106, rfl⟩
abbrev main_while0b_v32 : Ref sig .tc := ⟨.hbm, 107, rfl⟩
abbrev main_while0b_v33 : Ref sig .tc := ⟨.hbm, 108, rfl⟩
abbrev main_while0b_v34 : Ref sig .tc := ⟨.hbm, 109, rfl⟩
abbrev main_while0b_v35 : Ref sig .tc := ⟨.hbm, 110, rfl⟩
abbrev main_while0b_v36 : Ref sig .tc := ⟨.hbm, 111, rfl⟩
abbrev main_while0b_v37 : Ref sig .tc := ⟨.hbm, 112, rfl⟩
abbrev main_while0b_cst_26 : Ref sig .tc := ⟨.hbm, 113, rfl⟩
abbrev main_while0b_v38 : Ref sig .tc := ⟨.hbm, 114, rfl⟩
abbrev main_while0b_v39 : Ref sig .tc := ⟨.hbm, 115, rfl⟩
abbrev main_while0b_cst_27 : Ref sig .tc := ⟨.hbm, 116, rfl⟩
abbrev main_while0b_v40 : Ref sig .tc := ⟨.hbm, 117, rfl⟩
abbrev main_while0b_v41 : Ref sig .tc := ⟨.hbm, 118, rfl⟩
abbrev main_while0b_cst_28 : Ref sig .tc := ⟨.hbm, 119, rfl⟩
abbrev main_while0b_v42 : Ref sig .tc := ⟨.hbm, 120, rfl⟩
abbrev main_while0b_v43 : Ref sig .tc := ⟨.hbm, 121, rfl⟩
abbrev main_while0b_v44 : Ref sig .tc := ⟨.hbm, 122, rfl⟩
abbrev main_while0b_v45 : Ref sig .tc := ⟨.hbm, 123, rfl⟩
abbrev main_while0b_v46 : Ref sig .tc := ⟨.hbm, 124, rfl⟩
abbrev main_while0b_v47 : Ref sig .tc := ⟨.hbm, 125, rfl⟩
abbrev main_while0b_v48 : Ref sig .tc := ⟨.hbm, 126, rfl⟩
abbrev main_while0b_v49 : Ref sig .tc := ⟨.hbm, 127, rfl⟩
abbrev main_while0b_cst_29 : Ref sig .tc := ⟨.hbm, 128, rfl⟩
abbrev main_while0b_v50 : Ref sig .tc := ⟨.hbm, 129, rfl⟩
abbrev main_while0b_v51 : Ref sig .tc := ⟨.hbm, 130, rfl⟩
abbrev main_while0b_v52 : Ref sig .tc := ⟨.hbm, 131, rfl⟩
abbrev main_while0b_v53 : Ref sig .tc := ⟨.hbm, 132, rfl⟩
abbrev main_while0b_v54 : Ref sig .tc := ⟨.hbm, 133, rfl⟩
abbrev main_while0b_v55 : Ref sig .tc := ⟨.hbm, 134, rfl⟩
abbrev main_while0b_v56 : Ref sig .tc := ⟨.hbm, 135, rfl⟩
abbrev main_while0b_v57 : Ref sig .tc := ⟨.hbm, 136, rfl⟩
abbrev main_while0b_cst_30 : Ref sig .tc := ⟨.hbm, 137, rfl⟩
abbrev main_while0b_v58 : Ref sig .tc := ⟨.hbm, 138, rfl⟩
abbrev main_while0b_v59 : Ref sig .tc := ⟨.hbm, 139, rfl⟩
abbrev main_while0b_cst_31 : Ref sig .tc := ⟨.hbm, 140, rfl⟩
abbrev main_while0b_v60 : Ref sig .tc := ⟨.hbm, 141, rfl⟩
abbrev main_while0b_v61 : Ref sig .tc := ⟨.hbm, 142, rfl⟩
abbrev main_while0b_cst_32 : Ref sig .tc := ⟨.hbm, 143, rfl⟩
abbrev main_while0b_v62 : Ref sig .tc := ⟨.hbm, 144, rfl⟩
abbrev main_while0b_v63 : Ref sig .tc := ⟨.hbm, 145, rfl⟩
abbrev main_while0b_v64 : Ref sig .tc := ⟨.hbm, 146, rfl⟩
abbrev main_while0b_v65 : Ref sig .tc := ⟨.hbm, 147, rfl⟩
abbrev main_while0b_v66 : Ref sig .tc := ⟨.hbm, 148, rfl⟩
abbrev main_while0b_v67 : Ref sig .tc := ⟨.hbm, 149, rfl⟩
abbrev main_while0b_v68 : Ref sig .tc := ⟨.hbm, 150, rfl⟩
abbrev main_while0b_v69 : Ref sig .tc := ⟨.hbm, 151, rfl⟩
abbrev main_while0b_v70 : Ref sig .tc := ⟨.hbm, 152, rfl⟩
abbrev main_while0b_v71 : Ref sig .tc := ⟨.hbm, 153, rfl⟩
abbrev main_while0b_v72 : Ref sig .tc := ⟨.hbm, 154, rfl⟩
abbrev main_while0b_call6_v0 : Ref sig .tc := ⟨.hbm, 155, rfl⟩
abbrev main_while0b_call6_v1 : Ref sig .tc := ⟨.hbm, 156, rfl⟩
abbrev main_while0b_call6_cst : Ref sig .tc := ⟨.hbm, 157, rfl⟩
abbrev main_while0b_call6_v2 : Ref sig .tc := ⟨.hbm, 158, rfl⟩
abbrev main_while0b_call6_v3 : Ref sig .tc := ⟨.hbm, 159, rfl⟩
abbrev main_while0b_call6_cst_0 : Ref sig .tc := ⟨.hbm, 160, rfl⟩
abbrev main_while0b_call6_v4 : Ref sig .tc := ⟨.hbm, 161, rfl⟩
abbrev main_while0b_call6_v5 : Ref sig .tc := ⟨.hbm, 162, rfl⟩
abbrev main_while0b_v73 : Ref sig .tc := ⟨.hbm, 163, rfl⟩
abbrev main_while0b_v74 : Ref sig .tc := ⟨.hbm, 164, rfl⟩
abbrev main_while0b_v75 : Ref sig .tc := ⟨.hbm, 165, rfl⟩
abbrev main_while0b_v76 : Ref sig .tc := ⟨.hbm, 166, rfl⟩
abbrev main_while0b_cst_33 : Ref sig .tc := ⟨.hbm, 167, rfl⟩
abbrev main_while0b_v77 : Ref sig .tc := ⟨.hbm, 168, rfl⟩
abbrev main_while0b_v78 : Ref sig .tc := ⟨.hbm, 169, rfl⟩
abbrev main_while0b_cst_34 : Ref sig .tc := ⟨.hbm, 170, rfl⟩
abbrev main_while0b_v79 : Ref sig .tc := ⟨.hbm, 171, rfl⟩
abbrev main_while0b_v80 : Ref sig .tc := ⟨.hbm, 172, rfl⟩
abbrev main_while0b_cst_35 : Ref sig .tc := ⟨.hbm, 173, rfl⟩
abbrev main_while0b_v81 : Ref sig .tc := ⟨.hbm, 174, rfl⟩
abbrev main_while0b_v82 : Ref sig .tc := ⟨.hbm, 175, rfl⟩
abbrev main_while0b_v83 : Ref sig .tc := ⟨.hbm, 176, rfl⟩
abbrev main_while0b_v84 : Ref sig .tc := ⟨.hbm, 177, rfl⟩
abbrev main_while0b_v85 : Ref sig .tc := ⟨.hbm, 178, rfl⟩
abbrev main_while0b_v86 : Ref sig .tc := ⟨.hbm, 179, rfl⟩
abbrev main_while0b_v87 : Ref sig .tc := ⟨.hbm, 180, rfl⟩
abbrev main_while0b_v88 : Ref sig .tc := ⟨.hbm, 181, rfl⟩
abbrev main_while0b_v89 : Ref sig .tc := ⟨.hbm, 182, rfl⟩
abbrev main_while0b_v90 : Ref sig .tc := ⟨.hbm, 183, rfl⟩
abbrev main_while0b_v91 : Ref sig .tc := ⟨.hbm, 184, rfl⟩
abbrev main_while0b_call7_v0 : Ref sig .tc := ⟨.hbm, 185, rfl⟩
abbrev main_while0b_call7_v1 : Ref sig .tc := ⟨.hbm, 186, rfl⟩
abbrev main_while0b_call7_cst : Ref sig .tc := ⟨.hbm, 187, rfl⟩
abbrev main_while0b_call7_v2 : Ref sig .tc := ⟨.hbm, 188, rfl⟩
abbrev main_while0b_call7_v3 : Ref sig .tc := ⟨.hbm, 189, rfl⟩
abbrev main_while0b_call7_cst_0 : Ref sig .tc := ⟨.hbm, 190, rfl⟩
abbrev main_while0b_call7_v4 : Ref sig .tc := ⟨.hbm, 191, rfl⟩
abbrev main_while0b_call7_v5 : Ref sig .tc := ⟨.hbm, 192, rfl⟩
abbrev main_while0b_v92 : Ref sig .tc := ⟨.hbm, 193, rfl⟩
abbrev main_while0b_v93 : Ref sig .tc := ⟨.hbm, 194, rfl⟩
abbrev main_while0b_v94 : Ref sig .tc := ⟨.hbm, 195, rfl⟩
abbrev main_while0b_v95 : Ref sig .tc := ⟨.hbm, 196, rfl⟩
abbrev main_while0b_v96 : Ref sig .tc := ⟨.hbm, 197, rfl⟩
abbrev main_while0b_v97 : Ref sig .tc := ⟨.hbm, 198, rfl⟩
abbrev main_while0b_v98 : Ref sig .tc := ⟨.hbm, 199, rfl⟩
abbrev main_while0b_v99 : Ref sig .tc := ⟨.hbm, 200, rfl⟩
abbrev main_while0b_cst_36 : Ref sig .tc := ⟨.hbm, 201, rfl⟩
abbrev main_while0b_v100 : Ref sig .tc := ⟨.hbm, 202, rfl⟩
abbrev main_while0b_v101 : Ref sig .tc := ⟨.hbm, 203, rfl⟩
abbrev main_while0b_cst_37 : Ref sig .tc := ⟨.hbm, 204, rfl⟩
abbrev main_while0b_v102 : Ref sig .tc := ⟨.hbm, 205, rfl⟩
abbrev main_while0b_v103 : Ref sig .tc := ⟨.hbm, 206, rfl⟩
abbrev main_while0b_v104 : Ref sig .tc := ⟨.hbm, 207, rfl⟩
abbrev main_while0b_v105 : Ref sig .tc := ⟨.hbm, 208, rfl⟩
abbrev main_while0b_v106 : Ref sig .tc := ⟨.hbm, 209, rfl⟩
abbrev main_while0b_v107 : Ref sig .tc := ⟨.hbm, 210, rfl⟩
abbrev main_while0b_v108 : Ref sig .tc := ⟨.hbm, 211, rfl⟩
abbrev main_while0b_cst_38 : Ref sig .tc := ⟨.hbm, 212, rfl⟩
abbrev main_while0b_v109 : Ref sig .tc := ⟨.hbm, 213, rfl⟩
abbrev main_while0b_v110 : Ref sig .tc := ⟨.hbm, 214, rfl⟩
abbrev main_while0b_cst_39 : Ref sig .tc := ⟨.hbm, 215, rfl⟩
abbrev main_while0b_v111 : Ref sig .tc := ⟨.hbm, 216, rfl⟩
abbrev main_while0b_v112 : Ref sig .tc := ⟨.hbm, 217, rfl⟩
abbrev main_while0b_v113 : Ref sig .tc := ⟨.hbm, 218, rfl⟩
abbrev main_while0b_v114 : Ref sig .tc := ⟨.hbm, 219, rfl⟩
abbrev main_while0b_v115 : Ref sig .tc := ⟨.hbm, 220, rfl⟩
abbrev main_while0b_v116 : Ref sig .tc := ⟨.hbm, 221, rfl⟩
abbrev main_while0b_v117 : Ref sig .tc := ⟨.hbm, 222, rfl⟩
abbrev main_while0b_v118 : Ref sig .tc := ⟨.hbm, 223, rfl⟩
abbrev main_while0b_v119 : Ref sig .tc := ⟨.hbm, 224, rfl⟩
abbrev main_while0b_cst_40 : Ref sig .tc := ⟨.hbm, 225, rfl⟩
abbrev main_while0b_v120 : Ref sig .tc := ⟨.hbm, 226, rfl⟩
abbrev main_while0b_v121 : Ref sig .tc := ⟨.hbm, 227, rfl⟩
abbrev main_while0b_cst_41 : Ref sig .tc := ⟨.hbm, 228, rfl⟩
abbrev main_while0b_v122 : Ref sig .tc := ⟨.hbm, 229, rfl⟩
abbrev main_while0b_v123 : Ref sig .tc := ⟨.hbm, 230, rfl⟩
abbrev main_while0b_cst_42 : Ref sig .tc := ⟨.hbm, 231, rfl⟩
abbrev main_while0b_v124 : Ref sig .tc := ⟨.hbm, 232, rfl⟩
abbrev main_while0b_v125 : Ref sig .tc := ⟨.hbm, 233, rfl⟩
abbrev main_while0b_v126 : Ref sig .tc := ⟨.hbm, 234, rfl⟩
abbrev main_while0b_v127 : Ref sig .tc := ⟨.hbm, 235, rfl⟩
abbrev main_while0b_v128 : Ref sig .tc := ⟨.hbm, 236, rfl⟩
abbrev main_while0b_v129 : Ref sig .tc := ⟨.hbm, 237, rfl⟩
abbrev main_while0b_v130 : Ref sig .tc := ⟨.hbm, 238, rfl⟩
abbrev main_while0b_v131 : Ref sig .tc := ⟨.hbm, 239, rfl⟩
abbrev main_while0b_v132 : Ref sig .tc := ⟨.hbm, 240, rfl⟩
abbrev main_while0b_v133 : Ref sig .tc := ⟨.hbm, 241, rfl⟩
abbrev main_while0b_v134 : Ref sig .tc := ⟨.hbm, 242, rfl⟩
abbrev main_while0b_v135 : Ref sig .tc := ⟨.hbm, 243, rfl⟩
abbrev main_while0b_cst_43 : Ref sig .tc := ⟨.hbm, 244, rfl⟩
abbrev main_while0b_v136 : Ref sig .tc := ⟨.hbm, 245, rfl⟩
abbrev main_while0b_v137 : Ref sig .tc := ⟨.hbm, 246, rfl⟩
abbrev main_while0b_cst_44 : Ref sig .tc := ⟨.hbm, 247, rfl⟩
abbrev main_while0b_v138 : Ref sig .tc := ⟨.hbm, 248, rfl⟩
abbrev main_while0b_v139 : Ref sig .tc := ⟨.hbm, 249, rfl⟩
abbrev main_while0b_cst_45 : Ref sig .tc := ⟨.hbm, 250, rfl⟩
abbrev main_while0b_v140 : Ref sig .tc := ⟨.hbm, 251, rfl⟩
abbrev main_while0b_v141 : Ref sig .tc := ⟨.hbm, 252, rfl⟩
abbrev main_while0b_v142 : Ref sig .tc := ⟨.hbm, 253, rfl⟩
abbrev main_while0b_v143 : Ref sig .tc := ⟨.hbm, 254, rfl⟩
abbrev main_while0b_v144 : Ref sig .tc := ⟨.hbm, 255, rfl⟩
abbrev main_while0b_v145 : Ref sig .tc := ⟨.hbm, 256, rfl⟩
abbrev main_while0b_v146 : Ref sig .tc := ⟨.hbm, 257, rfl⟩
abbrev main_while0b_v147 : Ref sig .tc := ⟨.hbm, 258, rfl⟩
abbrev main_while0b_cst_46 : Ref sig .tc := ⟨.hbm, 259, rfl⟩
abbrev main_while0b_v148 : Ref sig .tc := ⟨.hbm, 260, rfl⟩
abbrev main_while0b_v149 : Ref sig .tc := ⟨.hbm, 261, rfl⟩
abbrev main_while0b_v150 : Ref sig .tc := ⟨.hbm, 262, rfl⟩
abbrev main_while0b_v151 : Ref sig .tc := ⟨.hbm, 263, rfl⟩
abbrev main_while0b_v152 : Ref sig .tc := ⟨.hbm, 264, rfl⟩
abbrev main_while0b_v153 : Ref sig .tc := ⟨.hbm, 265, rfl⟩
abbrev main_while0b_v154 : Ref sig .tc := ⟨.hbm, 266, rfl⟩
abbrev main_while0b_v155 : Ref sig .tc := ⟨.hbm, 267, rfl⟩
abbrev main_while0b_call8_v0 : Ref sig .tc := ⟨.hbm, 268, rfl⟩
abbrev main_while0b_call8_v1 : Ref sig .tc := ⟨.hbm, 269, rfl⟩
abbrev main_while0b_call8_cst : Ref sig .tc := ⟨.hbm, 270, rfl⟩
abbrev main_while0b_call8_v2 : Ref sig .tc := ⟨.hbm, 271, rfl⟩
abbrev main_while0b_call8_v3 : Ref sig .tc := ⟨.hbm, 272, rfl⟩
abbrev main_while0b_call8_cst_0 : Ref sig .tc := ⟨.hbm, 273, rfl⟩
abbrev main_while0b_call8_v4 : Ref sig .tc := ⟨.hbm, 274, rfl⟩
abbrev main_while0b_call8_v5 : Ref sig .tc := ⟨.hbm, 275, rfl⟩
abbrev main_while0b_v156 : Ref sig .tc := ⟨.hbm, 276, rfl⟩
abbrev main_while0b_v157 : Ref sig .tc := ⟨.hbm, 277, rfl⟩
abbrev main_while0b_v158 : Ref sig .tc := ⟨.hbm, 278, rfl⟩
abbrev main_while0b_v159 : Ref sig .tc := ⟨.hbm, 279, rfl⟩
abbrev main_while0b_v160 : Ref sig .tc := ⟨.hbm, 280, rfl⟩
abbrev main_while0b_v161 : Ref sig .tc := ⟨.hbm, 281, rfl⟩
abbrev main_while0b_v162 : Ref sig .tc := ⟨.hbm, 282, rfl⟩
abbrev main_while0b_cst_47 : Ref sig .tc := ⟨.hbm, 283, rfl⟩
abbrev main_while0b_v163 : Ref sig .tc := ⟨.hbm, 284, rfl⟩
abbrev main_while0b_v164 : Ref sig .tc := ⟨.hbm, 285, rfl⟩
abbrev main_while0b_cst_48 : Ref sig .tc := ⟨.hbm, 286, rfl⟩
abbrev main_while0b_v165 : Ref sig .tc := ⟨.hbm, 287, rfl⟩
abbrev main_while0b_v166 : Ref sig .tc := ⟨.hbm, 288, rfl⟩
abbrev main_while0b_cst_49 : Ref sig .tc := ⟨.hbm, 289, rfl⟩
abbrev main_while0b_v167 : Ref sig .tc := ⟨.hbm, 290, rfl⟩
abbrev main_while0b_v168 : Ref sig .tc := ⟨.hbm, 291, rfl⟩
abbrev main_while0b_v169 : Ref sig .tc := ⟨.hbm, 292, rfl⟩
abbrev main_while0b_v170 : Ref sig .tc := ⟨.hbm, 293, rfl⟩
abbrev main_while0b_v171 : Ref sig .tc := ⟨.hbm, 294, rfl⟩
abbrev main_while0b_v172 : Ref sig .tc := ⟨.hbm, 295, rfl⟩
abbrev main_while0b_v173 : Ref sig .tc := ⟨.hbm, 296, rfl⟩
abbrev main_while0b_v174 : Ref sig .tc := ⟨.hbm, 297, rfl⟩
abbrev main_while0b_v175 : Ref sig .tc := ⟨.hbm, 298, rfl⟩
abbrev main_while0b_v176 : Ref sig .tc := ⟨.hbm, 299, rfl⟩
abbrev main_while0b_v177 : Ref sig .tc := ⟨.hbm, 300, rfl⟩
abbrev main_while0b_v178 : Ref sig .tc := ⟨.hbm, 301, rfl⟩
abbrev main_while0b_v179 : Ref sig .tc := ⟨.hbm, 302, rfl⟩
abbrev main_while0b_v180 : Ref sig .tc := ⟨.hbm, 303, rfl⟩
abbrev main_while0b_v181 : Ref sig .tc := ⟨.hbm, 304, rfl⟩
abbrev main_while0b_v182 : Ref sig .tc := ⟨.hbm, 305, rfl⟩
abbrev main_while0b_v183 : Ref sig .tc := ⟨.hbm, 306, rfl⟩
abbrev main_while0b_v184 : Ref sig .tc := ⟨.hbm, 307, rfl⟩
abbrev main_while0b_v185 : Ref sig .tc := ⟨.hbm, 308, rfl⟩
abbrev main_while0b_v186 : Ref sig .tc := ⟨.hbm, 309, rfl⟩
abbrev main_while0b_call9_v0 : Ref sig .tc := ⟨.hbm, 310, rfl⟩
abbrev main_while0b_call9_c : Ref sig .tc := ⟨.hbm, 311, rfl⟩
abbrev main_while0b_call9_c_0 : Ref sig .tc := ⟨.hbm, 312, rfl⟩
abbrev main_while0b_call9_c_1 : Ref sig .tc := ⟨.hbm, 313, rfl⟩
abbrev main_while0b_v187 : Ref sig .tc := ⟨.hbm, 314, rfl⟩
abbrev main_while0b_c_50 : Ref sig .tc := ⟨.hbm, 315, rfl⟩
abbrev main_while0b_v188 : Ref sig .tc := ⟨.hbm, 316, rfl⟩
abbrev main_v14 : Ref sig .tc := ⟨.hbm, 317, rfl⟩
abbrev main_v15 : Ref sig .tc := ⟨.hbm, 318, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S16x1x6144 : Shape := ⟨3, ![16, 1, 6144]⟩
abbrev S1024x1024 : Shape := ⟨2, ![1024, 1024]⟩
abbrev S16x1x1024 : Shape := ⟨3, ![16, 1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x6144, .f32⟩
  | .hbm, ⟨9, _⟩ => ⟨S16x1x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1x1024, .f32⟩
  | .local _ .vmem, ⟨6, _⟩ => ⟨S16x1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S16x6144 : Shape := ⟨2, ![16, 6144]⟩
abbrev S6144 : Shape := ⟨1, ![6144]⟩
abbrev S16x1x6144 : Shape := ⟨3, ![16, 1, 6144]⟩

abbrev nBuf : Space → Nat
  | .hbm => 24
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1024x6144, .f32⟩
  | .hbm, ⟨18, _⟩ => ⟨S16x6144, .f32⟩
  | .hbm, ⟨19, _⟩ => ⟨S6144, .f32⟩
  | .hbm, ⟨20, _⟩ => ⟨S1x6144, .f32⟩
  | .hbm, ⟨21, _⟩ => ⟨S16x6144, .f32⟩
  | .hbm, ⟨22, _⟩ => ⟨S16x6144, .f32⟩
  | .hbm, ⟨23, _⟩ => ⟨S16x1x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Proof.Spec.lean ====
/- The mathematics both programs are held against: one row of the layer's tail, and the state that the recurrence
   carries from chunk to chunk, over the extended reals. -/
module

public import Idealize.ShloMosaic.Lib.Pointwise

@[expose] public section

noncomputable section

namespace Cert.Spec

open Idealize.ShloMosaic

/-- The number every mean square is shifted by. -/
abbrev eps : EReal := Ideal.ofBits .f32 0x358637BD#32
/-- The length of a row, as the constant both programs divide by. -/
abbrev nRow : EReal := Ideal.ofBits .f32 0x44800000#32
/-- The length of a head. -/
abbrev nHead : EReal := Ideal.ofBits .f32 0x43000000#32

/-- One over the root of the shifted mean square. -/
def rs (d : EReal) {n : ℕ} (f : Fin n → EReal) : EReal := Ideal.rsqrt (Ideal.div (∑ k, f k * f k) d + eps)

/-- The logistic function. -/
def sg (x : EReal) : EReal := Ideal.div 1 (1 + Ideal.exp (-x))

/-- `x` times its logistic. -/
def silu (x : EReal) : EReal := x * sg x

/-- What a row reads beside its own entries. -/
structure Wts where
  md : Fin 6144 → EReal
  hgn : Fin 128 → EReal
  gln : Fin 128 → EReal
  pre1 : Fin 1024 → EReal
  post1 : Fin 1024 → EReal
  pre2 : Fin 1024 → EReal
  post2 : Fin 1024 → EReal
  wgh : Fin 1024 → Fin 512 → EReal
  wgg : Fin 1024 → Fin 512 → EReal
  wgm : Fin 1024 → Fin 2048 → EReal
  wbh : Fin 512 → Fin 1024 → EReal
  wbg : Fin 512 → Fin 1024 → EReal
  wo : Fin 1024 → Fin 1024 → EReal
  wg : Fin 1024 → Fin 2816 → EReal
  wu : Fin 1024 → Fin 2816 → EReal
  wd : Fin 2816 → Fin 1024 → EReal

/-- A row scaled to unit mean square, weighted, scaled by one plus a modulation and shifted by another. -/
def modRow (x w sc sh : Fin 1024 → EReal) (k : Fin 1024) : EReal := x k * rs nRow x * w k * (1 + sc k) + sh k

/-- The part of the modulation that starts at `o`. -/
def part (m : Fin 6144 → EReal) (o : ℕ) (ho : o + 1024 ≤ 6144) (k : Fin 1024) : EReal := m ⟨o + k.val, by omega⟩

/-- A vector times a matrix. -/
def vm {n p : ℕ} (h : Fin n → EReal) (w : Fin n → Fin p → EReal) (j : Fin p) : EReal := ∑ k, h k * w k j

/-- Head number `c + j / 128` of a row of heads, scaled to unit mean square and weighted, at entry `j % 128`. -/
def headRow (o : Fin 1024 → EReal) (g : Fin 128 → EReal) (c : ℕ) (hc : c ≤ 512) (j : Fin 512) : EReal :=
  o ⟨c + j.val, by omega⟩ * rs nHead (fun k : Fin 128 => o ⟨c + j.val / 128 * 128 + k.val, by omega⟩) * g ⟨j.val % 128, Nat.mod_lt _ (by decide)⟩

def gated (w : Wts) (h o : Fin 1024 → EReal) (k : Fin 1024) : EReal :=
  sg (vm h w.wgm ⟨k.val, by omega⟩) * vm (fun j => headRow o w.hgn 0 (by decide) j * silu (vm h w.wgh j)) w.wbh k
    + sg (vm h w.wgm ⟨1024 + k.val, by omega⟩) * vm (fun j => headRow o w.gln 512 (by decide) j * silu (vm h w.wgg j)) w.wbg k

/-- A residual plus a row scaled to unit mean square, weighted and modulated. -/
def resRow (x y w sc : Fin 1024 → EReal) (k : Fin 1024) : EReal := x k + y k * rs nRow y * w k * sc k

/-- The mixer's half of the tail, on one row. -/
def mid (w : Wts) (x o : Fin 1024 → EReal) : Fin 1024 → EReal :=
  resRow x (vm (gated w (modRow x w.pre1 (part w.md 1024 (by decide)) (part w.md 0 (by decide))) o) w.wo) w.post1 (part w.md 2048 (by decide))

/-- The feed-forward half of the tail, on one row. -/
def ffn (w : Wts) (z : Fin 1024 → EReal) : Fin 1024 → EReal :=
  resRow z (vm (fun j => silu (vm (modRow z w.pre2 (part w.md 4096 (by decide)) (part w.md 3072 (by decide))) w.wg j)
    * vm (modRow z w.pre2 (part w.md 4096 (by decide)) (part w.md 3072 (by decide))) w.wu j) w.wd) w.post2 (part w.md 5120 (by decide))

/-- The tail, on one row: `x` the residual's row, `o` the mixer's output before its norm. -/
def rowOut (w : Wts) (x o : Fin 1024 → EReal) : Fin 1024 → EReal := ffn w (mid w x o)

/-- The state: heads by values by keys. -/
abbrev St := Fin 8 → Fin 128 → Fin 128 → EReal

/-- Entry `a` of head `u` in a row of heads. -/
abbrev hd (u : Fin 8) (a : Fin 128) : Fin 1024 := ⟨u.val * 128 + a.val, by omega⟩

/-- The state before a chunk, from the state after it in the row order: decayed, plus the chunk's outer products. -/
def stepS (e : Fin 1024 → EReal) (v kd : Fin 64 → Fin 1024 → EReal) (s : St) : St := fun u a b =>
  s u a b * e (hd u b) + ∑ r : Fin 64, v r (hd u a) * kd r (hd u b)

/-- `n` steps of a recurrence whose step depends on how many were made. -/
def iterS (f : ℕ → St → St) (s : St) : ℕ → St
  | 0 => s
  | n + 1 => f n (iterS f s n)

theorem iterS_add (f : ℕ → St → St) (s : St) (a : ℕ) : ∀ n, iterS f s (a + n) = iterS (fun i => f (a + i)) (iterS f s a) n
  | 0 => rfl
  | n + 1 => congrArg (f (a + n)) (iterS_add f s a n)

/-- What a row of queries reads of a state. -/
def readS (q : Fin 1024 → EReal) (s : St) (j : Fin 1024) : EReal :=
  ∑ k : Fin 128, q (hd ⟨j.val / 128, by omega⟩ k) * s ⟨j.val / 128, by omega⟩ ⟨j.val % 128, Nat.mod_lt _ (by decide)⟩ k

theorem iterS_congr (f g : ℕ → St → St) (s : St) : ∀ n, (∀ i, i < n → f i = g i) → iterS f s n = iterS g s n
  | 0, _ => rfl
  | n + 1, h => by
    show f n (iterS f s n) = g n (iterS g s n)
    rw [h n (Nat.lt_succ_self n), iterS_congr f g s n fun i hi => h i (Nat.lt_succ_of_lt hi)]

/-! ## The whole layer remainder -/

/-- The arrays, as functions of their places. -/
structure Arr where
  oi : Fin 8 → Fin 2048 → Fin 1024 → EReal
  qd : Fin 8 → Fin 2048 → Fin 1024 → EReal
  kd : Fin 8 → Fin 2048 → Fin 1024 → EReal
  v : Fin 8 → Fin 2048 → Fin 1024 → EReal
  el : Fin 8 → Fin 32 → Fin 1024 → EReal
  s0 : Fin 8 → St
  x : Fin 8 → Fin 2048 → Fin 1024 → EReal
  w : Fin 8 → Wts

/-- The step of a batch's chunk `31 - n`. -/
def Arr.f (A : Arr) (b : Fin 8) (n : ℕ) : St → St :=
  stepS (A.el b ⟨31 - n, by omega⟩) (fun r k => A.v b ⟨(31 - n) * 64 + r.val, by omega⟩ k) (fun r k => A.kd b ⟨(31 - n) * 64 + r.val, by omega⟩ k)

/-- The state after the last `n` chunks. -/
def Arr.S (A : Arr) (b : Fin 8) (n : ℕ) : St := iterS (A.f b) (A.s0 b) n

/-- What the layer gives. -/
def Arr.out (A : Arr) (b : Fin 8) (R : Fin 2048) (j : Fin 1024) : EReal :=
  rowOut (A.w b) (A.x b R) (fun k => A.oi b R k + readS (A.qd b R) (A.S b (31 - R.val / 64)) k) j

end Cert.Spec

end
-- ==== Proof.RefRows.lean ====
/- The reference's trip as stages, each read at an index. -/
module

public import proofs.«01_k».proof.Proof.Spec
public import proofs.«01_k».proof.Proof.Gen.ReferenceIdeal
public import Idealize.ShloMosaic.Lib.Pointwise

@[expose] public section

set_option maxRecDepth 16384

noncomputable section

namespace Cert.RefRows

open Idealize.ShloMosaic Idealize.ShloMosaic.TcCoe Cert.ReferenceIdeal Cert.ReferenceIdeal.Gen Cert.Spec

/-- The rows of one chunk of every batch. -/
abbrev XR := FVec Ideal S8x64x1024 .f32
abbrev XH := FVec Ideal S8x64x8x128 .f32
abbrev XM := FVec Ideal S8x1x6144 .f32

def NRM (x : XR) : XR := mulf x (broadcastInDim S8x64x1024 ![0, 1, 2] bcast_S8x64x1_S8x64x1024_0_1_2 (Host.rsqrt (addf (Host.divf (broadcastInDim S8x64x1 ![0, 1] bcast_S8x64_S8x64x1_0_1 (Host.reduceAdd (mulf x x) (constant S_ .f32 0x00000000#32) reducesTo_S8x64x1024_S8x64_d2 h_S_)) (broadcastInDim S8x64x1 ![] bcast_S_S8x64x1 (constant S_ .f32 0x44800000#32))) (broadcastInDim S8x64x1 ![] bcast_S_S8x64x1 (constant S_ .f32 0x358637BD#32)))))
def ROW (w : FVec Ideal S1x1024 .f32) : XR := (broadcastInDim S8x64x1024 ![0, 1, 2] bcast_S1x1x1024_S8x64x1024_0_1_2 (broadcastInDim S1x1x1024 ![1, 2] bcast_S1x1024_S1x1x1024_1_2 w))
/-- The mixer's input. -/
def AFF1 (x : XR) (w : FVec Ideal S1x1024 .f32) (md : XM) : XR := addf (mulf (mulf (NRM x) (ROW w)) (broadcastInDim S8x64x1024 ![0, 1, 2] bcast_S8x1x1024_S8x64x1024_0_1_2 (addf (broadcastInDim S8x1x1024 ![] bcast_S_S8x1x1024 (constant S_ .f32 0x3F800000#32)) (extractStridedSlice S8x1x1024 ![0, 0, 1024] md slices_S8x1x6144_S8x1x1024_0_0_1024)))) (broadcastInDim S8x64x1024 ![0, 1, 2] bcast_S8x1x1024_S8x64x1024_0_1_2 (extractStridedSlice S8x1x1024 ![0, 0, 0] md slices_S8x1x6144_S8x1x1024_0_0_0))
/-- The feed-forward's input. -/
def AFF2 (x : XR) (w : FVec Ideal S1x1024 .f32) (md : XM) : XR := addf (mulf (mulf (NRM x) (ROW w)) (broadcastInDim S8x64x1024 ![0, 1, 2] bcast_S8x1x1024_S8x64x1024_0_1_2 (addf (broadcastInDim S8x1x1024 ![] bcast_S_S8x1x1024 (constant S_ .f32 0x3F800000#32)) (extractStridedSlice S8x1x1024 ![0, 0, 4096] md slices_S8x1x6144_S8x1x1024_0_0_4096)))) (broadcastInDim S8x64x1024 ![0, 1, 2] bcast_S8x1x1024_S8x64x1024_0_1_2 (extractStridedSlice S8x1x1024 ![0, 0, 3072] md slices_S8x1x6144_S8x1x1024_0_0_3072))
def RES1 (x y : XR) (w : FVec Ideal S1x1024 .f32) (md : XM) : XR := addf x (mulf (mulf (NRM y) (ROW w)) (broadcastInDim S8x64x1024 ![0, 1, 2] bcast_S8x1x1024_S8x64x1024_0_1_2 (extractStridedSlice S8x1x1024 ![0, 0, 2048] md slices_S8x1x6144_S8x1x1024_0_0_2048)))
def RES2 (x y : XR) (w : FVec Ideal S1x1024 .f32) (md : XM) : XR := addf x (mulf (mulf (NRM y) (ROW w)) (broadcastInDim S8x64x1024 ![0, 1, 2] bcast_S8x1x1024_S8x64x1024_0_1_2 (extractStridedSlice S8x1x1024 ![0, 0, 5120] md slices_S8x1x6144_S8x1x1024_0_0_5120)))

def SG1024 (t : XR) : XR := Host.divf (broadcastInDim S8x64x1024 ![] bcast_S_S8x64x1024 (constant S_ .f32 0x3F800000#32)) (addf (broadcastInDim S8x64x1024 ![] bcast_S_S8x64x1024 (constant S_ .f32 0x3F800000#32)) (Host.exp (Host.negf t)))
def SG512 (t : FVec Ideal S8x64x512 .f32) : FVec Ideal S8x64x512 .f32 := Host.divf (broadcastInDim S8x64x512 ![] bcast_S_S8x64x512 (constant S_ .f32 0x3F800000#32)) (addf (broadcastInDim S8x64x512 ![] bcast_S_S8x64x512 (constant S_ .f32 0x3F800000#32)) (Host.exp (Host.negf t)))
def SG2816 (t : FVec Ideal S8x64x2816 .f32) : FVec Ideal S8x64x2816 .f32 := Host.divf (broadcastInDim S8x64x2816 ![] bcast_S_S8x64x2816 (constant S_ .f32 0x3F800000#32)) (addf (broadcastInDim S8x64x2816 ![] bcast_S_S8x64x2816 (constant S_ .f32 0x3F800000#32)) (Host.exp (Host.negf t)))

def D512 (h : XR) (w : FVec Ideal S1024x512 .bf16) : FVec Ideal S8x64x512 .f32 :=
  Host.dotGeneral dot_S8x64x1024_S1024x512_S8x64x512_2_0_01_1_n_n none h (extf .f32 w bitsLt_bf16_f32)
def D2048 (h : XR) (w : FVec Ideal S1024x2048 .bf16) : FVec Ideal S8x64x2048 .f32 :=
  Host.dotGeneral dot_S8x64x1024_S1024x2048_S8x64x2048_2_0_01_1_n_n none h (extf .f32 w bitsLt_bf16_f32)
def DO (h : XR) (w : FVec Ideal S1024x1024 .bf16) : XR :=
  Host.dotGeneral dot_S8x64x1024_S1024x1024_S8x64x1024_2_0_01_1_n_n none h (extf .f32 w bitsLt_bf16_f32)
def DB (h : FVec Ideal S8x64x512 .f32) (w : FVec Ideal S512x1024 .bf16) : XR :=
  Host.dotGeneral dot_S8x64x512_S512x1024_S8x64x1024_2_0_01_1_n_n none h (extf .f32 w bitsLt_bf16_f32)
def DU (h : XR) (w : FVec Ideal S1024x2816 .bf16) : FVec Ideal S8x64x2816 .f32 :=
  Host.dotGeneral dot_S8x64x1024_S1024x2816_S8x64x2816_2_0_01_1_n_n none h (extf .f32 w bitsLt_bf16_f32)
def DD (h : FVec Ideal S8x64x2816 .f32) (w : FVec Ideal S2816x1024 .bf16) : XR :=
  Host.dotGeneral dot_S8x64x2816_S2816x1024_S8x64x1024_2_0_01_1_n_n none h (extf .f32 w bitsLt_bf16_f32)

def LO (o : XH) : FVec Ideal S8x64x4x128 .f32 := extractStridedSlice S8x64x4x128 ![0, 0, 0, 0] o slices_S8x64x8x128_S8x64x4x128_0_0_0_0
def HI (o : XH) : FVec Ideal S8x64x4x128 .f32 := extractStridedSlice S8x64x4x128 ![0, 0, 4, 0] o slices_S8x64x8x128_S8x64x4x128_0_0_4_0
/-- Four heads of every row, each over the root of its shifted mean square, weighted, as one row. -/
def HN (x : FVec Ideal S8x64x4x128 .f32) (g : FVec Ideal S1x128 .f32) : FVec Ideal S8x64x512 .f32 := shapeCast S8x64x512 (mulf (mulf x (broadcastInDim S8x64x4x128 ![0, 1, 2, 3] bcast_S8x64x4x1_S8x64x4x128_0_1_2_3 (Host.rsqrt (addf (Host.divf (broadcastInDim S8x64x4x1 ![0, 1, 2] bcast_S8x64x4_S8x64x4x1_0_1_2 (Host.reduceAdd (mulf x x) (constant S_ .f32 0x00000000#32) reducesTo_S8x64x4x128_S8x64x4_d3 h_S_)) (broadcastInDim S8x64x4x1 ![] bcast_S_S8x64x4x1 (constant S_ .f32 0x43000000#32))) (broadcastInDim S8x64x4x1 ![] bcast_S_S8x64x4x1 (constant S_ .f32 0x358637BD#32)))))) (broadcastInDim S8x64x4x128 ![0, 1, 2, 3] bcast_S1x1x1x128_S8x64x4x128_0_1_2_3 (broadcastInDim S1x1x1x128 ![2, 3] bcast_S1x128_S1x1x1x128_2_3 g))) shapeCasts_S8x64x4x128_S8x64x512

/-- The two branches, merged. -/
def MRG (h : XR) (o : XH) (gh gl : FVec Ideal S1x128 .f32) (wh wl : FVec Ideal S1024x512 .bf16) (wm : FVec Ideal S1024x2048 .bf16)
    (bh bl : FVec Ideal S512x1024 .bf16) : XR := addf (mulf (SG1024 (extractStridedSlice S8x64x1024 ![0, 0, 0] (D2048 h wm) slices_S8x64x2048_S8x64x1024_0_0_0)) (DB (mulf (HN (LO o) gh) (mulf (D512 h wh) (SG512 (D512 h wh)))) bh)) (mulf (SG1024 (extractStridedSlice S8x64x1024 ![0, 0, 1024] (D2048 h wm) slices_S8x64x2048_S8x64x1024_0_0_1024)) (DB (mulf (HN (HI o) gl) (mulf (D512 h wl) (SG512 (D512 h wl)))) bl))
/-- The feed-forward's last product. -/
def FF (h : XR) (wg wu : FVec Ideal S1024x2816 .bf16) (wd : FVec Ideal S2816x1024 .bf16) : XR := DD (mulf (mulf (DU h wg) (SG2816 (DU h wg))) (DU h wu)) wd

/-- Chunk number `i 0` of an array of chunks. -/
def CH {φ : FTy} (i : Fin 4 → ℤ) (a : FVec Ideal S32x8x64x1024 φ) : FVec Ideal S8x64x1024 φ :=
  shapeCast S8x64x1024 (Host.dynamicSlice S1x8x64x1024 a i sliceFits_S32x8x64x1024_S1x8x64x1024) shapeCasts_S1x8x64x1024_S8x64x1024
def CHE (i : Fin 4 → ℤ) (el : FVec Ideal S32x8x1x1024 .f32) : FVec Ideal S8x1x1024 .f32 := (shapeCast S8x1x1024 (Host.dynamicSlice S1x8x1x1024 el i sliceFits_S32x8x1x1024_S1x8x1x1024) shapeCasts_S1x8x1x1024_S8x1x1024)
/-- Rows as rows of heads. -/
def HS (a : FVec Ideal S8x64x1024 .bf16) : XH := shapeCast S8x64x8x128 (extf .f32 a bitsLt_bf16_f32) shapeCasts_S8x64x1024_S8x64x8x128
/-- The mixer's output before its norm. -/
def OO (i : Fin 4 → ℤ) (oi qd : FVec Ideal S32x8x64x1024 .bf16) (s : FVec Ideal S8x8x128x128 .f32) : XH := addf (HS (CH i oi)) (transpose S8x64x8x128 [0, 3, 1, 2] (Host.dotGeneral dot_S8x8x128x128_S8x64x8x128_S8x8x128x64_3_3_2_1_01_02 none s (HS (CH i qd))) transposes_S8x8x128x64_S8x64x8x128_0_3_1_2)
/-- The next state. -/
def NS (i : Fin 4 → ℤ) (el : FVec Ideal S32x8x1x1024 .f32) (v kd : FVec Ideal S32x8x64x1024 .bf16) (s : FVec Ideal S8x8x128x128 .f32) : FVec Ideal S8x8x128x128 .f32 := addf (mulf s (broadcastInDim S8x8x128x128 ![0, 1, 2, 3] bcast_S8x8x1x128_S8x8x128x128_0_1_2_3 (shapeCast S8x8x1x128 (CHE i el) shapeCasts_S8x1x1024_S8x8x1x128))) (Host.dotGeneral dot_S8x64x8x128_S8x64x8x128_S8x8x128x128_1_1_3_3_02_02 none (HS (CH i v)) (HS (CH i kd)))

theorem NRM_at (x : XR) (b : Fin 8) (r : Fin 64) (j : Fin 1024) : NRM x (ix3 b r j) = x (ix3 b r j) * rs nRow (fun k => x (ix3 b r k)) := by
  pointwise [NRM, rs, zero_add]

theorem AFF1_at (x : XR) (w : FVec Ideal S1x1024 .f32) (md : XM) (b : Fin 8) (r : Fin 64) (j : Fin 1024) :
    AFF1 x w md (ix3 b r j) = modRow (fun k => x (ix3 b r k)) (fun k => w (ix2 0 k)) (part (fun k => md (ix3 b 0 k)) 1024 (by decide)) (part (fun k => md (ix3 b 0 k)) 0 (by decide)) j := by
  pointwise [AFF1, ROW, NRM_at, modRow, part]
theorem AFF2_at (x : XR) (w : FVec Ideal S1x1024 .f32) (md : XM) (b : Fin 8) (r : Fin 64) (j : Fin 1024) :
    AFF2 x w md (ix3 b r j) = modRow (fun k => x (ix3 b r k)) (fun k => w (ix2 0 k)) (part (fun k => md (ix3 b 0 k)) 4096 (by decide)) (part (fun k => md (ix3 b 0 k)) 3072 (by decide)) j := by
  pointwise [AFF2, ROW, NRM_at, modRow, part]
theorem RES1_at (x y : XR) (w : FVec Ideal S1x1024 .f32) (md : XM) (b : Fin 8) (r : Fin 64) (j : Fin 1024) :
    RES1 x y w md (ix3 b r j) = resRow (fun k => x (ix3 b r k)) (fun k => y (ix3 b r k)) (fun k => w (ix2 0 k)) (part (fun k => md (ix3 b 0 k)) 2048 (by decide)) j := by
  pointwise [RES1, ROW, NRM_at, resRow, part]
theorem RES2_at (x y : XR) (w : FVec Ideal S1x1024 .f32) (md : XM) (b : Fin 8) (r : Fin 64) (j : Fin 1024) :
    RES2 x y w md (ix3 b r j) = resRow (fun k => x (ix3 b r k)) (fun k => y (ix3 b r k)) (fun k => w (ix2 0 k)) (part (fun k => md (ix3 b 0 k)) 5120 (by decide)) j := by
  pointwise [RES2, ROW, NRM_at, resRow, part]

theorem SG1024_at (t : XR) (b : Fin 8) (r : Fin 64) (j : Fin 1024) : SG1024 t (ix3 b r j) = sg (t (ix3 b r j)) := by
  pointwise [SG1024, sg]
theorem SG512_at (t : FVec Ideal S8x64x512 .f32) (b : Fin 8) (r : Fin 64) (j : Fin 512) : SG512 t (ix3 b r j) = sg (t (ix3 b r j)) := by
  pointwise [SG512, sg]
theorem SG2816_at (t : FVec Ideal S8x64x2816 .f32) (b : Fin 8) (r : Fin 64) (j : Fin 2816) : SG2816 t (ix3 b r j) = sg (t (ix3 b r j)) := by
  pointwise [SG2816, sg]

theorem D512_at (h : XR) (w : FVec Ideal S1024x512 .bf16) (b : Fin 8) (r : Fin 64) (j : Fin 512) :
    D512 h w (ix3 b r j) = vm (fun k => h (ix3 b r k)) (fun k j => w (ix2 k j)) j := by
  pointwise [D512, vm, zero_add]
theorem D2048_at (h : XR) (w : FVec Ideal S1024x2048 .bf16) (b : Fin 8) (r : Fin 64) (j : Fin 2048) :
    D2048 h w (ix3 b r j) = vm (fun k => h (ix3 b r k)) (fun k j => w (ix2 k j)) j := by
  pointwise [D2048, vm, zero_add]
theorem DO_at (h : XR) (w : FVec Ideal S1024x1024 .bf16) (b : Fin 8) (r : Fin 64) (j : Fin 1024) :
    DO h w (ix3 b r j) = vm (fun k => h (ix3 b r k)) (fun k j => w (ix2 k j)) j := by
  pointwise [DO, vm, zero_add]
theorem DB_at (h : FVec Ideal S8x64x512 .f32) (w : FVec Ideal S512x1024 .bf16) (b : Fin 8) (r : Fin 64) (j : Fin 1024) :
    DB h w (ix3 b r j) = vm (fun k => h (ix3 b r k)) (fun k j => w (ix2 k j)) j := by
  pointwise [DB, vm, zero_add]
theorem DU_at (h : XR) (w : FVec Ideal S1024x2816 .bf16) (b : Fin 8) (r : Fin 64) (j : Fin 2816) :
    DU h w (ix3 b r j) = vm (fun k => h (ix3 b r k)) (fun k j => w (ix2 k j)) j := by
  pointwise [DU, vm, zero_add]
theorem DD_at (h : FVec Ideal S8x64x2816 .f32) (w : FVec Ideal S2816x1024 .bf16) (b : Fin 8) (r : Fin 64) (j : Fin 1024) :
    DD h w (ix3 b r j) = vm (fun k => h (ix3 b r k)) (fun k j => w (ix2 k j)) j := by
  pointwise [DD, vm, zero_add]

/-- A row of heads as one row. -/
def flat (o : XH) (b : Fin 8) (r : Fin 64) (k : Fin 1024) : EReal := o (ix4 b r ⟨k.val / 128, by omega⟩ ⟨k.val % 128, Nat.mod_lt _ (by decide)⟩)

theorem HN_lo (o : XH) (g : FVec Ideal S1x128 .f32) (b : Fin 8) (r : Fin 64) (j : Fin 512) :
    HN (LO o) g (ix3 b r j) = headRow (flat o b r) (fun k => g (ix2 0 k)) 0 (by decide) j := by
  pointwise [HN, LO, headRow, rs, flat, zero_add]
  have e : ∀ x : Fin 128, (j.val / 128 * 128 + x.val) / 128 = j.val / 128 := fun x => by omega
  have e' : ∀ x : Fin 128, (j.val / 128 * 128 + x.val) % 128 = x.val := fun x => by omega
  simp only [e, e', Fin.eta]
theorem HN_hi (o : XH) (g : FVec Ideal S1x128 .f32) (b : Fin 8) (r : Fin 64) (j : Fin 512) :
    HN (HI o) g (ix3 b r j) = headRow (flat o b r) (fun k => g (ix2 0 k)) 512 (by decide) j := by
  pointwise [HN, HI, headRow, rs, flat, zero_add]
  have e : ∀ x : Fin 128, (512 + j.val / 128 * 128 + x.val) / 128 = 4 + j.val / 128 := fun x => by omega
  have e' : ∀ x : Fin 128, (512 + j.val / 128 * 128 + x.val) % 128 = x.val := fun x => by omega
  have e1 : (512 + j.val) / 128 = 4 + j.val / 128 := by omega
  have e2 : (512 + j.val) % 128 = j.val % 128 := by omega
  simp only [e, e', e1, e2, Fin.eta]

theorem ix4_congr {n0 n1 n2 n3 : ℕ} {a a' : Fin n0} {b b' : Fin n1} {c c' : Fin n2} {d d' : Fin n3} (ha : a = a') (hb : b = b') (hc : c = c') (hd : d = d') :
    ix4 a b c d = ix4 a' b' c' d' := by rw [ha, hb, hc, hd]

theorem cs0 (n : Fin 32) : Host.clampedStart S32x8x64x1024 S1x8x64x1024 rfl ![(n.val : ℤ), 0, 0, 0] 0 = n.val := by
  revert n; decide
theorem cs1 (n : Fin 32) : Host.clampedStart S32x8x64x1024 S1x8x64x1024 rfl ![(n.val : ℤ), 0, 0, 0] 1 = 0 := by
  revert n; decide
theorem cs2 (n : Fin 32) : Host.clampedStart S32x8x64x1024 S1x8x64x1024 rfl ![(n.val : ℤ), 0, 0, 0] 2 = 0 := by
  revert n; decide
theorem cs3 (n : Fin 32) : Host.clampedStart S32x8x64x1024 S1x8x64x1024 rfl ![(n.val : ℤ), 0, 0, 0] 3 = 0 := by
  revert n; decide
theorem ce0 (n : Fin 32) : Host.clampedStart S32x8x1x1024 S1x8x1x1024 rfl ![(n.val : ℤ), 0, 0, 0] 0 = n.val := by
  revert n; decide
theorem ce1 (n : Fin 32) : Host.clampedStart S32x8x1x1024 S1x8x1x1024 rfl ![(n.val : ℤ), 0, 0, 0] 1 = 0 := by
  revert n; decide
theorem ce2 (n : Fin 32) : Host.clampedStart S32x8x1x1024 S1x8x1x1024 rfl ![(n.val : ℤ), 0, 0, 0] 2 = 0 := by
  revert n; decide
theorem ce3 (n : Fin 32) : Host.clampedStart S32x8x1x1024 S1x8x1x1024 rfl ![(n.val : ℤ), 0, 0, 0] 3 = 0 := by
  revert n; decide

theorem CH_at {φ : FTy} (n : Fin 32) (a : FVec Ideal S32x8x64x1024 φ) (b : Fin 8) (r : Fin 64) (k : Fin 1024) :
    CH ![(n.val : ℤ), 0, 0, 0] a (ix3 b r k) = a (ix4 n b r k) := by
  pointwise [CH]
  refine congrArg a (ix4_congr ?_ ?_ ?_ ?_) <;> apply Fin.ext <;> dsimp only
  · exact cs0 n
  · rw [cs1 n, zero_add]
  · rw [cs2 n, zero_add]
  · rw [cs3 n, zero_add]
theorem CHE_at (n : Fin 32) (a : FVec Ideal S32x8x1x1024 .f32) (b : Fin 8) (k : Fin 1024) :
    CHE ![(n.val : ℤ), 0, 0, 0] a (ix3 b 0 k) = a (ix4 n b 0 k) := by
  pointwise [CHE]
  refine congrArg a (ix4_congr ?_ ?_ ?_ ?_) <;> apply Fin.ext <;> dsimp only
  · exact ce0 n
  · rw [ce1 n, zero_add]
  · exact ce2 n
  · rw [ce3 n, zero_add]

theorem OO_at (n : Fin 32) (oi qd : FVec Ideal S32x8x64x1024 .bf16) (s : FVec Ideal S8x8x128x128 .f32) (b : Fin 8) (r : Fin 64) (k : Fin 1024) :
    flat (OO ![(n.val : ℤ), 0, 0, 0] oi qd s) b r k = oi (ix4 n b r k) + readS (fun k => qd (ix4 n b r k)) (fun u p q => s (ix4 b u p q)) k := by
  pointwise [OO, HS, flat, CH_at, readS, hd]
  exact congrArg _ (Finset.sum_congr rfl fun x _ => mul_comm _ _)

theorem NS_at (n : Fin 32) (el : FVec Ideal S32x8x1x1024 .f32) (v kd : FVec Ideal S32x8x64x1024 .bf16) (s : FVec Ideal S8x8x128x128 .f32) (b u : Fin 8) (p q : Fin 128) :
    NS ![(n.val : ℤ), 0, 0, 0] el v kd s (ix4 b u p q) = stepS (fun k => el (ix4 n b 0 k)) (fun r k => v (ix4 n b r k)) (fun r k => kd (ix4 n b r k)) (fun u p q => s (ix4 b u p q)) u p q := by
  pointwise [NS, HS, CH_at, CHE_at, stepS, hd]

theorem MRG_at (h : XR) (o : XH) (gh gl : FVec Ideal S1x128 .f32) (wh wl : FVec Ideal S1024x512 .bf16) (wm : FVec Ideal S1024x2048 .bf16)
    (bh bl : FVec Ideal S512x1024 .bf16) (w : Wts) (hgh : w.hgn = fun k => gh (ix2 0 k)) (hgl : w.gln = fun k => gl (ix2 0 k))
    (hwh : w.wgh = fun k j => wh (ix2 k j)) (hwl : w.wgg = fun k j => wl (ix2 k j)) (hwm : w.wgm = fun k j => wm (ix2 k j))
    (hbh : w.wbh = fun k j => bh (ix2 k j)) (hbl : w.wbg = fun k j => bl (ix2 k j)) (b : Fin 8) (r : Fin 64) (j : Fin 1024) :
    MRG h o gh gl wh wl wm bh bl (ix3 b r j) = gated w (fun k => h (ix3 b r k)) (flat o b r) j := by
  unfold gated
  rw [hgh, hgl, hwh, hwl, hwm, hbh, hbl]
  pointwise [MRG, DB_at, SG1024_at, D2048_at, HN_lo, HN_hi, D512_at, SG512_at, silu]

theorem FF_at (h : XR) (wg wu : FVec Ideal S1024x2816 .bf16) (wd : FVec Ideal S2816x1024 .bf16) (b : Fin 8) (r : Fin 64) (j : Fin 1024) :
    FF h wg wu wd (ix3 b r j) = vm (fun j => silu (vm (fun k => h (ix3 b r k)) (fun k j => wg (ix2 k j)) j) * vm (fun k => h (ix3 b r k)) (fun k j => wu (ix2 k j)) j) (fun k j => wd (ix2 k j)) j := by
  pointwise [FF, DD_at, DU_at, SG2816_at, silu]

/-- A chunk's rows put in its place. -/
def PUT (i : Fin 4 → ℤ) (a : FVec Ideal S32x8x64x1024 .f32) (y : XR) : FVec Ideal S32x8x64x1024 .f32 :=
  Host.dynamicUpdateSlice a (broadcastInDim S1x8x64x1024 ![1, 2, 3] bcast_S8x64x1024_S1x8x64x1024_1_2_3 y) i updateFits_S32x8x64x1024_S1x8x64x1024

theorem PUT_at (n i : Fin 32) (a : FVec Ideal S32x8x64x1024 .f32) (y : XR) (b : Fin 8) (r : Fin 64) (j : Fin 1024) :
    PUT ![(n.val : ℤ), 0, 0, 0] a y (ix4 i b r j) = if i = n then y (ix3 b r j) else a (ix4 i b r j) := by
  pointwise [PUT]
  simp only [cs0, cs1, cs2, cs3, Nat.zero_le, and_true, Nat.sub_zero, Fin.eta]
  by_cases h : i = n
  · subst h
    rw [dif_pos ⟨le_refl _, Nat.lt_succ_self _⟩, if_pos rfl]
  · rw [dif_neg fun h' => h (Fin.ext (by omega)), if_neg h]

/-- A chunk's rows of the result. -/
def OUT (x : XR) (o : XH) (md : XM) (gh gl : FVec Ideal S1x128 .f32) (p1 q1 p2 q2 : FVec Ideal S1x1024 .f32) (wh wl : FVec Ideal S1024x512 .bf16) (wm : FVec Ideal S1024x2048 .bf16)
    (bh bl : FVec Ideal S512x1024 .bf16) (wo : FVec Ideal S1024x1024 .bf16) (wg wu : FVec Ideal S1024x2816 .bf16) (wd : FVec Ideal S2816x1024 .bf16) : XR :=
  RES2 (RES1 x (DO (MRG (AFF1 x p1 md) o gh gl wh wl wm bh bl) wo) q1 md) (FF (AFF2 (RES1 x (DO (MRG (AFF1 x p1 md) o gh gl wh wl wm bh bl) wo) q1 md) p2 md) wg wu wd) q2 md

theorem OUT_at (x : XR) (o : XH) (md : XM) (gh gl : FVec Ideal S1x128 .f32) (p1 q1 p2 q2 : FVec Ideal S1x1024 .f32) (wh wl : FVec Ideal S1024x512 .bf16) (wm : FVec Ideal S1024x2048 .bf16)
    (bh bl : FVec Ideal S512x1024 .bf16) (wo : FVec Ideal S1024x1024 .bf16) (wg wu : FVec Ideal S1024x2816 .bf16) (wd : FVec Ideal S2816x1024 .bf16) (w : Wts) (b : Fin 8) (r : Fin 64)
    (hmd : w.md = fun k => md (ix3 b 0 k)) (hgh : w.hgn = fun k => gh (ix2 0 k)) (hgl : w.gln = fun k => gl (ix2 0 k))
    (hp1 : w.pre1 = fun k => p1 (ix2 0 k)) (hq1 : w.post1 = fun k => q1 (ix2 0 k)) (hp2 : w.pre2 = fun k => p2 (ix2 0 k)) (hq2 : w.post2 = fun k => q2 (ix2 0 k))
    (hwh : w.wgh = fun k j => wh (ix2 k j)) (hwl : w.wgg = fun k j => wl (ix2 k j)) (hwm : w.wgm = fun k j => wm (ix2 k j))
    (hbh : w.wbh = fun k j => bh (ix2 k j)) (hbl : w.wbg = fun k j => bl (ix2 k j)) (hwo : w.wo = fun k j => wo (ix2 k j))
    (hwg : w.wg = fun k j => wg (ix2 k j)) (hwu : w.wu = fun k j => wu (ix2 k j)) (hwd : w.wd = fun k j => wd (ix2 k j)) (j : Fin 1024) :
    OUT x o md gh gl p1 q1 p2 q2 wh wl wm bh bl wo wg wu wd (ix3 b r j) = rowOut w (fun k => x (ix3 b r k)) (flat o b r) j := by
  have e1 : (fun k => MRG (AFF1 x p1 md) o gh gl wh wl wm bh bl (ix3 b r k)) = gated w (modRow (fun k => x (ix3 b r k)) w.pre1 (part w.md 1024 (by decide)) (part w.md 0 (by decide))) (flat o b r) := by
    funext k
    rw [MRG_at _ _ _ _ _ _ _ _ _ w hgh hgl hwh hwl hwm hbh hbl, hp1, hmd]
    congr 1
    funext k
    exact AFF1_at x p1 md b r k
  have e2 : (fun k => RES1 x (DO (MRG (AFF1 x p1 md) o gh gl wh wl wm bh bl) wo) q1 md (ix3 b r k)) = mid w (fun k => x (ix3 b r k)) (flat o b r) := by
    funext k
    rw [RES1_at]
    unfold mid
    rw [← e1, hq1, hwo, hmd]
    congr 1
    funext k
    exact DO_at _ _ b r k
  have e3 : (fun k => AFF2 (RES1 x (DO (MRG (AFF1 x p1 md) o gh gl wh wl wm bh bl) wo) q1 md) p2 md (ix3 b r k))
      = modRow (mid w (fun k => x (ix3 b r k)) (flat o b r)) (fun k => p2 (ix2 0 k)) (part (fun k => md (ix3 b 0 k)) 4096 (by decide)) (part (fun k => md (ix3 b 0 k)) 3072 (by decide)) := by
    funext k
    rw [AFF2_at, e2]
  unfold OUT
  rw [RES2_at, e2]
  unfold rowOut ffn
  rw [hq2, hwd, hwg, hwu, hmd, hp2, ← e3]
  congr 1
  funext k
  exact FF_at _ _ _ _ b r k

end Cert.RefRows

end
-- ==== Proof.RefRun.lean ====
/- The reference's result, from its arrays at the start. -/
module

public import proofs.«01_k».proof.Proof.RefRows
public import proofs.«01_k».proof.Proof.Gen.ReferenceIdeal.Run

@[expose] public section

set_option maxRecDepth 16384
set_option maxHeartbeats 1000000

noncomputable section

namespace Cert.RefRun

open Idealize.ShloMosaic Idealize.ShloMosaic.TcCoe Idealize.ShloMosaic.StableHlo Cert.ReferenceIdeal Cert.ReferenceIdeal.Gen Cert.ReferenceIdeal.Value Cert.Spec Cert.RefRows

abbrev Vl := Valuation τ sig (Elt Ideal)

abbrev oiC (V : Vl) : FVec Ideal S32x8x64x1024 .bf16 := V (Proc.devRef .tc main_v13_0)
abbrev qdC (V : Vl) : FVec Ideal S32x8x64x1024 .bf16 := V (Proc.devRef .tc main_v13_1)
abbrev kdC (V : Vl) : FVec Ideal S32x8x64x1024 .bf16 := V (Proc.devRef .tc main_v13_2)
abbrev vC (V : Vl) : FVec Ideal S32x8x64x1024 .bf16 := V (Proc.devRef .tc main_v13_3)
abbrev xC (V : Vl) : FVec Ideal S32x8x64x1024 .f32 := V (Proc.devRef .tc main_v13_4)
abbrev elC (V : Vl) : FVec Ideal S32x8x1x1024 .f32 := V (Proc.devRef .tc main_v13_5)
abbrev mdC (V : Vl) : FVec Ideal S8x1x6144 .f32 := V (Proc.devRef .tc main_v13_6)
abbrev p1C (V : Vl) : FVec Ideal S1x1024 .f32 := V (Proc.devRef .tc main_v13_7)
abbrev ghC (V : Vl) : FVec Ideal S1x128 .f32 := V (Proc.devRef .tc main_v13_8)
abbrev whC (V : Vl) : FVec Ideal S1024x512 .bf16 := V (Proc.devRef .tc main_v13_9)
abbrev glC (V : Vl) : FVec Ideal S1x128 .f32 := V (Proc.devRef .tc main_v13_10)
abbrev wlC (V : Vl) : FVec Ideal S1024x512 .bf16 := V (Proc.devRef .tc main_v13_11)
abbrev wmC (V : Vl) : FVec Ideal S1024x2048 .bf16 := V (Proc.devRef .tc main_v13_12)
abbrev bhC (V : Vl) : FVec Ideal S512x1024 .bf16 := V (Proc.devRef .tc main_v13_13)
abbrev blC (V : Vl) : FVec Ideal S512x1024 .bf16 := V (Proc.devRef .tc main_v13_14)
abbrev woC (V : Vl) : FVec Ideal S1024x1024 .bf16 := V (Proc.devRef .tc main_v13_15)
abbrev q1C (V : Vl) : FVec Ideal S1x1024 .f32 := V (Proc.devRef .tc main_v13_16)
abbrev p2C (V : Vl) : FVec Ideal S1x1024 .f32 := V (Proc.devRef .tc main_v13_17)
abbrev wgC (V : Vl) : FVec Ideal S1024x2816 .bf16 := V (Proc.devRef .tc main_v13_18)
abbrev wuC (V : Vl) : FVec Ideal S1024x2816 .bf16 := V (Proc.devRef .tc main_v13_19)
abbrev wdC (V : Vl) : FVec Ideal S2816x1024 .bf16 := V (Proc.devRef .tc main_v13_20)
abbrev q2C (V : Vl) : FVec Ideal S1x1024 .f32 := V (Proc.devRef .tc main_v13_21)
abbrev sC (V : Vl) : FVec Ideal S8x8x128x128 .f32 := V (Proc.devRef .tc main_v13_23)
abbrev yC (V : Vl) : FVec Ideal S32x8x64x1024 .f32 := V (Proc.devRef .tc main_v13_24)

/-- Where a trip's chunk starts. -/
def start (V : Vl) : Fin 4 → ℤ :=
  fun k => (((![res_main_while0b_v17 V, constantI S_ 32 0#32, constantI S_ 32 0#32, constantI S_ 32 0#32] : Fin 4 → (⟨S_, .i32⟩ : BufTy).Contents (Elt Ideal))) k (Shape.Idx.first h_S_)).toInt

theorem word_eq (n : Fin 32) : ((32#32 - BitVec.ofNat 32 n.val) - 1#32 : BitVec 32).toInt = ((31 - n.val : ℕ) : ℤ) := by
  revert n; decide

theorem start_eq (V : Vl) (n : ℕ) (hn : n < 32) (h : V (Proc.devRef .tc main_v13_22) = fun _ => BitVec.ofNat 32 n) :
    start V = ![(((⟨31 - n, by omega⟩ : Fin 32).val : ℕ) : ℤ), 0, 0, 0] := by
  funext k
  unfold start res_main_while0b_v17
  rw [h]
  fin_cases k
  · exact word_eq ⟨n, hn⟩
  · rfl
  · rfl
  · rfl

theorem v22_eq (V : Vl) : res_main_while0b_v22 V = CH (start V) (xC V) := rfl
theorem v36_eq (V : Vl) : res_main_while0b_v36 V = OO (start V) (oiC V) (qdC V) (sC V) := rfl
theorem v55_eq (V : Vl) : res_main_while0b_v55 V = AFF1 (res_main_while0b_v22 V) (p1C V) (mdC V) := rfl
theorem v118_eq (V : Vl) : res_main_while0b_v118 V = DO (MRG (res_main_while0b_v55 V) (res_main_while0b_v36 V) (ghC V) (glC V) (whC V) (wlC V) (wmC V) (bhC V) (blC V)) (woC V) := rfl
theorem v134_eq (V : Vl) : res_main_while0b_v134 V = RES1 (res_main_while0b_v22 V) (res_main_while0b_v118 V) (q1C V) (mdC V) := rfl
theorem v153_eq (V : Vl) : res_main_while0b_v153 V = AFF2 (res_main_while0b_v134 V) (p2C V) (mdC V) := rfl
theorem v161_eq (V : Vl) : res_main_while0b_v161 V = FF (res_main_while0b_v153 V) (wgC V) (wuC V) (wdC V) := rfl
theorem step24_eq0 (V : Vl) : step_main_v13_24 V = PUT (start V) (yC V) (RES2 (res_main_while0b_v134 V) (res_main_while0b_v161 V) (q2C V) (mdC V)) := by
  unfold step_main_v13_24
  rw [id_eq]
  unfold PUT start RES2 NRM ROW
  rfl
theorem step23_eq (V : Vl) : step_main_v13_23 V = NS (start V) (elC V) (vC V) (kdC V) (sC V) := by
  unfold step_main_v13_23
  rw [id_eq]
  unfold NS HS CH CHE start
  rfl
theorem step24_eq (V : Vl) : step_main_v13_24 V = PUT (start V) (yC V)
    (OUT (CH (start V) (xC V)) (OO (start V) (oiC V) (qdC V) (sC V)) (mdC V) (ghC V) (glC V) (p1C V) (q1C V) (p2C V) (q2C V) (whC V) (wlC V) (wmC V) (bhC V) (blC V) (woC V) (wgC V) (wuC V) (wdC V)) := by
  unfold OUT
  rw [step24_eq0, v161_eq, v153_eq, v134_eq, v118_eq, v55_eq, v36_eq, v22_eq]

theorem iter_keep (V : Vl) (r : Ref sig .tc) (h22 : r ≠ main_v13_22) (h23 : r ≠ main_v13_23) (h24 : r ≠ main_v13_24) :
    ∀ n, (STEP^[n] V) (Proc.devRef .tc r) = V (Proc.devRef .tc r)
  | 0 => rfl
  | n + 1 => by
    rw [Function.iterate_succ_apply']
    unfold STEP
    rw [Function.update_of_ne (devRef_ne_of_ne h24), Function.update_of_ne (devRef_ne_of_ne h23), Function.update_of_ne (devRef_ne_of_ne h22)]
    exact iter_keep V r h22 h23 h24 n

theorem iter_ctr (V : Vl) (h : V (Proc.devRef .tc main_v13_22) = fun _ => BitVec.ofNat 32 0) :
    ∀ n, (STEP^[n] V) (Proc.devRef .tc main_v13_22) = fun _ => BitVec.ofNat 32 n
  | 0 => h
  | n + 1 => by
    rw [Function.iterate_succ_apply', STEP_main_v13_22]
    unfold step_main_v13_22
    rw [iter_ctr V h n]
    funext _
    show BitVec.ofNat 32 n + 1#32 = BitVec.ofNat 32 (n + 1)
    exact (BitVec.ofNat_add n 1).symm

/-- The arrays a valuation holds at the loop's entry. -/
def arr (V : Vl) : Arr where
  oi b R k := oiC V (ix4 ⟨R.val / 64, by omega⟩ b ⟨R.val % 64, Nat.mod_lt _ (by decide)⟩ k)
  qd b R k := qdC V (ix4 ⟨R.val / 64, by omega⟩ b ⟨R.val % 64, Nat.mod_lt _ (by decide)⟩ k)
  kd b R k := kdC V (ix4 ⟨R.val / 64, by omega⟩ b ⟨R.val % 64, Nat.mod_lt _ (by decide)⟩ k)
  v b R k := vC V (ix4 ⟨R.val / 64, by omega⟩ b ⟨R.val % 64, Nat.mod_lt _ (by decide)⟩ k)
  x b R k := xC V (ix4 ⟨R.val / 64, by omega⟩ b ⟨R.val % 64, Nat.mod_lt _ (by decide)⟩ k)
  el b i k := elC V (ix4 i b 0 k)
  s0 b u p q := sC V (ix4 b u p q)
  w b :=
    { md := fun k => mdC V (ix3 b 0 k), hgn := fun k => ghC V (ix2 0 k), gln := fun k => glC V (ix2 0 k),
      pre1 := fun k => p1C V (ix2 0 k), post1 := fun k => q1C V (ix2 0 k), pre2 := fun k => p2C V (ix2 0 k), post2 := fun k => q2C V (ix2 0 k),
      wgh := fun k j => whC V (ix2 k j), wgg := fun k j => wlC V (ix2 k j), wgm := fun k j => wmC V (ix2 k j),
      wbh := fun k j => bhC V (ix2 k j), wbg := fun k j => blC V (ix2 k j), wo := fun k j => woC V (ix2 k j),
      wg := fun k j => wgC V (ix2 k j), wu := fun k j => wuC V (ix2 k j), wd := fun k j => wdC V (ix2 k j) }

theorem at_chunk {φ : FTy} (a : FVec Ideal S32x8x64x1024 φ) (b : Fin 8) (i : Fin 32) (r : Fin 64) (k : Fin 1024) (R : Fin 2048) (hR : R.val = i.val * 64 + r.val) :
    a (ix4 ⟨R.val / 64, by omega⟩ b ⟨R.val % 64, Nat.mod_lt _ (by decide)⟩ k) = a (ix4 i b r k) :=
  congrArg a (ix4_congr (Fin.ext (by dsimp only; omega)) rfl (Fin.ext (by dsimp only; omega)) rfl)

theorem state (V : Vl) (h : V (Proc.devRef .tc main_v13_22) = fun _ => BitVec.ofNat 32 0) (n : ℕ) : n ≤ 32 →
    ∀ (b u : Fin 8) (p q : Fin 128), sC (STEP^[n] V) (ix4 b u p q) = (arr V).S b n u p q := by
  induction n with
  | zero => exact fun _ _ _ _ _ => rfl
  | succ n ih =>
    intro hn b u p q
    have e : sC (STEP^[n + 1] V) = NS (start (STEP^[n] V)) (elC (STEP^[n] V)) (vC (STEP^[n] V)) (kdC (STEP^[n] V)) (sC (STEP^[n] V)) := by
      show (STEP^[n + 1] V) (Proc.devRef .tc main_v13_23) = _
      rw [Function.iterate_succ_apply', STEP_main_v13_23]
      exact step23_eq _
    rw [e, start_eq _ n (by omega) (iter_ctr V h n), NS_at]
    have k5 : elC (STEP^[n] V) = elC V := iter_keep V _ (by decide) (by decide) (by decide) n
    have k3 : vC (STEP^[n] V) = vC V := iter_keep V _ (by decide) (by decide) (by decide) n
    have k2 : kdC (STEP^[n] V) = kdC V := iter_keep V _ (by decide) (by decide) (by decide) n
    rw [k5, k3, k2]
    have hs : (fun u p q => sC (STEP^[n] V) (ix4 b u p q)) = (arr V).S b n := by
      funext u p q
      exact ih (by omega) b u p q
    rw [hs]
    show _ = (arr V).f b n ((arr V).S b n) u p q
    unfold Arr.f
    have hv : (fun r k => vC V (ix4 ⟨31 - n, by omega⟩ b r k)) = fun (r : Fin 64) k => (arr V).v b ⟨(31 - n) * 64 + r.val, by omega⟩ k := by
      funext r k
      exact (at_chunk (vC V) b ⟨31 - n, by omega⟩ r k ⟨(31 - n) * 64 + r.val, by omega⟩ rfl).symm
    have hk : (fun r k => kdC V (ix4 ⟨31 - n, by omega⟩ b r k)) = fun (r : Fin 64) k => (arr V).kd b ⟨(31 - n) * 64 + r.val, by omega⟩ k := by
      funext r k
      exact (at_chunk (kdC V) b ⟨31 - n, by omega⟩ r k ⟨(31 - n) * 64 + r.val, by omega⟩ rfl).symm
    rw [hv, hk]
    rfl

theorem row_eq (V : Vl) (h : V (Proc.devRef .tc main_v13_22) = fun _ => BitVec.ofNat 32 0) (n : ℕ) (hn : n < 32) (i : Fin 32) (hi : i.val = 31 - n)
    (b : Fin 8) (r : Fin 64) (j : Fin 1024) (R : Fin 2048) (hR : R.val = i.val * 64 + r.val) (W : Vl) (hW : W = STEP^[n] V) :
    OUT (CH (start W) (xC W)) (OO (start W) (oiC W) (qdC W) (sC W)) (mdC W) (ghC W) (glC W) (p1C W) (q1C W) (p2C W) (q2C W) (whC W) (wlC W) (wmC W) (bhC W) (blC W) (woC W) (wgC W) (wuC W) (wdC W)
      (ix3 b r j) = (arr V).out b R j := by
  have hst : start W = ![(i.val : ℤ), 0, 0, 0] := by
    rw [hW, start_eq _ n hn (iter_ctr V h n), hi]
  have keep : ∀ (ρ : Ref sig .tc), ρ ≠ main_v13_22 → ρ ≠ main_v13_23 → ρ ≠ main_v13_24 → W (Proc.devRef .tc ρ) = V (Proc.devRef .tc ρ) := by
    intro ρ h1 h2 h3
    rw [hW]
    exact iter_keep V ρ h1 h2 h3 n
  have hx : xC W = xC V := keep _ (by decide) (by decide) (by decide)
  have ho : oiC W = oiC V := keep _ (by decide) (by decide) (by decide)
  have hq : qdC W = qdC V := keep _ (by decide) (by decide) (by decide)
  refine (OUT_at _ _ _ _ _ _ _ _ _ _ _ _ _ _ _ _ _ _ ((arr W).w b) b r rfl rfl rfl rfl rfl rfl rfl rfl rfl rfl rfl rfl rfl rfl rfl rfl j).trans ?_
  have hw : (arr W).w = (arr V).w := by
    unfold arr mdC ghC glC p1C q1C p2C q2C whC wlC wmC bhC blC woC wgC wuC wdC
    rw [keep main_v13_6 (by decide) (by decide) (by decide), keep main_v13_7 (by decide) (by decide) (by decide), keep main_v13_8 (by decide) (by decide) (by decide),
      keep main_v13_9 (by decide) (by decide) (by decide), keep main_v13_10 (by decide) (by decide) (by decide), keep main_v13_11 (by decide) (by decide) (by decide),
      keep main_v13_12 (by decide) (by decide) (by decide), keep main_v13_13 (by decide) (by decide) (by decide), keep main_v13_14 (by decide) (by decide) (by decide),
      keep main_v13_15 (by decide) (by decide) (by decide), keep main_v13_16 (by decide) (by decide) (by decide), keep main_v13_17 (by decide) (by decide) (by decide),
      keep main_v13_18 (by decide) (by decide) (by decide), keep main_v13_19 (by decide) (by decide) (by decide), keep main_v13_20 (by decide) (by decide) (by decide),
      keep main_v13_21 (by decide) (by decide) (by decide)]
  rw [hw, hst, hx, ho, hq]
  unfold Arr.out
  have e1 : (fun k => CH ![(i.val : ℤ), 0, 0, 0] (xC V) (ix3 b r k)) = (arr V).x b R := by
    funext k
    rw [CH_at]
    exact (at_chunk (xC V) b i r k R hR).symm
  have e2 : flat (OO ![(i.val : ℤ), 0, 0, 0] (oiC V) (qdC V) (sC W)) b r = fun k => (arr V).oi b R k + readS ((arr V).qd b R) ((arr V).S b (31 - R.val / 64)) k := by
    funext k
    rw [OO_at]
    have hs : (fun u p q => sC W (ix4 b u p q)) = (arr V).S b (31 - R.val / 64) := by
      funext u p q
      rw [show 31 - R.val / 64 = n by omega, hW]
      exact state V h n hn.le b u p q
    have hqq : (fun k => qdC V (ix4 i b r k)) = (arr V).qd b R := by
      funext k
      exact (at_chunk (qdC V) b i r k R hR).symm
    rw [hs, hqq]
    exact congrArg (· + _) (at_chunk (oiC V) b i r k R hR).symm
  rw [e1, e2]

theorem rows (V : Vl) (h : V (Proc.devRef .tc main_v13_22) = fun _ => BitVec.ofNat 32 0) (n : ℕ) : n ≤ 32 →
    ∀ (i : Fin 32), 32 - n ≤ i.val → ∀ (b : Fin 8) (r : Fin 64) (j : Fin 1024) (R : Fin 2048), R.val = i.val * 64 + r.val →
      yC (STEP^[n] V) (ix4 i b r j) = (arr V).out b R j := by
  induction n with
  | zero => exact fun _ i hi => absurd i.isLt (by omega)
  | succ n ih =>
    intro hn i hi b r j R hR
    have e : yC (STEP^[n + 1] V) = step_main_v13_24 (STEP^[n] V) := by
      show (STEP^[n + 1] V) (Proc.devRef .tc main_v13_24) = _
      rw [Function.iterate_succ_apply', STEP_main_v13_24]
    rw [e, step24_eq]
    have hst := start_eq _ n (by omega) (iter_ctr V h n)
    by_cases hin : i.val = 31 - n
    · have hrow := row_eq V h n (by omega) i hin b r j R hR _ rfl
      rw [← hrow]
      generalize OUT _ _ _ _ _ _ _ _ _ _ _ _ _ _ _ _ _ _ = Y
      rw [hst, PUT_at, if_pos (Fin.ext hin)]
    · generalize OUT _ _ _ _ _ _ _ _ _ _ _ _ _ _ _ _ _ _ = Y
      rw [hst, PUT_at, if_neg fun h' => hin (congrArg Fin.val h')]
      exact ih (by omega) i (by omega) b r j R hR

theorem out_eq (V : Vl) (h : V (Proc.devRef .tc main_v13_22) = fun _ => BitVec.ofNat 32 0) (b : Fin 8) (R : Fin 2048) (j : Fin 1024) :
    (out_main_v15 (STEP^[32] V) : FVec Ideal S8x2048x1024 .f32) (ix3 b R j) = (arr V).out b R j := by
  have e : (out_main_v15 (STEP^[32] V) : FVec Ideal S8x2048x1024 .f32) (ix3 b R j) = yC (STEP^[32] V) (ix4 ⟨R.val / 64, by omega⟩ b ⟨R.val % 64, Nat.mod_lt _ (by decide)⟩ j) := by
    generalize STEP^[32] V = W
    pointwise [out_main_v15]
  rw [e]
  exact rows V h 32 le_rfl _ (Nat.zero_le _) b _ j R (by dsimp only; omega)

end Cert.RefRun

end
-- ==== Proof.Entry.lean ====
/- What the reference's loop starts from. -/
module

public import proofs.«01_k».proof.Proof.RefRun

@[expose] public section

set_option maxRecDepth 16384
set_option maxHeartbeats 1000000

noncomputable section

namespace Cert.Entry

open Idealize.ShloMosaic Idealize.ShloMosaic.TcCoe Idealize.ShloMosaic.Tactic Idealize.ShloMosaic.StableHlo
open Cert.ReferenceIdeal Cert.ReferenceIdeal.Gen Cert.ReferenceIdeal.Value Cert.Spec Cert.RefRun

variable (m : (ℓ : Loc nD τ sig) → Buf (Elt Ideal) ℓ) (c : Dev nD)

theorem chunks_at {φ : FTy} (X : FVec Ideal S8x2048x1024 φ) (b : Fin 8) (R : Fin 2048) (k : Fin 1024) :
    transpose S32x8x64x1024 [1, 0, 2, 3] (shapeCast S8x32x64x1024 X shapeCasts_S8x2048x1024_S8x32x64x1024) transposes_S8x32x64x1024_S32x8x64x1024_1_0_2_3
      (ix4 ⟨R.val / 64, by omega⟩ b ⟨R.val % 64, Nat.mod_lt _ (by decide)⟩ k) = X (ix3 b R k) := by
  pointwise

theorem decays_at (X : FVec Ideal S8x32x1x1024 .f32) (b : Fin 8) (i : Fin 32) (k : Fin 1024) :
    transpose S32x8x1x1024 [1, 0, 2, 3] X transposes_S8x32x1x1024_S32x8x1x1024_1_0_2_3 (ix4 i b 0 k) = X (ix4 b i 0 k) := by
  pointwise

theorem mods_at (X : FVec Ideal S16x1x6144 .f32) (b : Fin 8) (k : Fin 6144) :
    extractStridedSlice S8x1x6144 ![1, 0, 0] X slices_S16x1x6144_S8x1x6144_1_0_0 (ix3 b 0 k) = X (ix3 ⟨b.val + 1, by omega⟩ 0 k) := by
  pointwise
  have e : 1 + b.val = b.val + 1 := Nat.add_comm _ _
  simp only [e]

theorem oiC_at (b : Fin 8) (R : Fin 2048) (k : Fin 1024) : oiC (entryContents preI m c) (ix4 ⟨R.val / 64, by omega⟩ b ⟨R.val % 64, Nat.mod_lt _ (by decide)⟩ k)
    = (m ((c.tc : Thread nD τ).loc main_arg0) : FVec Ideal S8x2048x1024 .bf16) (ix3 b R k) := by
  have e : oiC (entryContents preI m c) = (transpose S32x8x64x1024 [1, 0, 2, 3] (shapeCast S8x32x64x1024 (m ((c.tc : Thread nD τ).loc main_arg0) : FVec Ideal S8x2048x1024 .bf16) shapeCasts_S8x2048x1024_S8x32x64x1024) transposes_S8x32x64x1024_S32x8x64x1024_1_0_2_3 : FVec Ideal S32x8x64x1024 .bf16) := by
    simp only [entryContents, afterL_cons, afterL_nil]
    after_reads_simp
    rw [id_eq]
    refine congrArg (fun X : FVec Ideal S8x32x64x1024 .bf16 => transpose S32x8x64x1024 [1, 0, 2, 3] X transposes_S8x32x64x1024_S32x8x64x1024_1_0_2_3) ?_
    funext i
    rfl
  exact (congrFun e _).trans (chunks_at _ b R k)

theorem qdC_at (b : Fin 8) (R : Fin 2048) (k : Fin 1024) : qdC (entryContents preI m c) (ix4 ⟨R.val / 64, by omega⟩ b ⟨R.val % 64, Nat.mod_lt _ (by decide)⟩ k)
    = (m ((c.tc : Thread nD τ).loc main_arg1) : FVec Ideal S8x2048x1024 .bf16) (ix3 b R k) := by
  have e : qdC (entryContents preI m c) = (transpose S32x8x64x1024 [1, 0, 2, 3] (shapeCast S8x32x64x1024 (m ((c.tc : Thread nD τ).loc main_arg1) : FVec Ideal S8x2048x1024 .bf16) shapeCasts_S8x2048x1024_S8x32x64x1024) transposes_S8x32x64x1024_S32x8x64x1024_1_0_2_3 : FVec Ideal S32x8x64x1024 .bf16) := by
    simp only [entryContents, afterL_cons, afterL_nil]
    after_reads_simp
    rw [id_eq]
    refine congrArg (fun X : FVec Ideal S8x32x64x1024 .bf16 => transpose S32x8x64x1024 [1, 0, 2, 3] X transposes_S8x32x64x1024_S32x8x64x1024_1_0_2_3) ?_
    funext i
    rfl
  exact (congrFun e _).trans (chunks_at _ b R k)

theorem kdC_at (b : Fin 8) (R : Fin 2048) (k : Fin 1024) : kdC (entryContents preI m c) (ix4 ⟨R.val / 64, by omega⟩ b ⟨R.val % 64, Nat.mod_lt _ (by decide)⟩ k)
    = (m ((c.tc : Thread nD τ).loc main_arg2) : FVec Ideal S8x2048x1024 .bf16) (ix3 b R k) := by
  have e : kdC (entryContents preI m c) = (transpose S32x8x64x1024 [1, 0, 2, 3] (shapeCast S8x32x64x1024 (m ((c.tc : Thread nD τ).loc main_arg2) : FVec Ideal S8x2048x1024 .bf16) shapeCasts_S8x2048x1024_S8x32x64x1024) transposes_S8x32x64x1024_S32x8x64x1024_1_0_2_3 : FVec Ideal S32x8x64x1024 .bf16) := by
    simp only [entryContents, afterL_cons, afterL_nil]
    after_reads_simp
    rw [id_eq]
    refine congrArg (fun X : FVec Ideal S8x32x64x1024 .bf16 => transpose S32x8x64x1024 [1, 0, 2, 3] X transposes_S8x32x64x1024_S32x8x64x1024_1_0_2_3) ?_
    funext i
    rfl
  exact (congrFun e _).trans (chunks_at _ b R k)

theorem vC_at (b : Fin 8) (R : Fin 2048) (k : Fin 1024) : vC (entryContents preI m c) (ix4 ⟨R.val / 64, by omega⟩ b ⟨R.val % 64, Nat.mod_lt _ (by decide)⟩ k)
    = (m ((c.tc : Thread nD τ).loc main_arg3) : FVec Ideal S8x2048x1024 .bf16) (ix3 b R k) := by
  have e : vC (entryContents preI m c) = (transpose S32x8x64x1024 [1, 0, 2, 3] (shapeCast S8x32x64x1024 (m ((c.tc : Thread nD τ).loc main_arg3) : FVec Ideal S8x2048x1024 .bf16) shapeCasts_S8x2048x1024_S8x32x64x1024) transposes_S8x32x64x1024_S32x8x64x1024_1_0_2_3 : FVec Ideal S32x8x64x1024 .bf16) := by
    simp only [entryContents, afterL_cons, afterL_nil]
    after_reads_simp
    rw [id_eq]
    refine congrArg (fun X : FVec Ideal S8x32x64x1024 .bf16 => transpose S32x8x64x1024 [1, 0, 2, 3] X transposes_S8x32x64x1024_S32x8x64x1024_1_0_2_3) ?_
    funext i
    rfl
  exact (congrFun e _).trans (chunks_at _ b R k)

theorem xC_at (b : Fin 8) (R : Fin 2048) (k : Fin 1024) : xC (entryContents preI m c) (ix4 ⟨R.val / 64, by omega⟩ b ⟨R.val % 64, Nat.mod_lt _ (by decide)⟩ k)
    = (m ((c.tc : Thread nD τ).loc main_arg6) : FVec Ideal S8x2048x1024 .f32) (ix3 b R k) := by
  have e : xC (entryContents preI m c) = (transpose S32x8x64x1024 [1, 0, 2, 3] (shapeCast S8x32x64x1024 (m ((c.tc : Thread nD τ).loc main_arg6) : FVec Ideal S8x2048x1024 .f32) shapeCasts_S8x2048x1024_S8x32x64x1024) transposes_S8x32x64x1024_S32x8x64x1024_1_0_2_3 : FVec Ideal S32x8x64x1024 .f32) := by
    simp only [entryContents, afterL_cons, afterL_nil]
    after_reads_simp
    rw [id_eq]
    refine congrArg (fun X : FVec Ideal S8x32x64x1024 .f32 => transpose S32x8x64x1024 [1, 0, 2, 3] X transposes_S8x32x64x1024_S32x8x64x1024_1_0_2_3) ?_
    funext i
    rfl
  exact (congrFun e _).trans (chunks_at _ b R k)

theorem elC_at (b : Fin 8) (i : Fin 32) (k : Fin 1024) : elC (entryContents preI m c) (ix4 i b 0 k) = (m ((c.tc : Thread nD τ).loc main_arg4) : FVec Ideal S8x32x1x1024 .f32) (ix4 b i 0 k) := by
  have e : elC (entryContents preI m c) = (transpose S32x8x1x1024 [1, 0, 2, 3] (m ((c.tc : Thread nD τ).loc main_arg4) : FVec Ideal S8x32x1x1024 .f32) transposes_S8x32x1x1024_S32x8x1x1024_1_0_2_3 : FVec Ideal S32x8x1x1024 .f32) := by
    simp only [entryContents, afterL_cons, afterL_nil]
    after_reads_simp
    rfl
  exact (congrFun e _).trans (decays_at _ b i k)

theorem mdC_at (b : Fin 8) (k : Fin 6144) : mdC (entryContents preI m c) (ix3 b 0 k) = (m ((c.tc : Thread nD τ).loc main_arg7) : FVec Ideal S16x1x6144 .f32) (ix3 ⟨b.val + 1, by omega⟩ 0 k) := by
  have e : mdC (entryContents preI m c) = (extractStridedSlice S8x1x6144 ![1, 0, 0] (m ((c.tc : Thread nD τ).loc main_arg7) : FVec Ideal S16x1x6144 .f32) slices_S16x1x6144_S8x1x6144_1_0_0 : FVec Ideal S8x1x6144 .f32) := by
    simp only [entryContents, afterL_cons, afterL_nil]
    after_reads_simp
    rfl
  exact (congrFun e _).trans (mods_at _ b k)

theorem p1C_eq : p1C (entryContents preI m c) = m ((c.tc : Thread nD τ).loc main_arg10) := by
  simp only [entryContents, afterL_cons, afterL_nil]
  after_reads_simp
  rfl

theorem ghC_eq : ghC (entryContents preI m c) = m ((c.tc : Thread nD τ).loc main_arg8) := by
  simp only [entryContents, afterL_cons, afterL_nil]
  after_reads_simp
  rfl

theorem whC_eq : whC (entryContents preI m c) = m ((c.tc : Thread nD τ).loc main_arg14) := by
  simp only [entryContents, afterL_cons, afterL_nil]
  after_reads_simp
  rfl

theorem glC_eq : glC (entryContents preI m c) = m ((c.tc : Thread nD τ).loc main_arg9) := by
  simp only [entryContents, afterL_cons, afterL_nil]
  after_reads_simp
  rfl

theorem wlC_eq : wlC (entryContents preI m c) = m ((c.tc : Thread nD τ).loc main_arg15) := by
  simp only [entryContents, afterL_cons, afterL_nil]
  after_reads_simp
  rfl

theorem wmC_eq : wmC (entryContents preI m c) = m ((c.tc : Thread nD τ).loc main_arg16) := by
  simp only [entryContents, afterL_cons, afterL_nil]
  after_reads_simp
  rfl

theorem bhC_eq : bhC (entryContents preI m c) = m ((c.tc : Thread nD τ).loc main_arg17) := by
  simp only [entryContents, afterL_cons, afterL_nil]
  after_reads_simp
  rfl

theorem blC_eq : blC (entryContents preI m c) = m ((c.tc : Thread nD τ).loc main_arg18) := by
  simp only [entryContents, afterL_cons, afterL_nil]
  after_reads_simp
  rfl

theorem woC_eq : woC (entryContents preI m c) = m ((c.tc : Thread nD τ).loc main_arg19) := by
  simp only [entryContents, afterL_cons, afterL_nil]
  after_reads_simp
  rfl

theorem q1C_eq : q1C (entryContents preI m c) = m ((c.tc : Thread nD τ).loc main_arg11) := by
  simp only [entryContents, afterL_cons, afterL_nil]
  after_reads_simp
  rfl

theorem p2C_eq : p2C (entryContents preI m c) = m ((c.tc : Thread nD τ).loc main_arg12) := by
  simp only [entryContents, afterL_cons, afterL_nil]
  after_reads_simp
  rfl

theorem wgC_eq : wgC (entryContents preI m c) = m ((c.tc : Thread nD τ).loc main_arg20) := by
  simp only [entryContents, afterL_cons, afterL_nil]
  after_reads_simp
  rfl

theorem wuC_eq : wuC (entryContents preI m c) = m ((c.tc : Thread nD τ).loc main_arg21) := by
  simp only [entryContents, afterL_cons, afterL_nil]
  after_reads_simp
  rfl

theorem wdC_eq : wdC (entryContents preI m c) = m ((c.tc : Thread nD τ).loc main_arg22) := by
  simp only [entryContents, afterL_cons, afterL_nil]
  after_reads_simp
  rfl

theorem q2C_eq : q2C (entryContents preI m c) = m ((c.tc : Thread nD τ).loc main_arg13) := by
  simp only [entryContents, afterL_cons, afterL_nil]
  after_reads_simp
  rfl

theorem sC_eq : sC (entryContents preI m c) = m ((c.tc : Thread nD τ).loc main_arg5) := by
  simp only [entryContents, afterL_cons, afterL_nil]
  after_reads_simp
  rfl

end Cert.Entry

end
-- ==== Proof.Chain.lean ====
/- The recurrence inside one grid point, as the kernel writes it: eight chunks by eight heads, each a store of one
   head's state over the stores before it. -/
module

public import proofs.«01_k».proof.Proof.Spec
public import proofs.«01_k».proof.Proof.Gen.KernelIdeal.Skeleton
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Chain

open Idealize.ShloMosaic Cert.KernelIdeal Cert.KernelIdeal.Gen Cert.Spec

/-! ## One head's update and one head's read -/

def UPD (s : Vec Ideal S1x128x128 .f32) (e : FVec Ideal S1x128 .f32) (v kd : Vec Ideal S1x64x128 .bf16) : Vec Ideal S1x128x128 .f32 :=
  shapeCast S1x128x128 (addf (mulf (shapeCast S128x128 s shapeCasts_S1x128x128_S128x128) (broadcastTo S128x128 e broadcasts_S1x128_S128x128))
    (matmul dot_S64x128_S64x128_S128x128_0_0_1_1_n_n none (shapeCast S64x128 v shapeCasts_S1x64x128_S64x128 : FVec Ideal S64x128 .bf16)
      (shapeCast S64x128 kd shapeCasts_S1x64x128_S64x128 : FVec Ideal S64x128 .bf16) (constant S128x128 .f32 0x00000000#32))) shapeCasts_S128x128_S1x128x128

def HEAD (q : Vec Ideal S1x64x128 .bf16) (s : Vec Ideal S1x128x128 .f32) : FVec Ideal S64x128 .f32 :=
  matmul dot_S64x128_S128x128_S64x128_1_1_0_0_n_n none (shapeCast S64x128 q shapeCasts_S1x64x128_S64x128 : FVec Ideal S64x128 .bf16)
    (truncf .bf16 (shapeCast S128x128 s shapeCasts_S1x128x128_S128x128) bitsLt_bf16_f32) (constant S64x128 .f32 0x00000000#32)

theorem UPD_at (s : Vec Ideal S1x128x128 .f32) (e : FVec Ideal S1x128 .f32) (v kd : Vec Ideal S1x64x128 .bf16) (a b : Fin 128) :
    UPD s e v kd (ix3 0 a b) = s (ix3 0 a b) * e (ix2 0 b) + ∑ r : Fin 64, v (ix3 0 r a) * kd (ix3 0 r b) := by
  pointwise [UPD, zero_add]

theorem HEAD_at (q : Vec Ideal S1x64x128 .bf16) (s : Vec Ideal S1x128x128 .f32) (r : Fin 64) (a : Fin 128) :
    HEAD q s (ix2 r a) = ∑ k : Fin 128, q (ix3 0 r k) * s (ix3 0 a k) := by
  pointwise [HEAD, zero_add]

/-- One head of a state, as the block the kernel stores. -/
def stV (S : St) (u : Fin 8) : Vec Ideal S1x128x128 .f32 := fun i => S u (i 1) (i 2)

theorem upd_eq (s : Vec Ideal S1x128x128 .f32) (e : FVec Ideal S1x128 .f32) (v kd : Vec Ideal S1x64x128 .bf16) (S : St) (u : Fin 8)
    (ef : Fin 1024 → EReal) (vf kf : Fin 64 → Fin 1024 → EReal) (hs : s = stV S u) (he : ∀ b, e (ix2 0 b) = ef (hd u b))
    (hv : ∀ r a, v (ix3 0 r a) = vf r (hd u a)) (hk : ∀ r a, kd (ix3 0 r a) = kf r (hd u a)) :
    UPD s e v kd = stV (stepS ef vf kf S) u := by
  funext i
  idx_vars i
  have h0 : (i0 : Fin 1) = 0 := Subsingleton.elim _ _
  subst h0
  rw [UPD_at, hs]
  simp only [he, hv, hk]
  rfl

/-! ## Reads of the stores -/

theorem inb_row (u : Fin 8) : ∀ a, (![u.val, 0, 0] : Fin 3 → ℕ) a + S1x128x128.size a ≤ S8x128x128.size a := by
  intro a
  fin_cases a
  · have := u.isLt
    show u.val + 1 ≤ 8
    omega
  · exact (by decide : 0 + 128 ≤ 128)
  · exact (by decide : 0 + 128 ≤ 128)

/-- The rows of head `u` in the scratch. -/
abbrev row (u : Fin 8) : Rect S8x128x128 := Rect.unit ![u.val, 0, 0] S1x128x128.size (inb_row u)

variable {sg' : RefSig} {κ : Kind} {sp : Space}

/-- What the stores leave in each head's rows. -/
def Good (v : View sg' κ sp S8x128x128 .f32) (L : List (View.Piece (Elt Ideal) S8x128x128 .f32)) (G : Fin 8 → Vec Ideal S1x128x128 .f32) : Prop :=
  ∀ u : Fin 8, v.readCov L (row u).toLoadRect = G u

/-- `H` at the heads below `n`, `G` at the others. -/
def mix (G H : Fin 8 → Vec Ideal S1x128x128 .f32) (n : ℕ) (w : Fin 8) : Vec Ideal S1x128x128 .f32 := if w.val < n then H w else G w

theorem Good.head {v : View sg' κ sp S8x128x128 .f32} {L : List (View.Piece (Elt Ideal) S8x128x128 .f32)} {G H : Fin 8 → Vec Ideal S1x128x128 .f32} {u : Fin 8}
    (h : Good v L (mix G H u.val)) : v.readCov L (row u).toLoadRect = G u := (h u).trans (if_neg (Nat.lt_irrefl _))

theorem rows_disj : ∀ u w : Fin 8, w ≠ u → LoadRect.disj (row u) (row w).toLoadRect = true := by
  decide +kernel

theorem good_step (v : View sg' κ sp S8x128x128 .f32) (L : List (View.Piece (Elt Ideal) S8x128x128 .f32)) (G H : Fin 8 → Vec Ideal S1x128x128 .f32) (u : Fin 8)
    (h : Good v L (mix G H u.val)) (p : Vec Ideal S1x128x128 .f32) (hp : p = H u) :
    Good v ((⟨row u, p⟩ : View.Piece (Elt Ideal) S8x128x128 .f32) :: L) (mix G H (u.val + 1)) := by
  intro w
  by_cases hw : w = u
  · subst hw
    refine (View.readCov_cons_toLoadRect v (row w) p L).trans (hp.trans (if_pos (Nat.lt_succ_self _)).symm)
  · refine (View.readCov_skip v (row u) p L (row w).toLoadRect (rows_disj u w hw)).trans ((h w).trans ?_)
    have : w.val ≠ u.val := fun e => hw (Fin.ext e)
    unfold mix
    by_cases h1 : w.val < u.val
    · rw [if_pos h1, if_pos (by omega)]
    · rw [if_neg h1, if_neg (by omega)]

theorem good_turn {v : View sg' κ sp S8x128x128 .f32} {L : List (View.Piece (Elt Ideal) S8x128x128 .f32)} {G H K : Fin 8 → Vec Ideal S1x128x128 .f32}
    (h : Good v L (mix G H 8)) : Good v L (mix H K 0) := fun w => (h w).trans ((if_pos w.isLt).trans (if_neg (Nat.not_lt_zero _)).symm)

theorem good_all {v : View sg' κ sp S8x128x128 .f32} {L : List (View.Piece (Elt Ideal) S8x128x128 .f32)} {G H : Fin 8 → Vec Ideal S1x128x128 .f32}
    (h : Good v L (mix G H 8)) (u : Fin 8) (a b : Fin 128) : View.canon L (ix3 u a b) = H u (ix3 0 a b) := by
  have h1 := congrFun ((h u).trans (if_pos u.isLt)) (ix3 0 a b)
  rw [View.readCov_eq_canon'] at h1
  change View.ld (View.canon L) (Rect.unit ![u.val, 0, 0] S1x128x128.size (inb_row u)) (ix3 0 a b) = _ at h1
  pointwise at h1
  rw [← h1]

/-! ## The blocks the grid point reads -/

variable {arg3 arg4 arg5 : Memref sg' κ sp S1x512x1024 .bf16} {arg6 : Memref sg' κ sp S1x8x1x1024 .f32} {arg26 : Memref sg' κ sp S8x128x128 .f32}

theorem inb_blk (m u : Fin 8) : ∀ a, (![0, m.val * 64, u.val * 128] : Fin 3 → ℕ) a + S1x64x128.size a ≤ S1x512x1024.size a := by
  intro a
  have := u.isLt
  have := m.isLt
  fin_cases a
  · exact (by decide : 0 + 1 ≤ 1)
  · show m.val * 64 + 64 ≤ 512
    omega
  · show u.val * 128 + 128 ≤ 1024
    omega

/-- Where chunk `m` of head `u` lies in a block of rows. -/
abbrev blkR (m u : Fin 8) : Rect S1x512x1024 := Rect.unit ![0, m.val * 64, u.val * 128] S1x64x128.size (inb_blk m u)

/-- Chunk `m` of head `u`, loaded from a block of rows. -/
abbrev BLK (h : arg5.IsWhole) (x : Vec Ideal S1x512x1024 .bf16) (m u : Fin 8) : Vec Ideal S1x64x128 .bf16 :=
  View.readAt (Elt Ideal) arg5.view (blkR m u).toLoadRect (h.unread x)

theorem BLK_at (h : arg5.IsWhole) (x : Vec Ideal S1x512x1024 .bf16) (m u : Fin 8) (r : Fin 64) (a : Fin 128) :
    BLK h x m u (ix3 0 r a) = x (ix3 0 ⟨m.val * 64 + r.val, by omega⟩ (hd u a)) := by
  show View.ld (View.read (Elt Ideal) arg5.view (h.unread x)) (Rect.unit ![0, m.val * 64, u.val * 128] S1x64x128.size (inb_blk m u)) (ix3 0 r a) = _
  rw [h.read_unread]
  pointwise

theorem inb_el (m : Fin 8) : ∀ a, (![0, m.val, 0, 0] : Fin 4 → ℕ) a + S1x1x1x1024.size a ≤ S1x8x1x1024.size a := by
  intro a
  have := m.isLt
  fin_cases a
  · exact (by decide : 0 + 1 ≤ 1)
  · show m.val + 1 ≤ 8
    omega
  · exact (by decide : 0 + 1 ≤ 1)
  · exact (by decide : 0 + 1024 ≤ 1024)

abbrev elR (m : Fin 8) : Rect S1x8x1x1024 := Rect.unit ![0, m.val, 0, 0] S1x1x1x1024.size (inb_el m)

theorem inb_sl : ∀ u : Fin 8, S1x1024.Slices ![0, u.val * 128] S1x128 := by
  decide

abbrev EL (h : arg6.IsWhole) (x : Vec Ideal S1x8x1x1024 .f32) (m u : Fin 8) : FVec Ideal S1x128 .f32 :=
  extractStridedSlice S1x128 ![0, u.val * 128] (shapeCast S1x1024 (View.readAt (Elt Ideal) arg6.view (elR m).toLoadRect (h.unread x)) shapeCasts_S1x1x1x1024_S1x1024) (inb_sl u)

theorem EL_at (h : arg6.IsWhole) (x : Vec Ideal S1x8x1x1024 .f32) (m u : Fin 8) (b : Fin 128) :
    EL h x m u (ix2 0 b) = x (ix4 0 m 0 (hd u b)) := by
  pointwise [EL]
  show View.ld (View.read (Elt Ideal) arg6.view (h.unread x)) (Rect.unit ![0, m.val, 0, 0] S1x1x1x1024.size (inb_el m)) (ix4 0 0 0 (hd u b)) = _
  rw [h.read_unread]
  pointwise

/-! ## The recurrence over the chunks of a grid point -/

/-- The step of a grid point's chunk `7 - n`. -/
def fL (x2 x3 : Vec Ideal S1x512x1024 .bf16) (x4 : Vec Ideal S1x8x1x1024 .f32) (n : ℕ) : St → St :=
  stepS (fun k => x4 (ix4 0 ⟨7 - n, by omega⟩ 0 k)) (fun r k => x3 (ix3 0 ⟨(7 - n) * 64 + r.val, by omega⟩ k))
    (fun r k => x2 (ix3 0 ⟨(7 - n) * 64 + r.val, by omega⟩ k))

/-- The chunk that step `n` takes. -/
abbrev ch (n : ℕ) : Fin 8 := ⟨7 - n, by omega⟩

theorem upd_next (h4 : arg4.IsWhole) (h5 : arg5.IsWhole) (h6 : arg6.IsWhole) (x2 x3 : Vec Ideal S1x512x1024 .bf16) (x4 : Vec Ideal S1x8x1x1024 .f32)
    (n : ℕ) (u : Fin 8) (S : St) (s : Vec Ideal S1x128x128 .f32) (hs : s = stV S u) :
    UPD s (EL h6 x4 (ch n) u) (BLK h5 x3 (ch n) u) (BLK h4 x2 (ch n) u) = stV (fL x2 x3 x4 n S) u :=
  upd_eq _ _ _ _ S u _ _ _ hs (fun b => EL_at h6 x4 (ch n) u b) (fun r a => BLK_at h5 x3 (ch n) u r a) (fun r a => BLK_at h4 x2 (ch n) u r a)

theorem good_upd (h4 : arg4.IsWhole) (h5 : arg5.IsWhole) (h6 : arg6.IsWhole) (x2 x3 : Vec Ideal S1x512x1024 .bf16) (x4 : Vec Ideal S1x8x1x1024 .f32)
    (n : ℕ) (u : Fin 8) (S : St) {v : View sg' κ sp S8x128x128 .f32} {L : List (View.Piece (Elt Ideal) S8x128x128 .f32)}
    (h : Good v L (mix (stV S) (stV (fL x2 x3 x4 n S)) u.val)) :
    Good v ((⟨row u, UPD (v.readCov L (row u).toLoadRect) (EL h6 x4 (ch n) u) (BLK h5 x3 (ch n) u) (BLK h4 x2 (ch n) u)⟩ : View.Piece (Elt Ideal) S8x128x128 .f32) :: L)
      (mix (stV S) (stV (fL x2 x3 x4 n S)) (u.val + 1)) :=
  good_step v L _ _ u h _ (upd_next h4 h5 h6 x2 x3 x4 n u S _ h.head)

theorem good_upd0 (h4 : arg4.IsWhole) (h5 : arg5.IsWhole) (h6 : arg6.IsWhole) (x2 x3 : Vec Ideal S1x512x1024 .bf16) (x4 : Vec Ideal S1x8x1x1024 .f32)
    (n : ℕ) (u : Fin 8) (S : St) {v : View sg' κ sp S8x128x128 .f32} {L : List (View.Piece (Elt Ideal) S8x128x128 .f32)} {G : Fin 8 → Vec Ideal S1x128x128 .f32}
    (s : Vec Ideal S1x128x128 .f32) (hs : s = stV S u) (h : Good v L (mix G (stV (fL x2 x3 x4 n S)) u.val)) :
    Good v ((⟨row u, UPD s (EL h6 x4 (ch n) u) (BLK h5 x3 (ch n) u) (BLK h4 x2 (ch n) u)⟩ : View.Piece (Elt Ideal) S8x128x128 .f32) :: L)
      (mix G (stV (fL x2 x3 x4 n S)) (u.val + 1)) :=
  good_step v L _ _ u h _ (upd_next h4 h5 h6 x2 x3 x4 n u S s hs)

theorem good_nil (v : View sg' κ sp S8x128x128 .f32) (H : Fin 8 → Vec Ideal S1x128x128 .f32) :
    Good v [] (mix (fun w => v.readCov [] (row w).toLoadRect) H 0) := fun _ => (if_neg (Nat.not_lt_zero _)).symm

/-- What the scratch holds of a state. -/
def s0B (xs : Vec Ideal S8x128x128 .f32) : St := fun u a b => xs (ix3 u a b)
def s0A (x5 : Vec Ideal S1x8x128x128 .f32) : St := fun u a b => x5 (ix4 0 u a b)

/-- One head's rows, loaded from the scratch as it was found. -/
abbrev RD (h : arg26.IsWhole) (xs : Vec Ideal S8x128x128 .f32) (u : Fin 8) : Vec Ideal S1x128x128 .f32 :=
  View.readAt (Elt Ideal) arg26.view (row u).toLoadRect (h.unread xs)

theorem RD_eq (h : arg26.IsWhole) (xs : Vec Ideal S8x128x128 .f32) (u : Fin 8) : RD h xs u = stV (s0B xs) u := by
  funext i
  idx_vars i
  show View.ld (View.read (Elt Ideal) arg26.view (h.unread xs)) (Rect.unit ![u.val, 0, 0] S1x128x128.size (inb_row u)) (ix3 i0 i1 i2) = _
  rw [h.read_unread]
  have h0 : (i0 : Fin 1) = 0 := Subsingleton.elim _ _
  subst h0
  pointwise
  rfl

variable {arg7 : Memref sg' κ sp S1x8x128x128 .f32}

/-- The state loaded whole into the scratch. -/
theorem good_load (h7 : arg7.IsWhole) (x5 : Vec Ideal S1x8x128x128 .f32) (v : View sg' κ sp S8x128x128 .f32) (H : Fin 8 → Vec Ideal S1x128x128 .f32)
    (inb : ∀ a, (![0, 0, 0] : Fin 3 → ℕ) a + S8x128x128.size a ≤ S8x128x128.size a)
    (inb7 : ∀ a, (![0, 0, 0, 0] : Fin 4 → ℕ) a + S1x8x128x128.size a ≤ S1x8x128x128.size a) :
    Good v [(⟨(Rect.unit ![0, 0, 0] S8x128x128.size inb : Rect S8x128x128), k0_pay10 (View.readAt (Elt Ideal) arg7.view (Rect.unit ![0, 0, 0, 0] S1x8x128x128.size inb7 : Rect S1x8x128x128).toLoadRect (h7.unread x5))⟩ : View.Piece (Elt Ideal) S8x128x128 .f32)]
      (mix (stV (s0A x5)) H 0) := by
  intro u
  refine Eq.trans ?_ (if_neg (Nat.not_lt_zero _)).symm
  refine (View.readCov_fill (s := S8x128x128) v inb _ [] (row u) (by decide)).trans ?_
  funext i
  idx_vars i
  have h0 : (i0 : Fin 1) = 0 := Subsingleton.elim _ _
  subst h0
  change View.ld (Val := Elt Ideal) (S := S8x128x128) (e' := .f32) (k0_pay10 (F := Ideal) _) (Rect.unit ![u.val, 0, 0] S1x128x128.size (inb_row u)) (ix3 0 i1 i2) = _
  pointwise [k0_pay10]
  show View.ld (View.read (Elt Ideal) arg7.view (h7.unread x5)) (Rect.unit ![0, 0, 0, 0] S1x8x128x128.size inb7) _ = _
  rw [h7.read_unread]
  pointwise
  rfl

/-! ## What a chunk's rows read of the state -/

def CAT (h3 : arg3.IsWhole) (x1 : Vec Ideal S1x512x1024 .bf16) (m : Fin 8) (s0 s1 s2 s3 s4 s5 s6 s7 : Vec Ideal S1x128x128 .f32) : FVec Ideal S64x1024 .f32 :=
  concatenate S64x1024 1 [⟨S64x128, HEAD (BLK h3 x1 m 0) s0⟩, ⟨S64x128, HEAD (BLK h3 x1 m 1) s1⟩, ⟨S64x128, HEAD (BLK h3 x1 m 2) s2⟩, ⟨S64x128, HEAD (BLK h3 x1 m 3) s3⟩,
    ⟨S64x128, HEAD (BLK h3 x1 m 4) s4⟩, ⟨S64x128, HEAD (BLK h3 x1 m 5) s5⟩, ⟨S64x128, HEAD (BLK h3 x1 m 6) s6⟩, ⟨S64x128, HEAD (BLK h3 x1 m 7) s7⟩]
    concatenates_S64x128_S64x128_S64x128_S64x128_S64x128_S64x128_S64x128_S64x128_S64x1024_d1

theorem readS_at (q : Fin 1024 → EReal) (S : St) (j : Fin 1024) (u : Fin 8) (hu : u.val * 128 ≤ j.val) (hu' : j.val < u.val * 128 + 128)
    (a : Fin 128) (ha : a.val = j.val - u.val * 128) : ∑ k : Fin 128, q (hd u k) * S u a k = readS q S j := by
  have hd' : j.val / 128 = u.val := by omega
  have h1 : u = ⟨j.val / 128, by omega⟩ := Fin.ext hd'.symm
  have h2 : a = ⟨j.val % 128, Nat.mod_lt _ (by decide)⟩ := Fin.ext (by dsimp only; omega)
  unfold readS
  rw [← h1, ← h2]

theorem HEAD_eq (h3 : arg3.IsWhole) (x1 : Vec Ideal S1x512x1024 .bf16) (m u : Fin 8) (S : St) (s : Vec Ideal S1x128x128 .f32) (hs : s = stV S u) (r : Fin 64)
    (j : Fin 1024) (hu : u.val * 128 ≤ j.val) (hu' : j.val < u.val * 128 + 128) (a : Fin 128) (ha : a.val = j.val - u.val * 128) :
    HEAD (BLK h3 x1 m u) s (ix2 r a) = readS (fun k => x1 (ix3 0 ⟨m.val * 64 + r.val, by omega⟩ k)) S j := by
  rw [HEAD_at, hs, ← readS_at _ S j u hu hu' a ha]
  exact Finset.sum_congr rfl fun k _ => congrArg (· * _) (BLK_at h3 x1 m u r k)

theorem CAT_at (h3 : arg3.IsWhole) (x1 : Vec Ideal S1x512x1024 .bf16) (m : Fin 8) (S : St) {s0 s1 s2 s3 s4 s5 s6 s7 : Vec Ideal S1x128x128 .f32}
    (e0 : s0 = stV S 0) (e1 : s1 = stV S 1) (e2 : s2 = stV S 2) (e3 : s3 = stV S 3) (e4 : s4 = stV S 4) (e5 : s5 = stV S 5) (e6 : s6 = stV S 6) (e7 : s7 = stV S 7)
    (r : Fin 64) (j : Fin 1024) :
    CAT h3 x1 m s0 s1 s2 s3 s4 s5 s6 s7 (ix2 r j) = readS (fun k => x1 (ix3 0 ⟨m.val * 64 + r.val, by omega⟩ k)) S j := by
  pointwise [CAT, Nat.sub_sub, Nat.reduceAdd]
  by_cases g0 : j.val < 128
  · rw [dif_pos g0]
    exact HEAD_eq h3 x1 m 0 S _ e0 r j (show 0 * 128 ≤ j.val by omega) (show j.val < 0 * 128 + 128 by omega) ⟨j.val, by omega⟩ (show j.val = j.val - 0 * 128 by omega)
  by_cases g1 : j.val - 128 < 128
  · rw [dif_neg g0, dif_pos g1]
    exact HEAD_eq h3 x1 m 1 S _ e1 r j (show 1 * 128 ≤ j.val by omega) (show j.val < 1 * 128 + 128 by omega) ⟨j.val - 128, by omega⟩ (show j.val - 128 = j.val - 1 * 128 by omega)
  by_cases g2 : j.val - 256 < 128
  · rw [dif_neg g0, dif_neg g1, dif_pos g2]
    exact HEAD_eq h3 x1 m 2 S _ e2 r j (show 2 * 128 ≤ j.val by omega) (show j.val < 2 * 128 + 128 by omega) ⟨j.val - 256, by omega⟩ (show j.val - 256 = j.val - 2 * 128 by omega)
  by_cases g3 : j.val - 384 < 128
  · rw [dif_neg g0, dif_neg g1, dif_neg g2, dif_pos g3]
    exact HEAD_eq h3 x1 m 3 S _ e3 r j (show 3 * 128 ≤ j.val by omega) (show j.val < 3 * 128 + 128 by omega) ⟨j.val - 384, by omega⟩ (show j.val - 384 = j.val - 3 * 128 by omega)
  by_cases g4 : j.val - 512 < 128
  · rw [dif_neg g0, dif_neg g1, dif_neg g2, dif_neg g3, dif_pos g4]
    exact HEAD_eq h3 x1 m 4 S _ e4 r j (show 4 * 128 ≤ j.val by omega) (show j.val < 4 * 128 + 128 by omega) ⟨j.val - 512, by omega⟩ (show j.val - 512 = j.val - 4 * 128 by omega)
  by_cases g5 : j.val - 640 < 128
  · rw [dif_neg g0, dif_neg g1, dif_neg g2, dif_neg g3, dif_neg g4, dif_pos g5]
    exact HEAD_eq h3 x1 m 5 S _ e5 r j (show 5 * 128 ≤ j.val by omega) (show j.val < 5 * 128 + 128 by omega) ⟨j.val - 640, by omega⟩ (show j.val - 640 = j.val - 5 * 128 by omega)
  by_cases g6 : j.val - 768 < 128
  · rw [dif_neg g0, dif_neg g1, dif_neg g2, dif_neg g3, dif_neg g4, dif_neg g5, dif_pos g6]
    exact HEAD_eq h3 x1 m 6 S _ e6 r j (show 6 * 128 ≤ j.val by omega) (show j.val < 6 * 128 + 128 by omega) ⟨j.val - 768, by omega⟩ (show j.val - 768 = j.val - 6 * 128 by omega)
  · rw [dif_neg g0, dif_neg g1, dif_neg g2, dif_neg g3, dif_neg g4, dif_neg g5, dif_neg g6]
    exact HEAD_eq h3 x1 m 7 S _ e7 r j (show 7 * 128 ≤ j.val by omega) (show j.val < 7 * 128 + 128 by omega) ⟨j.val - 896, by omega⟩ (show j.val - 896 = j.val - 7 * 128 by omega)

def CATR (c0 c1 c2 c3 : FVec Ideal S64x1024 .f32) : FVec Ideal S256x1024 .f32 :=
  concatenate S256x1024 0 [⟨S64x1024, c0⟩, ⟨S64x1024, c1⟩, ⟨S64x1024, c2⟩, ⟨S64x1024, c3⟩] concatenates_S64x1024_S64x1024_S64x1024_S64x1024_S256x1024_d0

/-- What row `R` of a grid point reads of the states `S`, step by step. -/
def OB (x1 : Vec Ideal S1x512x1024 .bf16) (S : ℕ → St) (R : Fin 512) (j : Fin 1024) : EReal :=
  readS (fun k => x1 (ix3 0 R k)) (S (7 - R.val / 64)) j

theorem OB_at (x1 : Vec Ideal S1x512x1024 .bf16) (S : ℕ → St) (m : ℕ) (hm : m < 8) (r : Fin 64) (R : Fin 512) (hR : R.val = m * 64 + r.val) (j : Fin 1024) :
    readS (fun k => x1 (ix3 0 ⟨m * 64 + r.val, by omega⟩ k)) (S (7 - m)) j = OB x1 S R j := by
  have h2 : R.val / 64 = m := by omega
  unfold OB
  rw [h2]
  obtain ⟨R, hR'⟩ := R
  dsimp only at hR
  subst hR
  rfl

theorem CATR_at (x1 : Vec Ideal S1x512x1024 .bf16) (S : ℕ → St) (b : ℕ) (hb : b ≤ 4) {c0 c1 c2 c3 : FVec Ideal S64x1024 .f32}
    (h0 : ∀ r j, c0 (ix2 r j) = readS (fun k => x1 (ix3 0 ⟨(b + 0) * 64 + r.val, by omega⟩ k)) (S (7 - (b + 0))) j)
    (h1 : ∀ r j, c1 (ix2 r j) = readS (fun k => x1 (ix3 0 ⟨(b + 1) * 64 + r.val, by omega⟩ k)) (S (7 - (b + 1))) j)
    (h2 : ∀ r j, c2 (ix2 r j) = readS (fun k => x1 (ix3 0 ⟨(b + 2) * 64 + r.val, by omega⟩ k)) (S (7 - (b + 2))) j)
    (h3 : ∀ r j, c3 (ix2 r j) = readS (fun k => x1 (ix3 0 ⟨(b + 3) * 64 + r.val, by omega⟩ k)) (S (7 - (b + 3))) j)
    (r : Fin 256) (j : Fin 1024) : CATR c0 c1 c2 c3 (ix2 r j) = OB x1 S ⟨b * 64 + r.val, by omega⟩ j := by
  pointwise [CATR, Nat.sub_sub, Nat.reduceAdd]
  by_cases g1 : r.val < 64
  · rw [dif_pos g1, h0]
    exact OB_at x1 S (b + 0) (by omega) _ _ (by dsimp only <;> omega) j
  by_cases g2 : r.val - 64 < 64
  · rw [dif_neg g1, dif_pos g2, h1]
    exact OB_at x1 S (b + 1) (by omega) _ _ (by dsimp only <;> omega) j
  by_cases g3 : r.val - 128 < 64
  · rw [dif_neg g1, dif_neg g2, dif_pos g3, h2]
    exact OB_at x1 S (b + 2) (by omega) _ _ (by dsimp only <;> omega) j
  · rw [dif_neg g1, dif_neg g2, dif_neg g3, h3]
    exact OB_at x1 S (b + 3) (by omega) _ _ (by dsimp only <;> omega) j

end Cert.Chain

end
-- ==== Proof.StepsA.lean ====
/- The states a grid point's chunks go through (a batch opens: the state is loaded first), and what their rows
   read. -/
module

public import proofs.«01_k».proof.Proof.Chain
public import proofs.«01_k».proof.Proof.Gen.KernelIdeal.Value
import all proofs.«01_k».proof.Proof.Gen.KernelIdeal.Frame.RunA

@[expose] public section

set_option maxRecDepth 16384
set_option maxHeartbeats 4000000

noncomputable section

namespace Cert.StepsA

open Idealize.ShloMosaic Idealize.ShloMosaic.TcCoe Cert.KernelIdeal Cert.KernelIdeal.Gen Cert.Spec Cert.Chain

variable (c : Dev nD) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg7 : Memref sig .tc .vmem S1x8x128x128 .f32) (harg7 : arg7.IsWhole) (arg26 : Memref sig .tc .vmem S8x128x128 .f32) (x1 : Vec Ideal S1x512x1024 .bf16) (x2 : Vec Ideal S1x512x1024 .bf16) (x3 : Vec Ideal S1x512x1024 .bf16) (x4 : Vec Ideal S1x8x1x1024 .f32) (x5 : Vec Ideal S1x8x128x128 .f32)

theorem g0 : Good arg26.view (kernelRun0_A.sl.HS0_1 c arg7 harg7 x5) (mix (stV (s0A x5)) (stV (iterS (fL x2 x3 x4) (s0A x5) 1)) 0) :=
  good_load harg7 x5 arg26.view _ _ _

theorem g1 : Good arg26.view (kernelRun0_A.sl.HS0_2 c arg4 harg4 arg5 harg5 arg6 harg6 arg7 harg7 arg26 x2 x3 x4 x5) (mix (stV (s0A x5)) (stV (iterS (fL x2 x3 x4) (s0A x5) 1)) 1) :=
  good_upd harg4 harg5 harg6 x2 x3 x4 0 0 (s0A x5) (g0 c arg7 harg7 arg26 x2 x3 x4 x5)

theorem g2 : Good arg26.view (kernelRun0_A.sl.HS0_3 c arg4 harg4 arg5 harg5 arg6 harg6 arg7 harg7 arg26 x2 x3 x4 x5) (mix (stV (s0A x5)) (stV (iterS (fL x2 x3 x4) (s0A x5) 1)) 2) :=
  good_upd harg4 harg5 harg6 x2 x3 x4 0 1 (s0A x5) (g1 c arg4 harg4 arg5 harg5 arg6 harg6 arg7 harg7 arg26 x2 x3 x4 x5)

theorem g3 : Good arg26.view (kernelRun0_A.sl.HS0_4 c arg4 harg4 arg5 harg5 arg6 harg6 arg7 harg7 arg26 x2 x3 x4 x5) (mix (stV (s0A x5)) (stV (iterS (fL x2 x3 x4) (s0A x5) 1)) 3) :=
  good_upd harg4 harg5 harg6 x2 x3 x4 0 2 (s0A x5) (g2 c arg4 harg4 arg5 harg5 arg6 harg6 arg7 harg7 arg26 x2 x3 x4 x5)

theorem g4 : Good arg26.view (kernelRun0_A.sl.HS0_5 c arg4 harg4 arg5 harg5 arg6 harg6 arg7 harg7 arg26 x2 x3 x4 x5) (mix (stV (s0A x5)) (stV (iterS (fL x2 x3 x4) (s0A x5) 1)) 4) :=
  good_upd harg4 harg5 harg6 x2 x3 x4 0 3 (s0A x5) (g3 c arg4 harg4 arg5 harg5 arg6 harg6 arg7 harg7 arg26 x2 x3 x4 x5)

theorem g5 : Good arg26.view (kernelRun0_A.sl.HS0_6 c arg4 harg4 arg5 harg5 arg6 harg6 arg7 harg7 arg26 x2 x3 x4 x5) (mix (stV (s0A x5)) (stV (iterS (fL x2 x3 x4) (s0A x5) 1)) 5) :=
  good_upd harg4 harg5 harg6 x2 x3 x4 0 4 (s0A x5) (g4 c arg4 harg4 arg5 harg5 arg6 harg6 arg7 harg7 arg26 x2 x3 x4 x5)

theorem g6 : Good arg26.view (kernelRun0_A.sl.HS0_7 c arg4 harg4 arg5 harg5 arg6 harg6 arg7 harg7 arg26 x2 x3 x4 x5) (mix (stV (s0A x5)) (stV (iterS (fL x2 x3 x4) (s0A x5) 1)) 6) :=
  good_upd harg4 harg5 harg6 x2 x3 x4 0 5 (s0A x5) (g5 c arg4 harg4 arg5 harg5 arg6 harg6 arg7 harg7 arg26 x2 x3 x4 x5)

theorem g7 : Good arg26.view (kernelRun0_A.sl.HS0_8 c arg4 harg4 arg5 harg5 arg6 harg6 arg7 harg7 arg26 x2 x3 x4 x5) (mix (stV (s0A x5)) (stV (iterS (fL x2 x3 x4) (s0A x5) 1)) 7) :=
  good_upd harg4 harg5 harg6 x2 x3 x4 0 6 (s0A x5) (g6 c arg4 harg4 arg5 harg5 arg6 harg6 arg7 harg7 arg26 x2 x3 x4 x5)

theorem g8 : Good arg26.view (kernelRun0_A.sl.HS0_9 c arg4 harg4 arg5 harg5 arg6 harg6 arg7 harg7 arg26 x2 x3 x4 x5) (mix (stV (s0A x5)) (stV (iterS (fL x2 x3 x4) (s0A x5) 1)) 8) :=
  good_upd harg4 harg5 harg6 x2 x3 x4 0 7 (s0A x5) (g7 c arg4 harg4 arg5 harg5 arg6 harg6 arg7 harg7 arg26 x2 x3 x4 x5)

theorem g9 : Good arg26.view (kernelRun0_A.sl.HS0_10 c arg4 harg4 arg5 harg5 arg6 harg6 arg7 harg7 arg26 x2 x3 x4 x5) (mix (stV (iterS (fL x2 x3 x4) (s0A x5) 1)) (stV (iterS (fL x2 x3 x4) (s0A x5) 2)) 1) :=
  good_upd harg4 harg5 harg6 x2 x3 x4 1 0 (iterS (fL x2 x3 x4) (s0A x5) 1) (good_turn (g8 c arg4 harg4 arg5 harg5 arg6 harg6 arg7 harg7 arg26 x2 x3 x4 x5))

theorem g10 : Good arg26.view (kernelRun0_A.sl.HS0_11 c arg4 harg4 arg5 harg5 arg6 harg6 arg7 harg7 arg26 x2 x3 x4 x5) (mix (stV (iterS (fL x2 x3 x4) (s0A x5) 1)) (stV (iterS (fL x2 x3 x4) (s0A x5) 2)) 2) :=
  good_upd harg4 harg5 harg6 x2 x3 x4 1 1 (iterS (fL x2 x3 x4) (s0A x5) 1) (g9 c arg4 harg4 arg5 harg5 arg6 harg6 arg7 harg7 arg26 x2 x3 x4 x5)

theorem g11 : Good arg26.view (kernelRun0_A.sl.HS0_12 c arg4 harg4 arg5 harg5 arg6 harg6 arg7 harg7 arg26 x2 x3 x4 x5) (mix (stV (iterS (fL x2 x3 x4) (s0A x5) 1)) (stV (iterS (fL x2 x3 x4) (s0A x5) 2)) 3) :=
  good_upd harg4 harg5 harg6 x2 x3 x4 1 2 (iterS (fL x2 x3 x4) (s0A x5) 1) (g10 c arg4 harg4 arg5 harg5 arg6 harg6 arg7 harg7 arg26 x2 x3 x4 x5)

theorem g12 : Good arg26.view (kernelRun0_A.sl.HS0_13 c arg4 harg4 arg5 harg5 arg6 harg6 arg7 harg7 arg26 x2 x3 x4 x5) (mix (stV (iterS (fL x2 x3 x4) (s0A x5) 1)) (stV (iterS (fL x2 x3 x4) (s0A x5) 2)) 4) :=
  good_upd harg4 harg5 harg6 x2 x3 x4 1 3 (iterS (fL x2 x3 x4) (s0A x5) 1) (g11 c arg4 harg4 arg5 harg5 arg6 harg6 arg7 harg7 arg26 x2 x3 x4 x5)

theorem g13 : Good arg26.view (kernelRun0_A.sl.HS0_14 c arg4 harg4 arg5 harg5 arg6 harg6 arg7 harg7 arg26 x2 x3 x4 x5) (mix (stV (iterS (fL x2 x3 x4) (s0A x5) 1)) (stV (iterS (fL x2 x3 x4) (s0A x5) 2)) 5) :=
  good_upd harg4 harg5 harg6 x2 x3 x4 1 4 (iterS (fL x2 x3 x4) (s0A x5) 1) (g12 c arg4 harg4 arg5 harg5 arg6 harg6 arg7 harg7 arg26 x2 x3 x4 x5)

theorem g14 : Good arg26.view (kernelRun0_A.sl.HS0_15 c arg4 harg4 arg5 harg5 arg6 harg6 arg7 harg7 arg26 x2 x3 x4 x5) (mix (stV (iterS (fL x2 x3 x4) (s0A x5) 1)) (stV (iterS (fL x2 x3 x4) (s0A x5) 2)) 6) :=
  good_upd harg4 harg5 harg6 x2 x3 x4 1 5 (iterS (fL x2 x3 x4) (s0A x5) 1) (g13 c arg4 harg4 arg5 harg5 arg6 harg6 arg7 harg7 arg26 x2 x3 x4 x5)

theorem g15 : Good arg26.view (kernelRun0_A.sl.HS0_16 c arg4 harg4 arg5 harg5 arg6 harg6 arg7 harg7 arg26 x2 x3 x4 x5) (mix (stV (iterS (fL x2 x3 x4) (s0A x5) 1)) (stV (iterS (fL x2 x3 x4) (s0A x5) 2)) 7) :=
  good_upd harg4 harg5 harg6 x2 x3 x4 1 6 (iterS (fL x2 x3 x4) (s0A x5) 1) (g14 c arg4 harg4 arg5 harg5 arg6 harg6 arg7 harg7 arg26 x2 x3 x4 x5)

theorem g16 : Good arg26.view (kernelRun0_A.sl.HS0_17 c arg4 harg4 arg5 harg5 arg6 harg6 arg7 harg7 arg26 x2 x3 x4 x5) (mix (stV (iterS (fL x2 x3 x4) (s0A x5) 1)) (stV (iterS (fL x2 x3 x4) (s0A x5) 2)) 8) :=
  good_upd harg4 harg5 harg6 x2 x3 x4 1 7 (iterS (fL x2 x3 x4) (s0A x5) 1) (g15 c arg4 harg4 arg5 harg5 arg6 harg6 arg7 harg7 arg26 x2 x3 x4 x5)

theorem g17 : Good arg26.view (kernelRun0_A.sl.HS0_18 c arg4 harg4 arg5 harg5 arg6 harg6 arg7 harg7 arg26 x2 x3 x4 x5) (mix (stV (iterS (fL x2 x3 x4) (s0A x5) 2)) (stV (iterS (fL x2 x3 x4) (s0A x5) 3)) 1) :=
  good_upd harg4 harg5 harg6 x2 x3 x4 2 0 (iterS (fL x2 x3 x4) (s0A x5) 2) (good_turn (g16 c arg4 harg4 arg5 harg5 arg6 harg6 arg7 harg7 arg26 x2 x3 x4 x5))

theorem g18 : Good arg26.view (kernelRun0_A.sl.HS0_19 c arg4 harg4 arg5 harg5 arg6 harg6 arg7 harg7 arg26 x2 x3 x4 x5) (mix (stV (iterS (fL x2 x3 x4) (s0A x5) 2)) (stV (iterS (fL x2 x3 x4) (s0A x5) 3)) 2) :=
  good_upd harg4 harg5 harg6 x2 x3 x4 2 1 (iterS (fL x2 x3 x4) (s0A x5) 2) (g17 c arg4 harg4 arg5 harg5 arg6 harg6 arg7 harg7 arg26 x2 x3 x4 x5)

theorem g19 : Good arg26.view (kernelRun0_A.sl.HS0_20 c arg4 harg4 arg5 harg5 arg6 harg6 arg7 harg7 arg26 x2 x3 x4 x5) (mix (stV (iterS (fL x2 x3 x4) (s0A x5) 2)) (stV (iterS (fL x2 x3 x4) (s0A x5) 3)) 3) :=
  good_upd harg4 harg5 harg6 x2 x3 x4 2 2 (iterS (fL x2 x3 x4) (s0A x5) 2) (g18 c arg4 harg4 arg5 harg5 arg6 harg6 arg7 harg7 arg26 x2 x3 x4 x5)

theorem g20 : Good arg26.view (kernelRun0_A.sl.HS0_21 c arg4 harg4 arg5 harg5 arg6 harg6 arg7 harg7 arg26 x2 x3 x4 x5) (mix (stV (iterS (fL x2 x3 x4) (s0A x5) 2)) (stV (iterS (fL x2 x3 x4) (s0A x5) 3)) 4) :=
  good_upd harg4 harg5 harg6 x2 x3 x4 2 3 (iterS (fL x2 x3 x4) (s0A x5) 2) (g19 c arg4 harg4 arg5 harg5 arg6 harg6 arg7 harg7 arg26 x2 x3 x4 x5)

theorem g21 : Good arg26.view (kernelRun0_A.sl.HS0_22 c arg4 harg4 arg5 harg5 arg6 harg6 arg7 harg7 arg26 x2 x3 x4 x5) (mix (stV (iterS (fL x2 x3 x4) (s0A x5) 2)) (stV (iterS (fL x2 x3 x4) (s0A x5) 3)) 5) :=
  good_upd harg4 harg5 harg6 x2 x3 x4 2 4 (iterS (fL x2 x3 x4) (s0A x5) 2) (g20 c arg4 harg4 arg5 harg5 arg6 harg6 arg7 harg7 arg26 x2 x3 x4 x5)

theorem g22 : Good arg26.view (kernelRun0_A.sl.HS0_23 c arg4 harg4 arg5 harg5 arg6 harg6 arg7 harg7 arg26 x2 x3 x4 x5) (mix (stV (iterS (fL x2 x3 x4) (s0A x5) 2)) (stV (iterS (fL x2 x3 x4) (s0A x5) 3)) 6) :=
  good_upd harg4 harg5 harg6 x2 x3 x4 2 5 (iterS (fL x2 x3 x4) (s0A x5) 2) (g21 c arg4 harg4 arg5 harg5 arg6 harg6 arg7 harg7 arg26 x2 x3 x4 x5)

theorem g23 : Good arg26.view (kernelRun0_A.sl.HS0_24 c arg4 harg4 arg5 harg5 arg6 harg6 arg7 harg7 arg26 x2 x3 x4 x5) (mix (stV (iterS (fL x2 x3 x4) (s0A x5) 2)) (stV (iterS (fL x2 x3 x4) (s0A x5) 3)) 7) :=
  good_upd harg4 harg5 harg6 x2 x3 x4 2 6 (iterS (fL x2 x3 x4) (s0A x5) 2) (g22 c arg4 harg4 arg5 harg5 arg6 harg6 arg7 harg7 arg26 x2 x3 x4 x5)

theorem g24 : Good arg26.view (kernelRun0_A.sl.HS0_25 c arg4 harg4 arg5 harg5 arg6 harg6 arg7 harg7 arg26 x2 x3 x4 x5) (mix (stV (iterS (fL x2 x3 x4) (s0A x5) 2)) (stV (iterS (fL x2 x3 x4) (s0A x5) 3)) 8) :=
  good_upd harg4 harg5 harg6 x2 x3 x4 2 7 (iterS (fL x2 x3 x4) (s0A x5) 2) (g23 c arg4 harg4 arg5 harg5 arg6 harg6 arg7 harg7 arg26 x2 x3 x4 x5)

theorem g25 : Good arg26.view (kernelRun0_A.sl.HS0_26 c arg4 harg4 arg5 harg5 arg6 harg6 arg7 harg7 arg26 x2 x3 x4 x5) (mix (stV (iterS (fL x2 x3 x4) (s0A x5) 3)) (stV (iterS (fL x2 x3 x4) (s0A x5) 4)) 1) :=
  good_upd harg4 harg5 harg6 x2 x3 x4 3 0 (iterS (fL x2 x3 x4) (s0A x5) 3) (good_turn (g24 c arg4 harg4 arg5 harg5 arg6 harg6 arg7 harg7 arg26 x2 x3 x4 x5))

theorem g26 : Good arg26.view (kernelRun0_A.sl.HS0_27 c arg4 harg4 arg5 harg5 arg6 harg6 arg7 harg7 arg26 x2 x3 x4 x5) (mix (stV (iterS (fL x2 x3 x4) (s0A x5) 3)) (stV (iterS (fL x2 x3 x4) (s0A x5) 4)) 2) :=
  good_upd harg4 harg5 harg6 x2 x3 x4 3 1 (iterS (fL x2 x3 x4) (s0A x5) 3) (g25 c arg4 harg4 arg5 harg5 arg6 harg6 arg7 harg7 arg26 x2 x3 x4 x5)

theorem g27 : Good arg26.view (kernelRun0_A.sl.HS0_28 c arg4 harg4 arg5 harg5 arg6 harg6 arg7 harg7 arg26 x2 x3 x4 x5) (mix (stV (iterS (fL x2 x3 x4) (s0A x5) 3)) (stV (iterS (fL x2 x3 x4) (s0A x5) 4)) 3) :=
  good_upd harg4 harg5 harg6 x2 x3 x4 3 2 (iterS (fL x2 x3 x4) (s0A x5) 3) (g26 c arg4 harg4 arg5 harg5 arg6 harg6 arg7 harg7 arg26 x2 x3 x4 x5)

theorem g28 : Good arg26.view (kernelRun0_A.sl.HS0_29 c arg4 harg4 arg5 harg5 arg6 harg6 arg7 harg7 arg26 x2 x3 x4 x5) (mix (stV (iterS (fL x2 x3 x4) (s0A x5) 3)) (stV (iterS (fL x2 x3 x4) (s0A x5) 4)) 4) :=
  good_upd harg4 harg5 harg6 x2 x3 x4 3 3 (iterS (fL x2 x3 x4) (s0A x5) 3) (g27 c arg4 harg4 arg5 harg5 arg6 harg6 arg7 harg7 arg26 x2 x3 x4 x5)

theorem g29 : Good arg26.view (kernelRun0_A.sl.HS0_30 c arg4 harg4 arg5 harg5 arg6 harg6 arg7 harg7 arg26 x2 x3 x4 x5) (mix (stV (iterS (fL x2 x3 x4) (s0A x5) 3)) (stV (iterS (fL x2 x3 x4) (s0A x5) 4)) 5) :=
  good_upd harg4 harg5 harg6 x2 x3 x4 3 4 (iterS (fL x2 x3 x4) (s0A x5) 3) (g28 c arg4 harg4 arg5 harg5 arg6 harg6 arg7 harg7 arg26 x2 x3 x4 x5)

theorem g30 : Good arg26.view (kernelRun0_A.sl.HS0_31 c arg4 harg4 arg5 harg5 arg6 harg6 arg7 harg7 arg26 x2 x3 x4 x5) (mix (stV (iterS (fL x2 x3 x4) (s0A x5) 3)) (stV (iterS (fL x2 x3 x4) (s0A x5) 4)) 6) :=
  good_upd harg4 harg5 harg6 x2 x3 x4 3 5 (iterS (fL x2 x3 x4) (s0A x5) 3) (g29 c arg4 harg4 arg5 harg5 arg6 harg6 arg7 harg7 arg26 x2 x3 x4 x5)

theorem g31 : Good arg26.view (kernelRun0_A.sl.HS0_32 c arg4 harg4 arg5 harg5 arg6 harg6 arg7 harg7 arg26 x2 x3 x4 x5) (mix (stV (iterS (fL x2 x3 x4) (s0A x5) 3)) (stV (iterS (fL x2 x3 x4) (s0A x5) 4)) 7) :=
  good_upd harg4 harg5 harg6 x2 x3 x4 3 6 (iterS (fL x2 x3 x4) (s0A x5) 3) (g30 c arg4 harg4 arg5 harg5 arg6 harg6 arg7 harg7 arg26 x2 x3 x4 x5)

theorem g32 : Good arg26.view (kernelRun0_A.sl.HS0_33 c arg4 harg4 arg5 harg5 arg6 harg6 arg7 harg7 arg26 x2 x3 x4 x5) (mix (stV (iterS (fL x2 x3 x4) (s0A x5) 3)) (stV (iterS (fL x2 x3 x4) (s0A x5) 4)) 8) :=
  good_upd harg4 harg5 harg6 x2 x3 x4 3 7 (iterS (fL x2 x3 x4) (s0A x5) 3) (g31 c arg4 harg4 arg5 harg5 arg6 harg6 arg7 harg7 arg26 x2 x3 x4 x5)

theorem g33 : Good arg26.view (kernelRun0_A.sl.HS0_34 c arg4 harg4 arg5 harg5 arg6 harg6 arg7 harg7 arg26 x2 x3 x4 x5) (mix (stV (iterS (fL x2 x3 x4) (s0A x5) 4)) (stV (iterS (fL x2 x3 x4) (s0A x5) 5)) 1) :=
  good_upd harg4 harg5 harg6 x2 x3 x4 4 0 (iterS (fL x2 x3 x4) (s0A x5) 4) (good_turn (g32 c arg4 harg4 arg5 harg5 arg6 harg6 arg7 harg7 arg26 x2 x3 x4 x5))

theorem g34 : Good arg26.view (kernelRun0_A.sl.HS0_35 c arg4 harg4 arg5 harg5 arg6 harg6 arg7 harg7 arg26 x2 x3 x4 x5) (mix (stV (iterS (fL x2 x3 x4) (s0A x5) 4)) (stV (iterS (fL x2 x3 x4) (s0A x5) 5)) 2) :=
  good_upd harg4 harg5 harg6 x2 x3 x4 4 1 (iterS (fL x2 x3 x4) (s0A x5) 4) (g33 c arg4 harg4 arg5 harg5 arg6 harg6 arg7 harg7 arg26 x2 x3 x4 x5)

theorem g35 : Good arg26.view (kernelRun0_A.sl.HS0_36 c arg4 harg4 arg5 harg5 arg6 harg6 arg7 harg7 arg26 x2 x3 x4 x5) (mix (stV (iterS (fL x2 x3 x4) (s0A x5) 4)) (stV (iterS (fL x2 x3 x4) (s0A x5) 5)) 3) :=
  good_upd harg4 harg5 harg6 x2 x3 x4 4 2 (iterS (fL x2 x3 x4) (s0A x5) 4) (g34 c arg4 harg4 arg5 harg5 arg6 harg6 arg7 harg7 arg26 x2 x3 x4 x5)

theorem g36 : Good arg26.view (kernelRun0_A.sl.HS0_37 c arg4 harg4 arg5 harg5 arg6 harg6 arg7 harg7 arg26 x2 x3 x4 x5) (mix (stV (iterS (fL x2 x3 x4) (s0A x5) 4)) (stV (iterS (fL x2 x3 x4) (s0A x5) 5)) 4) :=
  good_upd harg4 harg5 harg6 x2 x3 x4 4 3 (iterS (fL x2 x3 x4) (s0A x5) 4) (g35 c arg4 harg4 arg5 harg5 arg6 harg6 arg7 harg7 arg26 x2 x3 x4 x5)

theorem g37 : Good arg26.view (kernelRun0_A.sl.HS0_38 c arg4 harg4 arg5 harg5 arg6 harg6 arg7 harg7 arg26 x2 x3 x4 x5) (mix (stV (iterS (fL x2 x3 x4) (s0A x5) 4)) (stV (iterS (fL x2 x3 x4) (s0A x5) 5)) 5) :=
  good_upd harg4 harg5 harg6 x2 x3 x4 4 4 (iterS (fL x2 x3 x4) (s0A x5) 4) (g36 c arg4 harg4 arg5 harg5 arg6 harg6 arg7 harg7 arg26 x2 x3 x4 x5)

theorem g38 : Good arg26.view (kernelRun0_A.sl.HS0_39 c arg4 harg4 arg5 harg5 arg6 harg6 arg7 harg7 arg26 x2 x3 x4 x5) (mix (stV (iterS (fL x2 x3 x4) (s0A x5) 4)) (stV (iterS (fL x2 x3 x4) (s0A x5) 5)) 6) :=
  good_upd harg4 harg5 harg6 x2 x3 x4 4 5 (iterS (fL x2 x3 x4) (s0A x5) 4) (g37 c arg4 harg4 arg5 harg5 arg6 harg6 arg7 harg7 arg26 x2 x3 x4 x5)

theorem g39 : Good arg26.view (kernelRun0_A.sl.HS0_40 c arg4 harg4 arg5 harg5 arg6 harg6 arg7 harg7 arg26 x2 x3 x4 x5) (mix (stV (iterS (fL x2 x3 x4) (s0A x5) 4)) (stV (iterS (fL x2 x3 x4) (s0A x5) 5)) 7) :=
  good_upd harg4 harg5 harg6 x2 x3 x4 4 6 (iterS (fL x2 x3 x4) (s0A x5) 4) (g38 c arg4 harg4 arg5 harg5 arg6 harg6 arg7 harg7 arg26 x2 x3 x4 x5)

theorem g40 : Good arg26.view (kernelRun0_A.sl.HS0_41 c arg4 harg4 arg5 harg5 arg6 harg6 arg7 harg7 arg26 x2 x3 x4 x5) (mix (stV (iterS (fL x2 x3 x4) (s0A x5) 4)) (stV (iterS (fL x2 x3 x4) (s0A x5) 5)) 8) :=
  good_upd harg4 harg5 harg6 x2 x3 x4 4 7 (iterS (fL x2 x3 x4) (s0A x5) 4) (g39 c arg4 harg4 arg5 harg5 arg6 harg6 arg7 harg7 arg26 x2 x3 x4 x5)

theorem g41 : Good arg26.view (kernelRun0_A.sl.HS0_42 c arg4 harg4 arg5 harg5 arg6 harg6 arg7 harg7 arg26 x2 x3 x4 x5) (mix (stV (iterS (fL x2 x3 x4) (s0A x5) 5)) (stV (iterS (fL x2 x3 x4) (s0A x5) 6)) 1) :=
  good_upd harg4 harg5 harg6 x2 x3 x4 5 0 (iterS (fL x2 x3 x4) (s0A x5) 5) (good_turn (g40 c arg4 harg4 arg5 harg5 arg6 harg6 arg7 harg7 arg26 x2 x3 x4 x5))

theorem g42 : Good arg26.view (kernelRun0_A.sl.HS0_43 c arg4 harg4 arg5 harg5 arg6 harg6 arg7 harg7 arg26 x2 x3 x4 x5) (mix (stV (iterS (fL x2 x3 x4) (s0A x5) 5)) (stV (iterS (fL x2 x3 x4) (s0A x5) 6)) 2) :=
  good_upd harg4 harg5 harg6 x2 x3 x4 5 1 (iterS (fL x2 x3 x4) (s0A x5) 5) (g41 c arg4 harg4 arg5 harg5 arg6 harg6 arg7 harg7 arg26 x2 x3 x4 x5)

theorem g43 : Good arg26.view (kernelRun0_A.sl.HS0_44 c arg4 harg4 arg5 harg5 arg6 harg6 arg7 harg7 arg26 x2 x3 x4 x5) (mix (stV (iterS (fL x2 x3 x4) (s0A x5) 5)) (stV (iterS (fL x2 x3 x4) (s0A x5) 6)) 3) :=
  good_upd harg4 harg5 harg6 x2 x3 x4 5 2 (iterS (fL x2 x3 x4) (s0A x5) 5) (g42 c arg4 harg4 arg5 harg5 arg6 harg6 arg7 harg7 arg26 x2 x3 x4 x5)

theorem g44 : Good arg26.view (kernelRun0_A.sl.HS0_45 c arg4 harg4 arg5 harg5 arg6 harg6 arg7 harg7 arg26 x2 x3 x4 x5) (mix (stV (iterS (fL x2 x3 x4) (s0A x5) 5)) (stV (iterS (fL x2 x3 x4) (s0A x5) 6)) 4) :=
  good_upd harg4 harg5 harg6 x2 x3 x4 5 3 (iterS (fL x2 x3 x4) (s0A x5) 5) (g43 c arg4 harg4 arg5 harg5 arg6 harg6 arg7 harg7 arg26 x2 x3 x4 x5)

theorem g45 : Good arg26.view (kernelRun0_A.sl.HS0_46 c arg4 harg4 arg5 harg5 arg6 harg6 arg7 harg7 arg26 x2 x3 x4 x5) (mix (stV (iterS (fL x2 x3 x4) (s0A x5) 5)) (stV (iterS (fL x2 x3 x4) (s0A x5) 6)) 5) :=
  good_upd harg4 harg5 harg6 x2 x3 x4 5 4 (iterS (fL x2 x3 x4) (s0A x5) 5) (g44 c arg4 harg4 arg5 harg5 arg6 harg6 arg7 harg7 arg26 x2 x3 x4 x5)

theorem g46 : Good arg26.view (kernelRun0_A.sl.HS0_47 c arg4 harg4 arg5 harg5 arg6 harg6 arg7 harg7 arg26 x2 x3 x4 x5) (mix (stV (iterS (fL x2 x3 x4) (s0A x5) 5)) (stV (iterS (fL x2 x3 x4) (s0A x5) 6)) 6) :=
  good_upd harg4 harg5 harg6 x2 x3 x4 5 5 (iterS (fL x2 x3 x4) (s0A x5) 5) (g45 c arg4 harg4 arg5 harg5 arg6 harg6 arg7 harg7 arg26 x2 x3 x4 x5)

theorem g47 : Good arg26.view (kernelRun0_A.sl.HS0_48 c arg4 harg4 arg5 harg5 arg6 harg6 arg7 harg7 arg26 x2 x3 x4 x5) (mix (stV (iterS (fL x2 x3 x4) (s0A x5) 5)) (stV (iterS (fL x2 x3 x4) (s0A x5) 6)) 7) :=
  good_upd harg4 harg5 harg6 x2 x3 x4 5 6 (iterS (fL x2 x3 x4) (s0A x5) 5) (g46 c arg4 harg4 arg5 harg5 arg6 harg6 arg7 harg7 arg26 x2 x3 x4 x5)

theorem g48 : Good arg26.view (kernelRun0_A.sl.HS0_49 c arg4 harg4 arg5 harg5 arg6 harg6 arg7 harg7 arg26 x2 x3 x4 x5) (mix (stV (iterS (fL x2 x3 x4) (s0A x5) 5)) (stV (iterS (fL x2 x3 x4) (s0A x5) 6)) 8) :=
  good_upd harg4 harg5 harg6 x2 x3 x4 5 7 (iterS (fL x2 x3 x4) (s0A x5) 5) (g47 c arg4 harg4 arg5 harg5 arg6 harg6 arg7 harg7 arg26 x2 x3 x4 x5)

theorem g49 : Good arg26.view (kernelRun0_A.sl.HS0_50 c arg4 harg4 arg5 harg5 arg6 harg6 arg7 harg7 arg26 x2 x3 x4 x5) (mix (stV (iterS (fL x2 x3 x4) (s0A x5) 6)) (stV (iterS (fL x2 x3 x4) (s0A x5) 7)) 1) :=
  good_upd harg4 harg5 harg6 x2 x3 x4 6 0 (iterS (fL x2 x3 x4) (s0A x5) 6) (good_turn (g48 c arg4 harg4 arg5 harg5 arg6 harg6 arg7 harg7 arg26 x2 x3 x4 x5))

theorem g50 : Good arg26.view (kernelRun0_A.sl.HS0_51 c arg4 harg4 arg5 harg5 arg6 harg6 arg7 harg7 arg26 x2 x3 x4 x5) (mix (stV (iterS (fL x2 x3 x4) (s0A x5) 6)) (stV (iterS (fL x2 x3 x4) (s0A x5) 7)) 2) :=
  good_upd harg4 harg5 harg6 x2 x3 x4 6 1 (iterS (fL x2 x3 x4) (s0A x5) 6) (g49 c arg4 harg4 arg5 harg5 arg6 harg6 arg7 harg7 arg26 x2 x3 x4 x5)

theorem g51 : Good arg26.view (kernelRun0_A.sl.HS0_52 c arg4 harg4 arg5 harg5 arg6 harg6 arg7 harg7 arg26 x2 x3 x4 x5) (mix (stV (iterS (fL x2 x3 x4) (s0A x5) 6)) (stV (iterS (fL x2 x3 x4) (s0A x5) 7)) 3) :=
  good_upd harg4 harg5 harg6 x2 x3 x4 6 2 (iterS (fL x2 x3 x4) (s0A x5) 6) (g50 c arg4 harg4 arg5 harg5 arg6 harg6 arg7 harg7 arg26 x2 x3 x4 x5)

theorem g52 : Good arg26.view (kernelRun0_A.sl.HS0_53 c arg4 harg4 arg5 harg5 arg6 harg6 arg7 harg7 arg26 x2 x3 x4 x5) (mix (stV (iterS (fL x2 x3 x4) (s0A x5) 6)) (stV (iterS (fL x2 x3 x4) (s0A x5) 7)) 4) :=
  good_upd harg4 harg5 harg6 x2 x3 x4 6 3 (iterS (fL x2 x3 x4) (s0A x5) 6) (g51 c arg4 harg4 arg5 harg5 arg6 harg6 arg7 harg7 arg26 x2 x3 x4 x5)

theorem g53 : Good arg26.view (kernelRun0_A.sl.HS0_54 c arg4 harg4 arg5 harg5 arg6 harg6 arg7 harg7 arg26 x2 x3 x4 x5) (mix (stV (iterS (fL x2 x3 x4) (s0A x5) 6)) (stV (iterS (fL x2 x3 x4) (s0A x5) 7)) 5) :=
  good_upd harg4 harg5 harg6 x2 x3 x4 6 4 (iterS (fL x2 x3 x4) (s0A x5) 6) (g52 c arg4 harg4 arg5 harg5 arg6 harg6 arg7 harg7 arg26 x2 x3 x4 x5)

theorem g54 : Good arg26.view (kernelRun0_A.sl.HS0_55 c arg4 harg4 arg5 harg5 arg6 harg6 arg7 harg7 arg26 x2 x3 x4 x5) (mix (stV (iterS (fL x2 x3 x4) (s0A x5) 6)) (stV (iterS (fL x2 x3 x4) (s0A x5) 7)) 6) :=
  good_upd harg4 harg5 harg6 x2 x3 x4 6 5 (iterS (fL x2 x3 x4) (s0A x5) 6) (g53 c arg4 harg4 arg5 harg5 arg6 harg6 arg7 harg7 arg26 x2 x3 x4 x5)

theorem g55 : Good arg26.view (kernelRun0_A.sl.HS0_56 c arg4 harg4 arg5 harg5 arg6 harg6 arg7 harg7 arg26 x2 x3 x4 x5) (mix (stV (iterS (fL x2 x3 x4) (s0A x5) 6)) (stV (iterS (fL x2 x3 x4) (s0A x5) 7)) 7) :=
  good_upd harg4 harg5 harg6 x2 x3 x4 6 6 (iterS (fL x2 x3 x4) (s0A x5) 6) (g54 c arg4 harg4 arg5 harg5 arg6 harg6 arg7 harg7 arg26 x2 x3 x4 x5)

theorem g56 : Good arg26.view (kernelRun0_A.sl.HS0_57 c arg4 harg4 arg5 harg5 arg6 harg6 arg7 harg7 arg26 x2 x3 x4 x5) (mix (stV (iterS (fL x2 x3 x4) (s0A x5) 6)) (stV (iterS (fL x2 x3 x4) (s0A x5) 7)) 8) :=
  good_upd harg4 harg5 harg6 x2 x3 x4 6 7 (iterS (fL x2 x3 x4) (s0A x5) 6) (g55 c arg4 harg4 arg5 harg5 arg6 harg6 arg7 harg7 arg26 x2 x3 x4 x5)

theorem g57 : Good arg26.view (kernelRun0_A.sl.HS0_58 c arg4 harg4 arg5 harg5 arg6 harg6 arg7 harg7 arg26 x2 x3 x4 x5) (mix (stV (iterS (fL x2 x3 x4) (s0A x5) 7)) (stV (iterS (fL x2 x3 x4) (s0A x5) 8)) 1) :=
  good_upd harg4 harg5 harg6 x2 x3 x4 7 0 (iterS (fL x2 x3 x4) (s0A x5) 7) (good_turn (g56 c arg4 harg4 arg5 harg5 arg6 harg6 arg7 harg7 arg26 x2 x3 x4 x5))

theorem g58 : Good arg26.view (kernelRun0_A.sl.HS0_59 c arg4 harg4 arg5 harg5 arg6 harg6 arg7 harg7 arg26 x2 x3 x4 x5) (mix (stV (iterS (fL x2 x3 x4) (s0A x5) 7)) (stV (iterS (fL x2 x3 x4) (s0A x5) 8)) 2) :=
  good_upd harg4 harg5 harg6 x2 x3 x4 7 1 (iterS (fL x2 x3 x4) (s0A x5) 7) (g57 c arg4 harg4 arg5 harg5 arg6 harg6 arg7 harg7 arg26 x2 x3 x4 x5)

theorem g59 : Good arg26.view (kernelRun0_A.sl.HS0_60 c arg4 harg4 arg5 harg5 arg6 harg6 arg7 harg7 arg26 x2 x3 x4 x5) (mix (stV (iterS (fL x2 x3 x4) (s0A x5) 7)) (stV (iterS (fL x2 x3 x4) (s0A x5) 8)) 3) :=
  good_upd harg4 harg5 harg6 x2 x3 x4 7 2 (iterS (fL x2 x3 x4) (s0A x5) 7) (g58 c arg4 harg4 arg5 harg5 arg6 harg6 arg7 harg7 arg26 x2 x3 x4 x5)

theorem g60 : Good arg26.view (kernelRun0_A.sl.HS0_61 c arg4 harg4 arg5 harg5 arg6 harg6 arg7 harg7 arg26 x2 x3 x4 x5) (mix (stV (iterS (fL x2 x3 x4) (s0A x5) 7)) (stV (iterS (fL x2 x3 x4) (s0A x5) 8)) 4) :=
  good_upd harg4 harg5 harg6 x2 x3 x4 7 3 (iterS (fL x2 x3 x4) (s0A x5) 7) (g59 c arg4 harg4 arg5 harg5 arg6 harg6 arg7 harg7 arg26 x2 x3 x4 x5)

theorem g61 : Good arg26.view (kernelRun0_A.sl.HS0_62 c arg4 harg4 arg5 harg5 arg6 harg6 arg7 harg7 arg26 x2 x3 x4 x5) (mix (stV (iterS (fL x2 x3 x4) (s0A x5) 7)) (stV (iterS (fL x2 x3 x4) (s0A x5) 8)) 5) :=
  good_upd harg4 harg5 harg6 x2 x3 x4 7 4 (iterS (fL x2 x3 x4) (s0A x5) 7) (g60 c arg4 harg4 arg5 harg5 arg6 harg6 arg7 harg7 arg26 x2 x3 x4 x5)

theorem g62 : Good arg26.view (kernelRun0_A.sl.HS0_63 c arg4 harg4 arg5 harg5 arg6 harg6 arg7 harg7 arg26 x2 x3 x4 x5) (mix (stV (iterS (fL x2 x3 x4) (s0A x5) 7)) (stV (iterS (fL x2 x3 x4) (s0A x5) 8)) 6) :=
  good_upd harg4 harg5 harg6 x2 x3 x4 7 5 (iterS (fL x2 x3 x4) (s0A x5) 7) (g61 c arg4 harg4 arg5 harg5 arg6 harg6 arg7 harg7 arg26 x2 x3 x4 x5)

theorem g63 : Good arg26.view (kernelRun0_A.sl.HS0_64 c arg4 harg4 arg5 harg5 arg6 harg6 arg7 harg7 arg26 x2 x3 x4 x5) (mix (stV (iterS (fL x2 x3 x4) (s0A x5) 7)) (stV (iterS (fL x2 x3 x4) (s0A x5) 8)) 7) :=
  good_upd harg4 harg5 harg6 x2 x3 x4 7 6 (iterS (fL x2 x3 x4) (s0A x5) 7) (g62 c arg4 harg4 arg5 harg5 arg6 harg6 arg7 harg7 arg26 x2 x3 x4 x5)

abbrev C0 : FVec Ideal S64x1024 .f32 :=
  CAT harg3 x1 (ch 0) (arg26.view.readCov (Val := Elt Ideal) (kernelRun0_A.sl.HS0_1 c arg7 harg7 x5) (row 0).toLoadRect)
    (arg26.view.readCov (Val := Elt Ideal) (kernelRun0_A.sl.HS0_2 c arg4 harg4 arg5 harg5 arg6 harg6 arg7 harg7 arg26 x2 x3 x4 x5) (row 1).toLoadRect)
    (arg26.view.readCov (Val := Elt Ideal) (kernelRun0_A.sl.HS0_3 c arg4 harg4 arg5 harg5 arg6 harg6 arg7 harg7 arg26 x2 x3 x4 x5) (row 2).toLoadRect)
    (arg26.view.readCov (Val := Elt Ideal) (kernelRun0_A.sl.HS0_4 c arg4 harg4 arg5 harg5 arg6 harg6 arg7 harg7 arg26 x2 x3 x4 x5) (row 3).toLoadRect)
    (arg26.view.readCov (Val := Elt Ideal) (kernelRun0_A.sl.HS0_5 c arg4 harg4 arg5 harg5 arg6 harg6 arg7 harg7 arg26 x2 x3 x4 x5) (row 4).toLoadRect)
    (arg26.view.readCov (Val := Elt Ideal) (kernelRun0_A.sl.HS0_6 c arg4 harg4 arg5 harg5 arg6 harg6 arg7 harg7 arg26 x2 x3 x4 x5) (row 5).toLoadRect)
    (arg26.view.readCov (Val := Elt Ideal) (kernelRun0_A.sl.HS0_7 c arg4 harg4 arg5 harg5 arg6 harg6 arg7 harg7 arg26 x2 x3 x4 x5) (row 6).toLoadRect)
    (arg26.view.readCov (Val := Elt Ideal) (kernelRun0_A.sl.HS0_8 c arg4 harg4 arg5 harg5 arg6 harg6 arg7 harg7 arg26 x2 x3 x4 x5) (row 7).toLoadRect)

abbrev C1 : FVec Ideal S64x1024 .f32 :=
  CAT harg3 x1 (ch 1) (arg26.view.readCov (Val := Elt Ideal) (kernelRun0_A.sl.HS0_9 c arg4 harg4 arg5 harg5 arg6 harg6 arg7 harg7 arg26 x2 x3 x4 x5) (row 0).toLoadRect)
    (arg26.view.readCov (Val := Elt Ideal) (kernelRun0_A.sl.HS0_10 c arg4 harg4 arg5 harg5 arg6 harg6 arg7 harg7 arg26 x2 x3 x4 x5) (row 1).toLoadRect)
    (arg26.view.readCov (Val := Elt Ideal) (kernelRun0_A.sl.HS0_11 c arg4 harg4 arg5 harg5 arg6 harg6 arg7 harg7 arg26 x2 x3 x4 x5) (row 2).toLoadRect)
    (arg26.view.readCov (Val := Elt Ideal) (kernelRun0_A.sl.HS0_12 c arg4 harg4 arg5 harg5 arg6 harg6 arg7 harg7 arg26 x2 x3 x4 x5) (row 3).toLoadRect)
    (arg26.view.readCov (Val := Elt Ideal) (kernelRun0_A.sl.HS0_13 c arg4 harg4 arg5 harg5 arg6 harg6 arg7 harg7 arg26 x2 x3 x4 x5) (row 4).toLoadRect)
    (arg26.view.readCov (Val := Elt Ideal) (kernelRun0_A.sl.HS0_14 c arg4 harg4 arg5 harg5 arg6 harg6 arg7 harg7 arg26 x2 x3 x4 x5) (row 5).toLoadRect)
    (arg26.view.readCov (Val := Elt Ideal) (kernelRun0_A.sl.HS0_15 c arg4 harg4 arg5 harg5 arg6 harg6 arg7 harg7 arg26 x2 x3 x4 x5) (row 6).toLoadRect)
    (arg26.view.readCov (Val := Elt Ideal) (kernelRun0_A.sl.HS0_16 c arg4 harg4 arg5 harg5 arg6 harg6 arg7 harg7 arg26 x2 x3 x4 x5) (row 7).toLoadRect)

abbrev C2 : FVec Ideal S64x1024 .f32 :=
  CAT harg3 x1 (ch 2) (arg26.view.readCov (Val := Elt Ideal) (kernelRun0_A.sl.HS0_17 c arg4 harg4 arg5 harg5 arg6 harg6 arg7 harg7 arg26 x2 x3 x4 x5) (row 0).toLoadRect)
    (arg26.view.readCov (Val := Elt Ideal) (kernelRun0_A.sl.HS0_18 c arg4 harg4 arg5 harg5 arg6 harg6 arg7 harg7 arg26 x2 x3 x4 x5) (row 1).toLoadRect)
    (arg26.view.readCov (Val := Elt Ideal) (kernelRun0_A.sl.HS0_19 c arg4 harg4 arg5 harg5 arg6 harg6 arg7 harg7 arg26 x2 x3 x4 x5) (row 2).toLoadRect)
    (arg26.view.readCov (Val := Elt Ideal) (kernelRun0_A.sl.HS0_20 c arg4 harg4 arg5 harg5 arg6 harg6 arg7 harg7 arg26 x2 x3 x4 x5) (row 3).toLoadRect)
    (arg26.view.readCov (Val := Elt Ideal) (kernelRun0_A.sl.HS0_21 c arg4 harg4 arg5 harg5 arg6 harg6 arg7 harg7 arg26 x2 x3 x4 x5) (row 4).toLoadRect)
    (arg26.view.readCov (Val := Elt Ideal) (kernelRun0_A.sl.HS0_22 c arg4 harg4 arg5 harg5 arg6 harg6 arg7 harg7 arg26 x2 x3 x4 x5) (row 5).toLoadRect)
    (arg26.view.readCov (Val := Elt Ideal) (kernelRun0_A.sl.HS0_23 c arg4 harg4 arg5 harg5 arg6 harg6 arg7 harg7 arg26 x2 x3 x4 x5) (row 6).toLoadRect)
    (arg26.view.readCov (Val := Elt Ideal) (kernelRun0_A.sl.HS0_24 c arg4 harg4 arg5 harg5 arg6 harg6 arg7 harg7 arg26 x2 x3 x4 x5) (row 7).toLoadRect)

abbrev C3 : FVec Ideal S64x1024 .f32 :=
  CAT harg3 x1 (ch 3) (arg26.view.readCov (Val := Elt Ideal) (kernelRun0_A.sl.HS0_25 c arg4 harg4 arg5 harg5 arg6 harg6 arg7 harg7 arg26 x2 x3 x4 x5) (row 0).toLoadRect)
    (arg26.view.readCov (Val := Elt Ideal) (kernelRun0_A.sl.HS0_26 c arg4 harg4 arg5 harg5 arg6 harg6 arg7 harg7 arg26 x2 x3 x4 x5) (row 1).toLoadRect)
    (arg26.view.readCov (Val := Elt Ideal) (kernelRun0_A.sl.HS0_27 c arg4 harg4 arg5 harg5 arg6 harg6 arg7 harg7 arg26 x2 x3 x4 x5) (row 2).toLoadRect)
    (arg26.view.readCov (Val := Elt Ideal) (kernelRun0_A.sl.HS0_28 c arg4 harg4 arg5 harg5 arg6 harg6 arg7 harg7 arg26 x2 x3 x4 x5) (row 3).toLoadRect)
    (arg26.view.readCov (Val := Elt Ideal) (kernelRun0_A.sl.HS0_29 c arg4 harg4 arg5 harg5 arg6 harg6 arg7 harg7 arg26 x2 x3 x4 x5) (row 4).toLoadRect)
    (arg26.view.readCov (Val := Elt Ideal) (kernelRun0_A.sl.HS0_30 c arg4 harg4 arg5 harg5 arg6 harg6 arg7 harg7 arg26 x2 x3 x4 x5) (row 5).toLoadRect)
    (arg26.view.readCov (Val := Elt Ideal) (kernelRun0_A.sl.HS0_31 c arg4 harg4 arg5 harg5 arg6 harg6 arg7 harg7 arg26 x2 x3 x4 x5) (row 6).toLoadRect)
    (arg26.view.readCov (Val := Elt Ideal) (kernelRun0_A.sl.HS0_32 c arg4 harg4 arg5 harg5 arg6 harg6 arg7 harg7 arg26 x2 x3 x4 x5) (row 7).toLoadRect)

abbrev C4 : FVec Ideal S64x1024 .f32 :=
  CAT harg3 x1 (ch 4) (arg26.view.readCov (Val := Elt Ideal) (kernelRun0_A.sl.HS0_33 c arg4 harg4 arg5 harg5 arg6 harg6 arg7 harg7 arg26 x2 x3 x4 x5) (row 0).toLoadRect)
    (arg26.view.readCov (Val := Elt Ideal) (kernelRun0_A.sl.HS0_34 c arg4 harg4 arg5 harg5 arg6 harg6 arg7 harg7 arg26 x2 x3 x4 x5) (row 1).toLoadRect)
    (arg26.view.readCov (Val := Elt Ideal) (kernelRun0_A.sl.HS0_35 c arg4 harg4 arg5 harg5 arg6 harg6 arg7 harg7 arg26 x2 x3 x4 x5) (row 2).toLoadRect)
    (arg26.view.readCov (Val := Elt Ideal) (kernelRun0_A.sl.HS0_36 c arg4 harg4 arg5 harg5 arg6 harg6 arg7 harg7 arg26 x2 x3 x4 x5) (row 3).toLoadRect)
    (arg26.view.readCov (Val := Elt Ideal) (kernelRun0_A.sl.HS0_37 c arg4 harg4 arg5 harg5 arg6 harg6 arg7 harg7 arg26 x2 x3 x4 x5) (row 4).toLoadRect)
    (arg26.view.readCov (Val := Elt Ideal) (kernelRun0_A.sl.HS0_38 c arg4 harg4 arg5 harg5 arg6 harg6 arg7 harg7 arg26 x2 x3 x4 x5) (row 5).toLoadRect)
    (arg26.view.readCov (Val := Elt Ideal) (kernelRun0_A.sl.HS0_39 c arg4 harg4 arg5 harg5 arg6 harg6 arg7 harg7 arg26 x2 x3 x4 x5) (row 6).toLoadRect)
    (arg26.view.readCov (Val := Elt Ideal) (kernelRun0_A.sl.HS0_40 c arg4 harg4 arg5 harg5 arg6 harg6 arg7 harg7 arg26 x2 x3 x4 x5) (row 7).toLoadRect)

abbrev C5 : FVec Ideal S64x1024 .f32 :=
  CAT harg3 x1 (ch 5) (arg26.view.readCov (Val := Elt Ideal) (kernelRun0_A.sl.HS0_41 c arg4 harg4 arg5 harg5 arg6 harg6 arg7 harg7 arg26 x2 x3 x4 x5) (row 0).toLoadRect)
    (arg26.view.readCov (Val := Elt Ideal) (kernelRun0_A.sl.HS0_42 c arg4 harg4 arg5 harg5 arg6 harg6 arg7 harg7 arg26 x2 x3 x4 x5) (row 1).toLoadRect)
    (arg26.view.readCov (Val := Elt Ideal) (kernelRun0_A.sl.HS0_43 c arg4 harg4 arg5 harg5 arg6 harg6 arg7 harg7 arg26 x2 x3 x4 x5) (row 2).toLoadRect)
    (arg26.view.readCov (Val := Elt Ideal) (kernelRun0_A.sl.HS0_44 c arg4 harg4 arg5 harg5 arg6 harg6 arg7 harg7 arg26 x2 x3 x4 x5) (row 3).toLoadRect)
    (arg26.view.readCov (Val := Elt Ideal) (kernelRun0_A.sl.HS0_45 c arg4 harg4 arg5 harg5 arg6 harg6 arg7 harg7 arg26 x2 x3 x4 x5) (row 4).toLoadRect)
    (arg26.view.readCov (Val := Elt Ideal) (kernelRun0_A.sl.HS0_46 c arg4 harg4 arg5 harg5 arg6 harg6 arg7 harg7 arg26 x2 x3 x4 x5) (row 5).toLoadRect)
    (arg26.view.readCov (Val := Elt Ideal) (kernelRun0_A.sl.HS0_47 c arg4 harg4 arg5 harg5 arg6 harg6 arg7 harg7 arg26 x2 x3 x4 x5) (row 6).toLoadRect)
    (arg26.view.readCov (Val := Elt Ideal) (kernelRun0_A.sl.HS0_48 c arg4 harg4 arg5 harg5 arg6 harg6 arg7 harg7 arg26 x2 x3 x4 x5) (row 7).toLoadRect)

abbrev C6 : FVec Ideal S64x1024 .f32 :=
  CAT harg3 x1 (ch 6) (arg26.view.readCov (Val := Elt Ideal) (kernelRun0_A.sl.HS0_49 c arg4 harg4 arg5 harg5 arg6 harg6 arg7 harg7 arg26 x2 x3 x4 x5) (row 0).toLoadRect)
    (arg26.view.readCov (Val := Elt Ideal) (kernelRun0_A.sl.HS0_50 c arg4 harg4 arg5 harg5 arg6 harg6 arg7 harg7 arg26 x2 x3 x4 x5) (row 1).toLoadRect)
    (arg26.view.readCov (Val := Elt Ideal) (kernelRun0_A.sl.HS0_51 c arg4 harg4 arg5 harg5 arg6 harg6 arg7 harg7 arg26 x2 x3 x4 x5) (row 2).toLoadRect)
    (arg26.view.readCov (Val := Elt Ideal) (kernelRun0_A.sl.HS0_52 c arg4 harg4 arg5 harg5 arg6 harg6 arg7 harg7 arg26 x2 x3 x4 x5) (row 3).toLoadRect)
    (arg26.view.readCov (Val := Elt Ideal) (kernelRun0_A.sl.HS0_53 c arg4 harg4 arg5 harg5 arg6 harg6 arg7 harg7 arg26 x2 x3 x4 x5) (row 4).toLoadRect)
    (arg26.view.readCov (Val := Elt Ideal) (kernelRun0_A.sl.HS0_54 c arg4 harg4 arg5 harg5 arg6 harg6 arg7 harg7 arg26 x2 x3 x4 x5) (row 5).toLoadRect)
    (arg26.view.readCov (Val := Elt Ideal) (kernelRun0_A.sl.HS0_55 c arg4 harg4 arg5 harg5 arg6 harg6 arg7 harg7 arg26 x2 x3 x4 x5) (row 6).toLoadRect)
    (arg26.view.readCov (Val := Elt Ideal) (kernelRun0_A.sl.HS0_56 c arg4 harg4 arg5 harg5 arg6 harg6 arg7 harg7 arg26 x2 x3 x4 x5) (row 7).toLoadRect)

abbrev C7 : FVec Ideal S64x1024 .f32 :=
  CAT harg3 x1 (ch 7) (arg26.view.readCov (Val := Elt Ideal) (kernelRun0_A.sl.HS0_57 c arg4 harg4 arg5 harg5 arg6 harg6 arg7 harg7 arg26 x2 x3 x4 x5) (row 0).toLoadRect)
    (arg26.view.readCov (Val := Elt Ideal) (kernelRun0_A.sl.HS0_58 c arg4 harg4 arg5 harg5 arg6 harg6 arg7 harg7 arg26 x2 x3 x4 x5) (row 1).toLoadRect)
    (arg26.view.readCov (Val := Elt Ideal) (kernelRun0_A.sl.HS0_59 c arg4 harg4 arg5 harg5 arg6 harg6 arg7 harg7 arg26 x2 x3 x4 x5) (row 2).toLoadRect)
    (arg26.view.readCov (Val := Elt Ideal) (kernelRun0_A.sl.HS0_60 c arg4 harg4 arg5 harg5 arg6 harg6 arg7 harg7 arg26 x2 x3 x4 x5) (row 3).toLoadRect)
    (arg26.view.readCov (Val := Elt Ideal) (kernelRun0_A.sl.HS0_61 c arg4 harg4 arg5 harg5 arg6 harg6 arg7 harg7 arg26 x2 x3 x4 x5) (row 4).toLoadRect)
    (arg26.view.readCov (Val := Elt Ideal) (kernelRun0_A.sl.HS0_62 c arg4 harg4 arg5 harg5 arg6 harg6 arg7 harg7 arg26 x2 x3 x4 x5) (row 5).toLoadRect)
    (arg26.view.readCov (Val := Elt Ideal) (kernelRun0_A.sl.HS0_63 c arg4 harg4 arg5 harg5 arg6 harg6 arg7 harg7 arg26 x2 x3 x4 x5) (row 6).toLoadRect)
    (arg26.view.readCov (Val := Elt Ideal) (kernelRun0_A.sl.HS0_64 c arg4 harg4 arg5 harg5 arg6 harg6 arg7 harg7 arg26 x2 x3 x4 x5) (row 7).toLoadRect)

theorem c0 (r : Fin 64) (j : Fin 1024) : C0 c arg3 harg3 arg4 harg4 arg5 harg5 arg6 harg6 arg7 harg7 arg26 x1 x2 x3 x4 x5 (ix2 r j) = readS (fun k => x1 (ix3 0 ⟨(7 - 0) * 64 + r.val, by omega⟩ k)) (s0A x5) j :=
  CAT_at harg3 x1 (ch 0) (s0A x5) ((g0 c arg7 harg7 arg26 x2 x3 x4 x5).head (u := 0))
    ((g1 c arg4 harg4 arg5 harg5 arg6 harg6 arg7 harg7 arg26 x2 x3 x4 x5).head (u := 1))
    ((g2 c arg4 harg4 arg5 harg5 arg6 harg6 arg7 harg7 arg26 x2 x3 x4 x5).head (u := 2))
    ((g3 c arg4 harg4 arg5 harg5 arg6 harg6 arg7 harg7 arg26 x2 x3 x4 x5).head (u := 3))
    ((g4 c arg4 harg4 arg5 harg5 arg6 harg6 arg7 harg7 arg26 x2 x3 x4 x5).head (u := 4))
    ((g5 c arg4 harg4 arg5 harg5 arg6 harg6 arg7 harg7 arg26 x2 x3 x4 x5).head (u := 5))
    ((g6 c arg4 harg4 arg5 harg5 arg6 harg6 arg7 harg7 arg26 x2 x3 x4 x5).head (u := 6))
    ((g7 c arg4 harg4 arg5 harg5 arg6 harg6 arg7 harg7 arg26 x2 x3 x4 x5).head (u := 7)) r j

theorem c1 (r : Fin 64) (j : Fin 1024) : C1 c arg3 harg3 arg4 harg4 arg5 harg5 arg6 harg6 arg7 harg7 arg26 x1 x2 x3 x4 x5 (ix2 r j) = readS (fun k => x1 (ix3 0 ⟨(7 - 1) * 64 + r.val, by omega⟩ k)) (iterS (fL x2 x3 x4) (s0A x5) 1) j :=
  CAT_at harg3 x1 (ch 1) (iterS (fL x2 x3 x4) (s0A x5) 1) ((good_turn (K := stV (iterS (fL x2 x3 x4) (s0A x5) 2)) (g8 c arg4 harg4 arg5 harg5 arg6 harg6 arg7 harg7 arg26 x2 x3 x4 x5)).head (u := 0))
    ((g9 c arg4 harg4 arg5 harg5 arg6 harg6 arg7 harg7 arg26 x2 x3 x4 x5).head (u := 1))
    ((g10 c arg4 harg4 arg5 harg5 arg6 harg6 arg7 harg7 arg26 x2 x3 x4 x5).head (u := 2))
    ((g11 c arg4 harg4 arg5 harg5 arg6 harg6 arg7 harg7 arg26 x2 x3 x4 x5).head (u := 3))
    ((g12 c arg4 harg4 arg5 harg5 arg6 harg6 arg7 harg7 arg26 x2 x3 x4 x5).head (u := 4))
    ((g13 c arg4 harg4 arg5 harg5 arg6 harg6 arg7 harg7 arg26 x2 x3 x4 x5).head (u := 5))
    ((g14 c arg4 harg4 arg5 harg5 arg6 harg6 arg7 harg7 arg26 x2 x3 x4 x5).head (u := 6))
    ((g15 c arg4 harg4 arg5 harg5 arg6 harg6 arg7 harg7 arg26 x2 x3 x4 x5).head (u := 7)) r j

theorem c2 (r : Fin 64) (j : Fin 1024) : C2 c arg3 harg3 arg4 harg4 arg5 harg5 arg6 harg6 arg7 harg7 arg26 x1 x2 x3 x4 x5 (ix2 r j) = readS (fun k => x1 (ix3 0 ⟨(7 - 2) * 64 + r.val, by omega⟩ k)) (iterS (fL x2 x3 x4) (s0A x5) 2) j :=
  CAT_at harg3 x1 (ch 2) (iterS (fL x2 x3 x4) (s0A x5) 2) ((good_turn (K := stV (iterS (fL x2 x3 x4) (s0A x5) 3)) (g16 c arg4 harg4 arg5 harg5 arg6 harg6 arg7 harg7 arg26 x2 x3 x4 x5)).head (u := 0))
    ((g17 c arg4 harg4 arg5 harg5 arg6 harg6 arg7 harg7 arg26 x2 x3 x4 x5).head (u := 1))
    ((g18 c arg4 harg4 arg5 harg5 arg6 harg6 arg7 harg7 arg26 x2 x3 x4 x5).head (u := 2))
    ((g19 c arg4 harg4 arg5 harg5 arg6 harg6 arg7 harg7 arg26 x2 x3 x4 x5).head (u := 3))
    ((g20 c arg4 harg4 arg5 harg5 arg6 harg6 arg7 harg7 arg26 x2 x3 x4 x5).head (u := 4))
    ((g21 c arg4 harg4 arg5 harg5 arg6 harg6 arg7 harg7 arg26 x2 x3 x4 x5).head (u := 5))
    ((g22 c arg4 harg4 arg5 harg5 arg6 harg6 arg7 harg7 arg26 x2 x3 x4 x5).head (u := 6))
    ((g23 c arg4 harg4 arg5 harg5 arg6 harg6 arg7 harg7 arg26 x2 x3 x4 x5).head (u := 7)) r j

theorem c3 (r : Fin 64) (j : Fin 1024) : C3 c arg3 harg3 arg4 harg4 arg5 harg5 arg6 harg6 arg7 harg7 arg26 x1 x2 x3 x4 x5 (ix2 r j) = readS (fun k => x1 (ix3 0 ⟨(7 - 3) * 64 + r.val, by omega⟩ k)) (iterS (fL x2 x3 x4) (s0A x5) 3) j :=
  CAT_at harg3 x1 (ch 3) (iterS (fL x2 x3 x4) (s0A x5) 3) ((good_turn (K := stV (iterS (fL x2 x3 x4) (s0A x5) 4)) (g24 c arg4 harg4 arg5 harg5 arg6 harg6 arg7 harg7 arg26 x2 x3 x4 x5)).head (u := 0))
    ((g25 c arg4 harg4 arg5 harg5 arg6 harg6 arg7 harg7 arg26 x2 x3 x4 x5).head (u := 1))
    ((g26 c arg4 harg4 arg5 harg5 arg6 harg6 arg7 harg7 arg26 x2 x3 x4 x5).head (u := 2))
    ((g27 c arg4 harg4 arg5 harg5 arg6 harg6 arg7 harg7 arg26 x2 x3 x4 x5).head (u := 3))
    ((g28 c arg4 harg4 arg5 harg5 arg6 harg6 arg7 harg7 arg26 x2 x3 x4 x5).head (u := 4))
    ((g29 c arg4 harg4 arg5 harg5 arg6 harg6 arg7 harg7 arg26 x2 x3 x4 x5).head (u := 5))
    ((g30 c arg4 harg4 arg5 harg5 arg6 harg6 arg7 harg7 arg26 x2 x3 x4 x5).head (u := 6))
    ((g31 c arg4 harg4 arg5 harg5 arg6 harg6 arg7 harg7 arg26 x2 x3 x4 x5).head (u := 7)) r j

theorem c4 (r : Fin 64) (j : Fin 1024) : C4 c arg3 harg3 arg4 harg4 arg5 harg5 arg6 harg6 arg7 harg7 arg26 x1 x2 x3 x4 x5 (ix2 r j) = readS (fun k => x1 (ix3 0 ⟨(7 - 4) * 64 + r.val, by omega⟩ k)) (iterS (fL x2 x3 x4) (s0A x5) 4) j :=
  CAT_at harg3 x1 (ch 4) (iterS (fL x2 x3 x4) (s0A x5) 4) ((good_turn (K := stV (iterS (fL x2 x3 x4) (s0A x5) 5)) (g32 c arg4 harg4 arg5 harg5 arg6 harg6 arg7 harg7 arg26 x2 x3 x4 x5)).head (u := 0))
    ((g33 c arg4 harg4 arg5 harg5 arg6 harg6 arg7 harg7 arg26 x2 x3 x4 x5).head (u := 1))
    ((g34 c arg4 harg4 arg5 harg5 arg6 harg6 arg7 harg7 arg26 x2 x3 x4 x5).head (u := 2))
    ((g35 c arg4 harg4 arg5 harg5 arg6 harg6 arg7 harg7 arg26 x2 x3 x4 x5).head (u := 3))
    ((g36 c arg4 harg4 arg5 harg5 arg6 harg6 arg7 harg7 arg26 x2 x3 x4 x5).head (u := 4))
    ((g37 c arg4 harg4 arg5 harg5 arg6 harg6 arg7 harg7 arg26 x2 x3 x4 x5).head (u := 5))
    ((g38 c arg4 harg4 arg5 harg5 arg6 harg6 arg7 harg7 arg26 x2 x3 x4 x5).head (u := 6))
    ((g39 c arg4 harg4 arg5 harg5 arg6 harg6 arg7 harg7 arg26 x2 x3 x4 x5).head (u := 7)) r j

theorem c5 (r : Fin 64) (j : Fin 1024) : C5 c arg3 harg3 arg4 harg4 arg5 harg5 arg6 harg6 arg7 harg7 arg26 x1 x2 x3 x4 x5 (ix2 r j) = readS (fun k => x1 (ix3 0 ⟨(7 - 5) * 64 + r.val, by omega⟩ k)) (iterS (fL x2 x3 x4) (s0A x5) 5) j :=
  CAT_at harg3 x1 (ch 5) (iterS (fL x2 x3 x4) (s0A x5) 5) ((good_turn (K := stV (iterS (fL x2 x3 x4) (s0A x5) 6)) (g40 c arg4 harg4 arg5 harg5 arg6 harg6 arg7 harg7 arg26 x2 x3 x4 x5)).head (u := 0))
    ((g41 c arg4 harg4 arg5 harg5 arg6 harg6 arg7 harg7 arg26 x2 x3 x4 x5).head (u := 1))
    ((g42 c arg4 harg4 arg5 harg5 arg6 harg6 arg7 harg7 arg26 x2 x3 x4 x5).head (u := 2))
    ((g43 c arg4 harg4 arg5 harg5 arg6 harg6 arg7 harg7 arg26 x2 x3 x4 x5).head (u := 3))
    ((g44 c arg4 harg4 arg5 harg5 arg6 harg6 arg7 harg7 arg26 x2 x3 x4 x5).head (u := 4))
    ((g45 c arg4 harg4 arg5 harg5 arg6 harg6 arg7 harg7 arg26 x2 x3 x4 x5).head (u := 5))
    ((g46 c arg4 harg4 arg5 harg5 arg6 harg6 arg7 harg7 arg26 x2 x3 x4 x5).head (u := 6))
    ((g47 c arg4 harg4 arg5 harg5 arg6 harg6 arg7 harg7 arg26 x2 x3 x4 x5).head (u := 7)) r j

theorem c6 (r : Fin 64) (j : Fin 1024) : C6 c arg3 harg3 arg4 harg4 arg5 harg5 arg6 harg6 arg7 harg7 arg26 x1 x2 x3 x4 x5 (ix2 r j) = readS (fun k => x1 (ix3 0 ⟨(7 - 6) * 64 + r.val, by omega⟩ k)) (iterS (fL x2 x3 x4) (s0A x5) 6) j :=
  CAT_at harg3 x1 (ch 6) (iterS (fL x2 x3 x4) (s0A x5) 6) ((good_turn (K := stV (iterS (fL x2 x3 x4) (s0A x5) 7)) (g48 c arg4 harg4 arg5 harg5 arg6 harg6 arg7 harg7 arg26 x2 x3 x4 x5)).head (u := 0))
    ((g49 c arg4 harg4 arg5 harg5 arg6 harg6 arg7 harg7 arg26 x2 x3 x4 x5).head (u := 1))
    ((g50 c arg4 harg4 arg5 harg5 arg6 harg6 arg7 harg7 arg26 x2 x3 x4 x5).head (u := 2))
    ((g51 c arg4 harg4 arg5 harg5 arg6 harg6 arg7 harg7 arg26 x2 x3 x4 x5).head (u := 3))
    ((g52 c arg4 harg4 arg5 harg5 arg6 harg6 arg7 harg7 arg26 x2 x3 x4 x5).head (u := 4))
    ((g53 c arg4 harg4 arg5 harg5 arg6 harg6 arg7 harg7 arg26 x2 x3 x4 x5).head (u := 5))
    ((g54 c arg4 harg4 arg5 harg5 arg6 harg6 arg7 harg7 arg26 x2 x3 x4 x5).head (u := 6))
    ((g55 c arg4 harg4 arg5 harg5 arg6 harg6 arg7 harg7 arg26 x2 x3 x4 x5).head (u := 7)) r j

theorem c7 (r : Fin 64) (j : Fin 1024) : C7 c arg3 harg3 arg4 harg4 arg5 harg5 arg6 harg6 arg7 harg7 arg26 x1 x2 x3 x4 x5 (ix2 r j) = readS (fun k => x1 (ix3 0 ⟨(7 - 7) * 64 + r.val, by omega⟩ k)) (iterS (fL x2 x3 x4) (s0A x5) 7) j :=
  CAT_at harg3 x1 (ch 7) (iterS (fL x2 x3 x4) (s0A x5) 7) ((good_turn (K := stV (iterS (fL x2 x3 x4) (s0A x5) 8)) (g56 c arg4 harg4 arg5 harg5 arg6 harg6 arg7 harg7 arg26 x2 x3 x4 x5)).head (u := 0))
    ((g57 c arg4 harg4 arg5 harg5 arg6 harg6 arg7 harg7 arg26 x2 x3 x4 x5).head (u := 1))
    ((g58 c arg4 harg4 arg5 harg5 arg6 harg6 arg7 harg7 arg26 x2 x3 x4 x5).head (u := 2))
    ((g59 c arg4 harg4 arg5 harg5 arg6 harg6 arg7 harg7 arg26 x2 x3 x4 x5).head (u := 3))
    ((g60 c arg4 harg4 arg5 harg5 arg6 harg6 arg7 harg7 arg26 x2 x3 x4 x5).head (u := 4))
    ((g61 c arg4 harg4 arg5 harg5 arg6 harg6 arg7 harg7 arg26 x2 x3 x4 x5).head (u := 5))
    ((g62 c arg4 harg4 arg5 harg5 arg6 harg6 arg7 harg7 arg26 x2 x3 x4 x5).head (u := 6))
    ((g63 c arg4 harg4 arg5 harg5 arg6 harg6 arg7 harg7 arg26 x2 x3 x4 x5).head (u := 7)) r j

theorem r_79_at (r : Fin 256) (j : Fin 1024) : kernelRun0_A.sl.r_79 c arg3 harg3 arg4 harg4 arg5 harg5 arg6 harg6 arg7 harg7 arg26 x1 x2 x3 x4 x5 (ix2 r j) = OB x1 (iterS (fL x2 x3 x4) (s0A x5)) ⟨4 * 64 + r.val, by omega⟩ j :=
  (show CATR (C3 c arg3 harg3 arg4 harg4 arg5 harg5 arg6 harg6 arg7 harg7 arg26 x1 x2 x3 x4 x5) (C2 c arg3 harg3 arg4 harg4 arg5 harg5 arg6 harg6 arg7 harg7 arg26 x1 x2 x3 x4 x5) (C1 c arg3 harg3 arg4 harg4 arg5 harg5 arg6 harg6 arg7 harg7 arg26 x1 x2 x3 x4 x5) (C0 c arg3 harg3 arg4 harg4 arg5 harg5 arg6 harg6 arg7 harg7 arg26 x1 x2 x3 x4 x5) (ix2 r j) = _ from
    CATR_at x1 (iterS (fL x2 x3 x4) (s0A x5)) 4 (by decide) (c3 c arg3 harg3 arg4 harg4 arg5 harg5 arg6 harg6 arg7 harg7 arg26 x1 x2 x3 x4 x5) (c2 c arg3 harg3 arg4 harg4 arg5 harg5 arg6 harg6 arg7 harg7 arg26 x1 x2 x3 x4 x5) (c1 c arg3 harg3 arg4 harg4 arg5 harg5 arg6 harg6 arg7 harg7 arg26 x1 x2 x3 x4 x5) (c0 c arg3 harg3 arg4 harg4 arg5 harg5 arg6 harg6 arg7 harg7 arg26 x1 x2 x3 x4 x5) r j)

theorem r_151_at (r : Fin 256) (j : Fin 1024) : kernelRun0_A.sl.r_151 c arg3 harg3 arg4 harg4 arg5 harg5 arg6 harg6 arg7 harg7 arg26 x1 x2 x3 x4 x5 (ix2 r j) = OB x1 (iterS (fL x2 x3 x4) (s0A x5)) ⟨0 * 64 + r.val, by omega⟩ j :=
  (show CATR (C7 c arg3 harg3 arg4 harg4 arg5 harg5 arg6 harg6 arg7 harg7 arg26 x1 x2 x3 x4 x5) (C6 c arg3 harg3 arg4 harg4 arg5 harg5 arg6 harg6 arg7 harg7 arg26 x1 x2 x3 x4 x5) (C5 c arg3 harg3 arg4 harg4 arg5 harg5 arg6 harg6 arg7 harg7 arg26 x1 x2 x3 x4 x5) (C4 c arg3 harg3 arg4 harg4 arg5 harg5 arg6 harg6 arg7 harg7 arg26 x1 x2 x3 x4 x5) (ix2 r j) = _ from
    CATR_at x1 (iterS (fL x2 x3 x4) (s0A x5)) 0 (by decide) (c7 c arg3 harg3 arg4 harg4 arg5 harg5 arg6 harg6 arg7 harg7 arg26 x1 x2 x3 x4 x5) (c6 c arg3 harg3 arg4 harg4 arg5 harg5 arg6 harg6 arg7 harg7 arg26 x1 x2 x3 x4 x5) (c5 c arg3 harg3 arg4 harg4 arg5 harg5 arg6 harg6 arg7 harg7 arg26 x1 x2 x3 x4 x5) (c4 c arg3 harg3 arg4 harg4 arg5 harg5 arg6 harg6 arg7 harg7 arg26 x1 x2 x3 x4 x5) r j)

end Cert.StepsA
-- ==== Proof.Rows.lean ====
/- The kernel's row stages as vector operations, each read at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Rows

open Idealize.ShloMosaic Cert.KernelIdeal Cert.KernelIdeal.Gen Cert.Spec

abbrev V1 := FVec Ideal S256x1024 .f32
abbrev R1 := FVec Ideal S1x1024 .f32

/-- Each row over the root of its shifted mean square. -/
def NRM (x : V1) : V1 :=
  mulf x (broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024)

theorem NRM_at (x : V1) (r : Fin 256) (j : Fin 1024) : NRM x (ix2 r j) = x (ix2 r j) * rs nRow (fun k => x (ix2 r k)) := by
  pointwise [NRM, rs]

def ROW (w : R1) : V1 := broadcastTo S256x1024 w broadcasts_S1x1024_S256x1024

def AFF (x : V1) (w sc sh : R1) : FVec Ideal S256x1024 .bf16 :=
  truncf .bf16 (addf (mulf (mulf (NRM x) (ROW w)) (ROW (addf (broadcast S1x1024 (Scalar.ofBits .f32 0x3F800000#32)) sc))) (ROW sh)) bitsLt_bf16_f32

theorem AFF_at (x : V1) (w sc sh : R1) (r : Fin 256) (j : Fin 1024) :
    AFF x w sc sh (ix2 r j) = modRow (fun k => x (ix2 r k)) (fun k => w (ix2 0 k)) (fun k => sc (ix2 0 k)) (fun k => sh (ix2 0 k)) j := by
  pointwise [AFF, ROW, NRM_at, modRow]

def RES (x y : V1) (w sc : R1) : V1 := addf x (mulf (mulf (NRM y) (ROW w)) (ROW sc))

theorem RES_at (x y : V1) (w sc : R1) (r : Fin 256) (j : Fin 1024) :
    RES x y w sc (ix2 r j) = resRow (fun k => x (ix2 r k)) (fun k => y (ix2 r k)) (fun k => w (ix2 0 k)) (fun k => sc (ix2 0 k)) j := by
  pointwise [RES, ROW, NRM_at, resRow]

def SG {s : Shape} (t : FVec Ideal s .f32) : FVec Ideal s .f32 :=
  divf (broadcast s (Scalar.ofBits .f32 0x3F800000#32)) (addf (broadcast s (Scalar.ofBits .f32 0x3F800000#32)) (exp (subf (broadcast s (Scalar.ofBits .f32 0x00000000#32)) t)))

theorem SG_at {s : Shape} (t : FVec Ideal s .f32) (i : s.Idx) : SG t i = sg (t i) := by
  pointwise [SG, sg]
  rw [zero_sub]

def D512 (h : FVec Ideal S256x1024 .bf16) (w : FVec Ideal S1024x512 .bf16) : FVec Ideal S256x512 .f32 :=
  matmul dot_S256x1024_S1024x512_S256x512_1_0_0_1_n_n none h w (constant S256x512 .f32 0x00000000#32)
def D2048 (h : FVec Ideal S256x1024 .bf16) (w : FVec Ideal S1024x2048 .bf16) : FVec Ideal S256x2048 .f32 :=
  matmul dot_S256x1024_S1024x2048_S256x2048_1_0_0_1_n_n none h w (constant S256x2048 .f32 0x00000000#32)
def D1024 (h : FVec Ideal S256x1024 .bf16) (w : FVec Ideal S1024x1024 .bf16) : V1 :=
  matmul dot_S256x1024_S1024x1024_S256x1024_1_0_0_1_n_n none h w (constant S256x1024 .f32 0x00000000#32)
def DB (h : FVec Ideal S256x512 .bf16) (w : FVec Ideal S512x1024 .bf16) : V1 :=
  matmul dot_S256x512_S512x1024_S256x1024_1_0_0_1_n_n none h w (constant S256x1024 .f32 0x00000000#32)
def DU (h : FVec Ideal S256x1024 .bf16) (w : FVec Ideal S1024x2816 .bf16) : FVec Ideal S256x2816 .f32 :=
  matmul dot_S256x1024_S1024x2816_S256x2816_1_0_0_1_n_n none h w (constant S256x2816 .f32 0x00000000#32)
def DD (h : FVec Ideal S256x2816 .bf16) (w : FVec Ideal S2816x1024 .bf16) : V1 :=
  matmul dot_S256x2816_S2816x1024_S256x1024_1_0_0_1_n_n none h w (constant S256x1024 .f32 0x00000000#32)

theorem D512_at (h : FVec Ideal S256x1024 .bf16) (w : FVec Ideal S1024x512 .bf16) (r : Fin 256) (j : Fin 512) :
    D512 h w (ix2 r j) = vm (fun k => h (ix2 r k)) (fun k j => w (ix2 k j)) j := by
  pointwise [D512, vm, zero_add]
theorem D2048_at (h : FVec Ideal S256x1024 .bf16) (w : FVec Ideal S1024x2048 .bf16) (r : Fin 256) (j : Fin 2048) :
    D2048 h w (ix2 r j) = vm (fun k => h (ix2 r k)) (fun k j => w (ix2 k j)) j := by
  pointwise [D2048, vm, zero_add]
theorem D1024_at (h : FVec Ideal S256x1024 .bf16) (w : FVec Ideal S1024x1024 .bf16) (r : Fin 256) (j : Fin 1024) :
    D1024 h w (ix2 r j) = vm (fun k => h (ix2 r k)) (fun k j => w (ix2 k j)) j := by
  pointwise [D1024, vm, zero_add]
theorem DB_at (h : FVec Ideal S256x512 .bf16) (w : FVec Ideal S512x1024 .bf16) (r : Fin 256) (j : Fin 1024) :
    DB h w (ix2 r j) = vm (fun k => h (ix2 r k)) (fun k j => w (ix2 k j)) j := by
  pointwise [DB, vm, zero_add]
theorem DU_at (h : FVec Ideal S256x1024 .bf16) (w : FVec Ideal S1024x2816 .bf16) (r : Fin 256) (j : Fin 2816) :
    DU h w (ix2 r j) = vm (fun k => h (ix2 r k)) (fun k j => w (ix2 k j)) j := by
  pointwise [DU, vm, zero_add]
theorem DD_at (h : FVec Ideal S256x2816 .bf16) (w : FVec Ideal S2816x1024 .bf16) (r : Fin 256) (j : Fin 1024) :
    DD h w (ix2 r j) = vm (fun k => h (ix2 r k)) (fun k j => w (ix2 k j)) j := by
  pointwise [DD, vm, zero_add]

/-- One head of the rows, over the root of its shifted mean square, weighted. -/
def HNRM (x : FVec Ideal S256x128 .f32) (g : FVec Ideal S1x128 .f32) : FVec Ideal S256x128 .f32 :=
  mulf (mulf x (broadcastTo S256x128 (rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)) (broadcastTo S256x128 g broadcasts_S1x128_S256x128)

theorem HNRM_at (x : FVec Ideal S256x128 .f32) (g : FVec Ideal S1x128 .f32) (r : Fin 256) (a : Fin 128) :
    HNRM x g (ix2 r a) = x (ix2 r a) * rs nHead (fun k => x (ix2 r k)) * g (ix2 0 a) := by
  pointwise [HNRM, rs]

/-- Four heads side by side. -/
def HEADS0 (o : V1) (g : FVec Ideal S1x128 .f32) : FVec Ideal S256x512 .f32 :=
  concatenate S256x512 1 [⟨S256x128, HNRM (extractStridedSlice S256x128 ![0, 0] o slices_S256x1024_o0_0_S256x128) g⟩,
    ⟨S256x128, HNRM (extractStridedSlice S256x128 ![0, 128] o slices_S256x1024_o0_128_S256x128) g⟩,
    ⟨S256x128, HNRM (extractStridedSlice S256x128 ![0, 256] o slices_S256x1024_o0_256_S256x128) g⟩,
    ⟨S256x128, HNRM (extractStridedSlice S256x128 ![0, 384] o slices_S256x1024_o0_384_S256x128) g⟩] concatenates_S256x128_S256x128_S256x128_S256x128_S256x512_d1
def HEADS1 (o : V1) (g : FVec Ideal S1x128 .f32) : FVec Ideal S256x512 .f32 :=
  concatenate S256x512 1 [⟨S256x128, HNRM (extractStridedSlice S256x128 ![0, 512] o slices_S256x1024_o0_512_S256x128) g⟩,
    ⟨S256x128, HNRM (extractStridedSlice S256x128 ![0, 640] o slices_S256x1024_o0_640_S256x128) g⟩,
    ⟨S256x128, HNRM (extractStridedSlice S256x128 ![0, 768] o slices_S256x1024_o0_768_S256x128) g⟩,
    ⟨S256x128, HNRM (extractStridedSlice S256x128 ![0, 896] o slices_S256x1024_o0_896_S256x128) g⟩] concatenates_S256x128_S256x128_S256x128_S256x128_S256x512_d1

theorem headRow_at (o : Fin 1024 → EReal) (g : Fin 128 → EReal) (c : ℕ) (hc : c ≤ 512) (j : Fin 512) (q : ℕ) (hq : q * 128 ≤ j.val)
    (hq' : j.val < q * 128 + 128) (i : Fin 1024) (hi : i.val = c + j.val) (a : Fin 128) (ha : a.val = j.val - q * 128)
    (f : Fin 128 → Fin 1024) (hf : ∀ k, (f k).val = c + q * 128 + k.val) :
    o i * rs nHead (fun k => o (f k)) * g a = headRow o g c hc j := by
  have hd : j.val / 128 = q := by omega
  unfold headRow
  have h1 : i = ⟨c + j.val, by omega⟩ := Fin.ext hi
  have h2 : a = ⟨j.val % 128, Nat.mod_lt _ (by decide)⟩ := Fin.ext (by simp only [ha]; omega)
  have h3 : (fun k => o (f k)) = fun k : Fin 128 => o ⟨c + j.val / 128 * 128 + k.val, by omega⟩ :=
    funext fun k => congrArg o (Fin.ext (by simp only [hf, hd]))
  rw [h1, h2, h3]

theorem HEADS0_at (o : V1) (g : FVec Ideal S1x128 .f32) (r : Fin 256) (j : Fin 512) :
    HEADS0 o g (ix2 r j) = headRow (fun k => o (ix2 r k)) (fun k => g (ix2 0 k)) 0 (by decide) j := by
  pointwise [HEADS0, HNRM_at, Nat.sub_sub, Nat.reduceAdd]
  by_cases h1 : j.val < 128
  · rw [dif_pos h1]
    exact headRow_at (fun k => o (ix2 r k)) (fun k => g (ix2 0 k)) 0 (by decide) j 0 (by omega) (by omega) ⟨j.val, by omega⟩ (by dsimp only <;> omega) ⟨j.val, by omega⟩ (by dsimp only <;> omega) (fun k => ⟨k.val, by omega⟩) (fun k => by dsimp only <;> omega)
  by_cases h2 : j.val - 128 < 128
  · rw [dif_neg h1, dif_pos h2]
    exact headRow_at (fun k => o (ix2 r k)) (fun k => g (ix2 0 k)) 0 (by decide) j 1 (by omega) (by omega) ⟨128 + (j.val - 128), by omega⟩ (by dsimp only <;> omega) ⟨j.val - 128, by omega⟩ (by dsimp only <;> omega) (fun k => ⟨128 + k.val, by omega⟩) (fun k => by dsimp only <;> omega)
  by_cases h3 : j.val - 256 < 128
  · rw [dif_neg h1, dif_neg h2, dif_pos h3]
    exact headRow_at (fun k => o (ix2 r k)) (fun k => g (ix2 0 k)) 0 (by decide) j 2 (by omega) (by omega) ⟨256 + (j.val - 256), by omega⟩ (by dsimp only <;> omega) ⟨j.val - 256, by omega⟩ (by dsimp only <;> omega) (fun k => ⟨256 + k.val, by omega⟩) (fun k => by dsimp only <;> omega)
  · rw [dif_neg h1, dif_neg h2, dif_neg h3]
    exact headRow_at (fun k => o (ix2 r k)) (fun k => g (ix2 0 k)) 0 (by decide) j 3 (by omega) (by omega) ⟨384 + (j.val - 384), by omega⟩ (by dsimp only <;> omega) ⟨j.val - 384, by omega⟩ (by dsimp only <;> omega) (fun k => ⟨384 + k.val, by omega⟩) (fun k => by dsimp only <;> omega)

theorem HEADS1_at (o : V1) (g : FVec Ideal S1x128 .f32) (r : Fin 256) (j : Fin 512) :
    HEADS1 o g (ix2 r j) = headRow (fun k => o (ix2 r k)) (fun k => g (ix2 0 k)) 512 (by decide) j := by
  pointwise [HEADS1, HNRM_at, Nat.sub_sub, Nat.reduceAdd]
  by_cases h1 : j.val < 128
  · rw [dif_pos h1]
    exact headRow_at (fun k => o (ix2 r k)) (fun k => g (ix2 0 k)) 512 (by decide) j 0 (by omega) (by omega) ⟨512 + j.val, by omega⟩ (by dsimp only <;> omega) ⟨j.val, by omega⟩ (by dsimp only <;> omega) (fun k => ⟨512 + k.val, by omega⟩) (fun k => by dsimp only <;> omega)
  by_cases h2 : j.val - 128 < 128
  · rw [dif_neg h1, dif_pos h2]
    exact headRow_at (fun k => o (ix2 r k)) (fun k => g (ix2 0 k)) 512 (by decide) j 1 (by omega) (by omega) ⟨640 + (j.val - 128), by omega⟩ (by dsimp only <;> omega) ⟨j.val - 128, by omega⟩ (by dsimp only <;> omega) (fun k => ⟨640 + k.val, by omega⟩) (fun k => by dsimp only <;> omega)
  by_cases h3 : j.val - 256 < 128
  · rw [dif_neg h1, dif_neg h2, dif_pos h3]
    exact headRow_at (fun k => o (ix2 r k)) (fun k => g (ix2 0 k)) 512 (by decide) j 2 (by omega) (by omega) ⟨768 + (j.val - 256), by omega⟩ (by dsimp only <;> omega) ⟨j.val - 256, by omega⟩ (by dsimp only <;> omega) (fun k => ⟨768 + k.val, by omega⟩) (fun k => by dsimp only <;> omega)
  · rw [dif_neg h1, dif_neg h2, dif_neg h3]
    exact headRow_at (fun k => o (ix2 r k)) (fun k => g (ix2 0 k)) 512 (by decide) j 3 (by omega) (by omega) ⟨896 + (j.val - 384), by omega⟩ (by dsimp only <;> omega) ⟨j.val - 384, by omega⟩ (by dsimp only <;> omega) (fun k => ⟨896 + k.val, by omega⟩) (fun k => by dsimp only <;> omega)

def OG (h : FVec Ideal S256x512 .f32) (t : FVec Ideal S256x512 .f32) : FVec Ideal S256x512 .bf16 :=
  truncf .bf16 (mulf h (mulf t (SG t))) bitsLt_bf16_f32

theorem OG_at (h t : FVec Ideal S256x512 .f32) (i : S256x512.Idx) : OG h t i = h i * silu (t i) := by
  pointwise [OG, silu, SG_at]

def MERGE (t : FVec Ideal S256x2048 .f32) (y z : V1) : FVec Ideal S256x1024 .bf16 :=
  truncf .bf16 (addf (mulf (extractStridedSlice S256x1024 ![0, 0] (SG t) slices_S256x2048_o0_0_S256x1024) y)
    (mulf (extractStridedSlice S256x1024 ![0, 1024] (SG t) slices_S256x2048_o0_1024_S256x1024) z)) bitsLt_bf16_f32

theorem MERGE_at (t : FVec Ideal S256x2048 .f32) (y z : V1) (r : Fin 256) (k : Fin 1024) :
    MERGE t y z (ix2 r k) = sg (t (ix2 r ⟨k.val, by omega⟩)) * y (ix2 r k) + sg (t (ix2 r ⟨1024 + k.val, by omega⟩)) * z (ix2 r k) := by
  pointwise [MERGE, SG_at]

def ACT (g u : FVec Ideal S256x2816 .f32) : FVec Ideal S256x2816 .bf16 := truncf .bf16 (mulf (mulf g (SG g)) u) bitsLt_bf16_f32

theorem ACT_at (g u : FVec Ideal S256x2816 .f32) (i : S256x2816.Idx) : ACT g u i = silu (g i) * u i := by
  pointwise [ACT, silu, SG_at]

/-- What a stretch of rows reads beside its own entries, as the kernel's vectors. -/
structure VW where
  md : Vec Ideal S1x1x6144 .f32
  hgn : Vec Ideal S1x128 .f32
  gln : Vec Ideal S1x128 .f32
  pre1 : Vec Ideal S1x1024 .f32
  post1 : Vec Ideal S1x1024 .f32
  pre2 : Vec Ideal S1x1024 .f32
  post2 : Vec Ideal S1x1024 .f32
  wgh : Vec Ideal S1024x512 .bf16
  wgg : Vec Ideal S1024x512 .bf16
  wgm : Vec Ideal S1024x2048 .bf16
  wbh : Vec Ideal S512x1024 .bf16
  wbg : Vec Ideal S512x1024 .bf16
  wo : Vec Ideal S1024x1024 .bf16
  wg : Vec Ideal S1024x2816 .bf16
  wu : Vec Ideal S1024x2816 .bf16
  wd : Vec Ideal S2816x1024 .bf16

/-- The same entries, as functions of their places. -/
def VW.wts (w : VW) : Wts where
  md k := w.md (ix3 0 0 k)
  hgn k := w.hgn (ix2 0 k)
  gln k := w.gln (ix2 0 k)
  pre1 k := w.pre1 (ix2 0 k)
  post1 k := w.post1 (ix2 0 k)
  pre2 k := w.pre2 (ix2 0 k)
  post2 k := w.post2 (ix2 0 k)
  wgh k j := w.wgh (ix2 k j)
  wgg k j := w.wgg (ix2 k j)
  wgm k j := w.wgm (ix2 k j)
  wbh k j := w.wbh (ix2 k j)
  wbg k j := w.wbg (ix2 k j)
  wo k j := w.wo (ix2 k j)
  wg k j := w.wg (ix2 k j)
  wu k j := w.wu (ix2 k j)
  wd k j := w.wd (ix2 k j)

theorem pay4_at (v : Vec Ideal S1x1x6144 .f32) (k : Fin 1024) : k0_pay4 v (ix2 0 k) = v (ix3 0 0 ⟨0 + k.val, by omega⟩) := by
  pointwise [k0_pay4, k0_pay3]
theorem pay5_at (v : Vec Ideal S1x1x6144 .f32) (k : Fin 1024) : k0_pay5 v (ix2 0 k) = v (ix3 0 0 ⟨1024 + k.val, by omega⟩) := by
  pointwise [k0_pay5, k0_pay3]
theorem pay6_at (v : Vec Ideal S1x1x6144 .f32) (k : Fin 1024) : k0_pay6 v (ix2 0 k) = v (ix3 0 0 ⟨2048 + k.val, by omega⟩) := by
  pointwise [k0_pay6, k0_pay3]
theorem pay7_at (v : Vec Ideal S1x1x6144 .f32) (k : Fin 1024) : k0_pay7 v (ix2 0 k) = v (ix3 0 0 ⟨3072 + k.val, by omega⟩) := by
  pointwise [k0_pay7, k0_pay3]
theorem pay8_at (v : Vec Ideal S1x1x6144 .f32) (k : Fin 1024) : k0_pay8 v (ix2 0 k) = v (ix3 0 0 ⟨4096 + k.val, by omega⟩) := by
  pointwise [k0_pay8, k0_pay3]
theorem pay9_at (v : Vec Ideal S1x1x6144 .f32) (k : Fin 1024) : k0_pay9 v (ix2 0 k) = v (ix3 0 0 ⟨5120 + k.val, by omega⟩) := by
  pointwise [k0_pay9, k0_pay3]

/-- The mixer's half of the tail, on 256 rows. -/
def MID (w : VW) (x o : V1) : V1 :=
  RES x (D1024 (MERGE (D2048 (AFF x w.pre1 (k0_pay5 w.md) (k0_pay4 w.md)) w.wgm)
    (DB (OG (HEADS0 o w.hgn) (D512 (AFF x w.pre1 (k0_pay5 w.md) (k0_pay4 w.md)) w.wgh)) w.wbh)
    (DB (OG (HEADS1 o w.gln) (D512 (AFF x w.pre1 (k0_pay5 w.md) (k0_pay4 w.md)) w.wgg)) w.wbg)) w.wo) w.post1 (k0_pay6 w.md)

/-- The feed-forward half, on 256 rows. -/
def FFN (w : VW) (z : V1) : V1 :=
  RES z (DD (ACT (DU (AFF z w.pre2 (k0_pay8 w.md) (k0_pay7 w.md)) w.wg) (DU (AFF z w.pre2 (k0_pay8 w.md) (k0_pay7 w.md)) w.wu)) w.wd) w.post2 (k0_pay9 w.md)

theorem MID_at (w : VW) (x o : V1) (r : Fin 256) (j : Fin 1024) :
    MID w x o (ix2 r j) = mid w.wts (fun k => x (ix2 r k)) (fun k => o (ix2 r k)) j := by
  simp only [MID, RES_at, D1024_at, MERGE_at, D2048_at, DB_at, OG_at, HEADS0_at, HEADS1_at, D512_at, AFF_at, pay4_at, pay5_at, pay6_at]
  rfl

theorem FFN_at (w : VW) (z : V1) (r : Fin 256) (j : Fin 1024) :
    FFN w z (ix2 r j) = ffn w.wts (fun k => z (ix2 r k)) j := by
  simp only [FFN, RES_at, DD_at, ACT_at, DU_at, AFF_at, pay7_at, pay8_at, pay9_at]
  rfl

/-- The 256 rows the kernel stores. -/
def OUT (w : VW) (x : Vec Ideal S1x256x1024 .f32) (oi : Vec Ideal S1x256x1024 .bf16) (ob : V1) : Vec Ideal S1x256x1024 .f32 :=
  shapeCast S1x256x1024 (FFN w (MID w (shapeCast S256x1024 x shapeCasts_S1x256x1024_S256x1024)
    (addf (extf .f32 (shapeCast S256x1024 oi shapeCasts_S1x256x1024_S256x1024) bitsLt_bf16_f32) ob))) shapeCasts_S256x1024_S1x256x1024

theorem OUT_at (w : VW) (x : Vec Ideal S1x256x1024 .f32) (oi : Vec Ideal S1x256x1024 .bf16) (ob : V1) (r : Fin 256) (j : Fin 1024) :
    OUT w x oi ob (ix3 0 r j) = rowOut w.wts (fun k => x (ix3 0 r k)) (fun k => oi (ix3 0 r k) + ob (ix2 r k)) j := by
  pointwise [OUT, FFN_at, MID_at]
  rfl

end Cert.Rows

end
-- ==== Proof.Block.lean ====
/- The output block of a grid point: two halves of 256 rows, and the arguments the body loads whole. -/
module

public import proofs.«01_k».proof.Proof.Chain
public import proofs.«01_k».proof.Proof.Rows

@[expose] public section

set_option maxRecDepth 16384

noncomputable section

namespace Cert.Block

open Idealize.ShloMosaic Cert.KernelIdeal Cert.KernelIdeal.Gen Cert.Spec Cert.Chain Cert.Rows

variable {sg' : RefSig} {κ : Kind} {sp : Space}

theorem whole0 {m : Memref sg' κ sp S1x1x6144 .f32} (h : m.IsWhole) (x : Vec Ideal S1x1x6144 .f32) (inb : ∀ a, (![0, 0, 0] : Fin 3 → ℕ) a + S1x1x6144.size a ≤ S1x1x6144.size a) :
    View.readAt (Elt Ideal) m.view (Rect.unit ![0, 0, 0] S1x1x6144.size inb : Rect S1x1x6144).toLoadRect (h.unread x) = x := by
  show View.ld (View.read (Elt Ideal) m.view (h.unread x)) (Rect.unit ![0, 0, 0] S1x1x6144.size inb) = x
  rw [h.read_unread]
  exact View.ld_unit_zero (by decide) inb x

theorem whole1 {m : Memref sg' κ sp S1x128 .f32} (h : m.IsWhole) (x : Vec Ideal S1x128 .f32) (inb : ∀ a, (![0, 0] : Fin 2 → ℕ) a + S1x128.size a ≤ S1x128.size a) :
    View.readAt (Elt Ideal) m.view (Rect.unit ![0, 0] S1x128.size inb : Rect S1x128).toLoadRect (h.unread x) = x := by
  show View.ld (View.read (Elt Ideal) m.view (h.unread x)) (Rect.unit ![0, 0] S1x128.size inb) = x
  rw [h.read_unread]
  exact View.ld_unit_zero (by decide) inb x

theorem whole2 {m : Memref sg' κ sp S1x128 .f32} (h : m.IsWhole) (x : Vec Ideal S1x128 .f32) (inb : ∀ a, (![0, 0] : Fin 2 → ℕ) a + S1x128.size a ≤ S1x128.size a) :
    View.readAt (Elt Ideal) m.view (Rect.unit ![0, 0] S1x128.size inb : Rect S1x128).toLoadRect (h.unread x) = x := by
  show View.ld (View.read (Elt Ideal) m.view (h.unread x)) (Rect.unit ![0, 0] S1x128.size inb) = x
  rw [h.read_unread]
  exact View.ld_unit_zero (by decide) inb x

theorem whole3 {m : Memref sg' κ sp S1x1024 .f32} (h : m.IsWhole) (x : Vec Ideal S1x1024 .f32) (inb : ∀ a, (![0, 0] : Fin 2 → ℕ) a + S1x1024.size a ≤ S1x1024.size a) :
    View.readAt (Elt Ideal) m.view (Rect.unit ![0, 0] S1x1024.size inb : Rect S1x1024).toLoadRect (h.unread x) = x := by
  show View.ld (View.read (Elt Ideal) m.view (h.unread x)) (Rect.unit ![0, 0] S1x1024.size inb) = x
  rw [h.read_unread]
  exact View.ld_unit_zero (by decide) inb x

theorem whole4 {m : Memref sg' κ sp S1x1024 .f32} (h : m.IsWhole) (x : Vec Ideal S1x1024 .f32) (inb : ∀ a, (![0, 0] : Fin 2 → ℕ) a + S1x1024.size a ≤ S1x1024.size a) :
    View.readAt (Elt Ideal) m.view (Rect.unit ![0, 0] S1x1024.size inb : Rect S1x1024).toLoadRect (h.unread x) = x := by
  show View.ld (View.read (Elt Ideal) m.view (h.unread x)) (Rect.unit ![0, 0] S1x1024.size inb) = x
  rw [h.read_unread]
  exact View.ld_unit_zero (by decide) inb x

theorem whole5 {m : Memref sg' κ sp S1x1024 .f32} (h : m.IsWhole) (x : Vec Ideal S1x1024 .f32) (inb : ∀ a, (![0, 0] : Fin 2 → ℕ) a + S1x1024.size a ≤ S1x1024.size a) :
    View.readAt (Elt Ideal) m.view (Rect.unit ![0, 0] S1x1024.size inb : Rect S1x1024).toLoadRect (h.unread x) = x := by
  show View.ld (View.read (Elt Ideal) m.view (h.unread x)) (Rect.unit ![0, 0] S1x1024.size inb) = x
  rw [h.read_unread]
  exact View.ld_unit_zero (by decide) inb x

theorem whole6 {m : Memref sg' κ sp S1x1024 .f32} (h : m.IsWhole) (x : Vec Ideal S1x1024 .f32) (inb : ∀ a, (![0, 0] : Fin 2 → ℕ) a + S1x1024.size a ≤ S1x1024.size a) :
    View.readAt (Elt Ideal) m.view (Rect.unit ![0, 0] S1x1024.size inb : Rect S1x1024).toLoadRect (h.unread x) = x := by
  show View.ld (View.read (Elt Ideal) m.view (h.unread x)) (Rect.unit ![0, 0] S1x1024.size inb) = x
  rw [h.read_unread]
  exact View.ld_unit_zero (by decide) inb x

theorem whole7 {m : Memref sg' κ sp S1024x512 .bf16} (h : m.IsWhole) (x : Vec Ideal S1024x512 .bf16) (inb : ∀ a, (![0, 0] : Fin 2 → ℕ) a + S1024x512.size a ≤ S1024x512.size a) :
    View.readAt (Elt Ideal) m.view (Rect.unit ![0, 0] S1024x512.size inb : Rect S1024x512).toLoadRect (h.unread x) = x := by
  show View.ld (View.read (Elt Ideal) m.view (h.unread x)) (Rect.unit ![0, 0] S1024x512.size inb) = x
  rw [h.read_unread]
  exact View.ld_unit_zero (by decide) inb x

theorem whole8 {m : Memref sg' κ sp S1024x512 .bf16} (h : m.IsWhole) (x : Vec Ideal S1024x512 .bf16) (inb : ∀ a, (![0, 0] : Fin 2 → ℕ) a + S1024x512.size a ≤ S1024x512.size a) :
    View.readAt (Elt Ideal) m.view (Rect.unit ![0, 0] S1024x512.size inb : Rect S1024x512).toLoadRect (h.unread x) = x := by
  show View.ld (View.read (Elt Ideal) m.view (h.unread x)) (Rect.unit ![0, 0] S1024x512.size inb) = x
  rw [h.read_unread]
  exact View.ld_unit_zero (by decide) inb x

theorem whole9 {m : Memref sg' κ sp S1024x2048 .bf16} (h : m.IsWhole) (x : Vec Ideal S1024x2048 .bf16) (inb : ∀ a, (![0, 0] : Fin 2 → ℕ) a + S1024x2048.size a ≤ S1024x2048.size a) :
    View.readAt (Elt Ideal) m.view (Rect.unit ![0, 0] S1024x2048.size inb : Rect S1024x2048).toLoadRect (h.unread x) = x := by
  show View.ld (View.read (Elt Ideal) m.view (h.unread x)) (Rect.unit ![0, 0] S1024x2048.size inb) = x
  rw [h.read_unread]
  exact View.ld_unit_zero (by decide) inb x

theorem whole10 {m : Memref sg' κ sp S512x1024 .bf16} (h : m.IsWhole) (x : Vec Ideal S512x1024 .bf16) (inb : ∀ a, (![0, 0] : Fin 2 → ℕ) a + S512x1024.size a ≤ S512x1024.size a) :
    View.readAt (Elt Ideal) m.view (Rect.unit ![0, 0] S512x1024.size inb : Rect S512x1024).toLoadRect (h.unread x) = x := by
  show View.ld (View.read (Elt Ideal) m.view (h.unread x)) (Rect.unit ![0, 0] S512x1024.size inb) = x
  rw [h.read_unread]
  exact View.ld_unit_zero (by decide) inb x

theorem whole11 {m : Memref sg' κ sp S512x1024 .bf16} (h : m.IsWhole) (x : Vec Ideal S512x1024 .bf16) (inb : ∀ a, (![0, 0] : Fin 2 → ℕ) a + S512x1024.size a ≤ S512x1024.size a) :
    View.readAt (Elt Ideal) m.view (Rect.unit ![0, 0] S512x1024.size inb : Rect S512x1024).toLoadRect (h.unread x) = x := by
  show View.ld (View.read (Elt Ideal) m.view (h.unread x)) (Rect.unit ![0, 0] S512x1024.size inb) = x
  rw [h.read_unread]
  exact View.ld_unit_zero (by decide) inb x

theorem whole12 {m : Memref sg' κ sp S1024x1024 .bf16} (h : m.IsWhole) (x : Vec Ideal S1024x1024 .bf16) (inb : ∀ a, (![0, 0] : Fin 2 → ℕ) a + S1024x1024.size a ≤ S1024x1024.size a) :
    View.readAt (Elt Ideal) m.view (Rect.unit ![0, 0] S1024x1024.size inb : Rect S1024x1024).toLoadRect (h.unread x) = x := by
  show View.ld (View.read (Elt Ideal) m.view (h.unread x)) (Rect.unit ![0, 0] S1024x1024.size inb) = x
  rw [h.read_unread]
  exact View.ld_unit_zero (by decide) inb x

theorem whole13 {m : Memref sg' κ sp S1024x2816 .bf16} (h : m.IsWhole) (x : Vec Ideal S1024x2816 .bf16) (inb : ∀ a, (![0, 0] : Fin 2 → ℕ) a + S1024x2816.size a ≤ S1024x2816.size a) :
    View.readAt (Elt Ideal) m.view (Rect.unit ![0, 0] S1024x2816.size inb : Rect S1024x2816).toLoadRect (h.unread x) = x := by
  show View.ld (View.read (Elt Ideal) m.view (h.unread x)) (Rect.unit ![0, 0] S1024x2816.size inb) = x
  rw [h.read_unread]
  exact View.ld_unit_zero (by decide) inb x

theorem whole14 {m : Memref sg' κ sp S1024x2816 .bf16} (h : m.IsWhole) (x : Vec Ideal S1024x2816 .bf16) (inb : ∀ a, (![0, 0] : Fin 2 → ℕ) a + S1024x2816.size a ≤ S1024x2816.size a) :
    View.readAt (Elt Ideal) m.view (Rect.unit ![0, 0] S1024x2816.size inb : Rect S1024x2816).toLoadRect (h.unread x) = x := by
  show View.ld (View.read (Elt Ideal) m.view (h.unread x)) (Rect.unit ![0, 0] S1024x2816.size inb) = x
  rw [h.read_unread]
  exact View.ld_unit_zero (by decide) inb x

theorem whole15 {m : Memref sg' κ sp S2816x1024 .bf16} (h : m.IsWhole) (x : Vec Ideal S2816x1024 .bf16) (inb : ∀ a, (![0, 0] : Fin 2 → ℕ) a + S2816x1024.size a ≤ S2816x1024.size a) :
    View.readAt (Elt Ideal) m.view (Rect.unit ![0, 0] S2816x1024.size inb : Rect S2816x1024).toLoadRect (h.unread x) = x := by
  show View.ld (View.read (Elt Ideal) m.view (h.unread x)) (Rect.unit ![0, 0] S2816x1024.size inb) = x
  rw [h.read_unread]
  exact View.ld_unit_zero (by decide) inb x

/-- Half of a block's rows, from row `o`. -/
abbrev half (o : ℕ) (ho : o ≤ 256) : Rect S1x512x1024 :=
  Rect.unit ![0, o, 0] S1x256x1024.size (by intro a; fin_cases a <;> simp <;> omega)

theorem half_at {e : EltTy} {m : Memref sg' κ sp S1x512x1024 e} (h : m.IsWhole) (x : Vec Ideal S1x512x1024 e) (o : ℕ) (ho : o ≤ 256) (r : Fin 256) (k : Fin 1024) :
    View.readAt (Elt Ideal) m.view (half o ho).toLoadRect (h.unread x) (ix3 0 r k) = x (ix3 0 ⟨o + r.val, by omega⟩ k) := by
  show View.ld (View.read (Elt Ideal) m.view (h.unread x)) (Rect.unit ![0, o, 0] S1x256x1024.size _) (ix3 0 r k) = _
  rw [h.read_unread]
  pointwise

theorem half_row {m8 : Memref sg' κ sp S1x512x1024 .f32} {m2 : Memref sg' κ sp S1x512x1024 .bf16} (w : VW) (h8 : m8.IsWhole) (h2 : m2.IsWhole)
    (x : Vec Ideal S1x512x1024 .f32) (oi : Vec Ideal S1x512x1024 .bf16) (o : ℕ) (ho : o ≤ 256) (ob : V1) (f : Fin 512 → Fin 1024 → EReal)
    (hob : ∀ (r : Fin 256) (j : Fin 1024), ob (ix2 r j) = f ⟨o + r.val, by omega⟩ j) (r : Fin 256) (j : Fin 1024) :
    OUT w (View.readAt (Elt Ideal) m8.view (half o ho).toLoadRect (h8.unread x)) (View.readAt (Elt Ideal) m2.view (half o ho).toLoadRect (h2.unread oi)) ob (ix3 0 r j) =
      rowOut w.wts (fun k => x (ix3 0 ⟨o + r.val, by omega⟩ k)) (fun k => oi (ix3 0 ⟨o + r.val, by omega⟩ k) + f ⟨o + r.val, by omega⟩ k) j := by
  rw [OUT_at]
  simp only [half_at, hob]

theorem two_at (p q : Vec Ideal S1x256x1024 .f32) (f : Fin 512 → Fin 1024 → EReal)
    (hp : ∀ (r : Fin 256) (j : Fin 1024), p (ix3 0 r j) = f ⟨256 + r.val, by omega⟩ j) (hq : ∀ (r : Fin 256) (j : Fin 1024), q (ix3 0 r j) = f ⟨0 + r.val, by omega⟩ j)
    (R : Fin 512) (j : Fin 1024) :
    View.canon [(⟨half 256 (by decide), p⟩ : View.Piece (Elt Ideal) S1x512x1024 .f32), ⟨half 0 (by decide), q⟩] (ix3 0 R j) = f R j := by
  by_cases hR : R.val < 256
  · refine (View.canon_cons_of_not_mem _ _ ?_).trans ?_
    · intro hm
      change ix3 0 R j ∈ (half 256 (by decide)).set at hm
      rw [Rect.mem_set_unit] at hm
      have h2 : 256 ≤ R.val := (hm 1).1
      omega
    · have e : (ix3 0 R j : S1x512x1024.Idx) = (half 0 (by decide)).emb (ix3 0 ⟨R.val, hR⟩ j) := by
        funext a; fin_cases a <;> apply Fin.ext <;> simp [ix3, Rect.emb, Rect.unit]
      rw [e, View.canon_cons_emb, hq]
      congr 1
      apply Fin.ext; simp
  · have e : (ix3 0 R j : S1x512x1024.Idx) = (half 256 (by decide)).emb (ix3 0 ⟨R.val - 256, by omega⟩ j) := by
      funext a; fin_cases a <;> apply Fin.ext <;> simp [ix3, Rect.emb, Rect.unit]
      omega
    rw [e, View.canon_cons_emb, hp]
    congr 1
    apply Fin.ext; dsimp only; omega

end Cert.Block

end
-- ==== Proof.Words.lean ====
/- The kernel's own words for the rows it stores, brought to `Cert.Rows.OUT`, for either half of a block. -/
module

public import proofs.«01_k».proof.Proof.Rows

@[expose] public section

set_option maxRecDepth 16384
set_option maxHeartbeats 1000000

noncomputable section

namespace Cert.Words

open Idealize.ShloMosaic Cert.KernelIdeal Cert.KernelIdeal.Gen Cert.Spec Cert.Rows

abbrev X1 (x : Vec Ideal S1x256x1024 .f32) : V1 := shapeCast S256x1024 x shapeCasts_S1x256x1024_S256x1024
abbrev O1 (oi : Vec Ideal S1x256x1024 .bf16) (ob : V1) : V1 :=
  addf (extf .f32 (shapeCast S256x1024 oi shapeCasts_S1x256x1024_S256x1024) bitsLt_bf16_f32) ob

abbrev GT (t : FVec Ideal S256x512 .f32) : FVec Ideal S256x512 .f32 := mulf t (SG t)

variable (w : VW) (x : Vec Ideal S1x256x1024 .f32) (oi : Vec Ideal S1x256x1024 .bf16) (ob : V1)

/-! ## The rows 0 to 255 -/

abbrev h0 := k0_pay254 (k0_pay4 w.md) (k0_pay5 w.md) (k0_pay253 x) w.pre1
abbrev y0 := k0_pay269 (k0_pay257 (k0_pay4 w.md) (k0_pay5 w.md) (k0_pay253 x) w.pre1 w.wgh) (k0_pay266 ob oi) (k0_pay267 ob oi w.hgn) (k0_pay268 ob oi) w.hgn w.hgn w.hgn w.wbh
abbrev z0 := k0_pay276 (k0_pay258 (h0 w x) w.wgg) (k0_pay272 (k0_pay270 (k0_pay266 ob oi)) (k0_pay271 (k0_pay266 ob oi)) w.gln) (k0_pay273 (k0_pay266 ob oi) w.gln)
  (k0_pay274 (k0_pay266 ob oi) w.gln) (k0_pay275 (k0_pay266 ob oi)) w.gln w.wbg
abbrev m0 := k0_pay286 (k0_pay6 w.md) (k0_pay252 x) (k0_pay259 (h0 w x) w.wgm) (y0 w x oi ob) (z0 w x oi ob) w.wo w.post1
abbrev f0 := k0_pay288 (k0_pay7 w.md) (k0_pay8 w.md) (m0 w x oi ob)
  (k0_pay287 (k0_pay6 w.md) (k0_pay252 x) (k0_pay259 (h0 w x) w.wgm) (y0 w x oi ob) (z0 w x oi ob) w.wo w.post1) w.pre2
/-- As the kernel writes them. -/
def rows0 : Vec Ideal S1x256x1024 .f32 :=
  k0_pay1 (k0_pay9 w.md) (m0 w x oi ob) (k0_pay291 (f0 w x oi ob) w.wg w.wu w.wd) (k0_pay294 (k0_pay293 (f0 w x oi ob) w.wg w.wu w.wd)) w.post2

theorem h0_eq : k0_pay254 (k0_pay4 w.md) (k0_pay5 w.md) (k0_pay253 x) w.pre1 = AFF (X1 x) w.pre1 (k0_pay5 w.md) (k0_pay4 w.md) := rfl
theorem t0_eq : k0_pay257 (k0_pay4 w.md) (k0_pay5 w.md) (k0_pay253 x) w.pre1 w.wgh = GT (D512 (AFF (X1 x) w.pre1 (k0_pay5 w.md) (k0_pay4 w.md)) w.wgh) := rfl
theorem y0_eq (t) : k0_pay269 (GT t) (k0_pay266 ob oi) (k0_pay267 ob oi w.hgn) (k0_pay268 ob oi) w.hgn w.hgn w.hgn w.wbh = DB (OG (HEADS0 (O1 oi ob) w.hgn) t) w.wbh := rfl
theorem s0_eq (h : FVec Ideal S256x1024 .bf16) : k0_pay258 h w.wgg = GT (D512 h w.wgg) := rfl
theorem z0_eq (t) : k0_pay276 (GT t) (k0_pay272 (k0_pay270 (k0_pay266 ob oi)) (k0_pay271 (k0_pay266 ob oi)) w.gln) (k0_pay273 (k0_pay266 ob oi) w.gln)
  (k0_pay274 (k0_pay266 ob oi) w.gln) (k0_pay275 (k0_pay266 ob oi)) w.gln w.wbg = DB (OG (HEADS1 (O1 oi ob) w.gln) t) w.wbg := rfl
theorem m0_eq (h : FVec Ideal S256x1024 .bf16) (y z : V1) : k0_pay286 (k0_pay6 w.md) (k0_pay252 x) (k0_pay259 h w.wgm) y z w.wo w.post1 =
  RES (X1 x) (D1024 (MERGE (D2048 h w.wgm) y z) w.wo) w.post1 (k0_pay6 w.md) := rfl
theorem f0_eq (t : FVec Ideal S256x2048 .f32) (y z : V1) : k0_pay288 (k0_pay7 w.md) (k0_pay8 w.md) (k0_pay286 (k0_pay6 w.md) (k0_pay252 x) t y z w.wo w.post1)
  (k0_pay287 (k0_pay6 w.md) (k0_pay252 x) t y z w.wo w.post1) w.pre2 = AFF (k0_pay286 (k0_pay6 w.md) (k0_pay252 x) t y z w.wo w.post1) w.pre2 (k0_pay8 w.md) (k0_pay7 w.md) := rfl
theorem o0_eq (m : V1) (h : FVec Ideal S256x1024 .bf16) : k0_pay1 (k0_pay9 w.md) m (k0_pay291 h w.wg w.wu w.wd) (k0_pay294 (k0_pay293 h w.wg w.wu w.wd)) w.post2 =
  shapeCast S1x256x1024 (RES m (DD (ACT (DU h w.wg) (DU h w.wu)) w.wd) w.post2 (k0_pay9 w.md)) shapeCasts_S256x1024_S1x256x1024 := rfl

theorem rows0_eq : rows0 w x oi ob = OUT w x oi ob := by
  unfold rows0 f0 m0 y0 z0 h0
  rw [o0_eq, f0_eq, m0_eq, t0_eq, y0_eq, s0_eq, z0_eq, h0_eq]
  rfl

/-! ## The rows 256 to 511 -/

abbrev h1 := k0_pay256 (k0_pay4 w.md) (k0_pay5 w.md) x w.pre1
abbrev y1 := k0_pay282 (k0_pay260 (h1 w x) w.wgh) (k0_pay277 ob oi) (k0_pay278 ob oi w.hgn) (k0_pay279 ob oi w.hgn) (k0_pay280 ob oi) (k0_pay281 ob oi) w.hgn w.hgn w.wbh
abbrev z1 := k0_pay284 (k0_pay277 ob oi) (k0_pay283 (k0_pay277 ob oi)) w.gln w.gln w.gln w.gln
abbrev d1 := k0_pay285 (k0_pay264 (k0_pay261 (h1 w x) w.wgg) (k0_pay262 (h1 w x) w.wgg) k0_pay263) (k0_pay265 (h1 w x) w.wgm) (y1 w x oi ob) (z1 w oi ob) w.wbg w.wo
/-- As the kernel writes them. -/
def rows1 : Vec Ideal S1x256x1024 .f32 :=
  k0_pay2 (k0_pay9 w.md) (k0_pay289 (k0_pay6 w.md) (k0_pay255 x) (d1 w x oi ob) w.post1)
    (k0_pay292 (k0_pay7 w.md) (k0_pay290 (k0_pay6 w.md) (k0_pay8 w.md) (k0_pay255 x) (d1 w x oi ob) w.post1 w.pre2) w.wg w.wu w.wd) w.post2

theorem h1_eq : k0_pay256 (k0_pay4 w.md) (k0_pay5 w.md) x w.pre1 = AFF (X1 x) w.pre1 (k0_pay5 w.md) (k0_pay4 w.md) := rfl
theorem y1_eq (h : FVec Ideal S256x1024 .bf16) : k0_pay282 (k0_pay260 h w.wgh) (k0_pay277 ob oi) (k0_pay278 ob oi w.hgn) (k0_pay279 ob oi w.hgn) (k0_pay280 ob oi) (k0_pay281 ob oi) w.hgn w.hgn w.wbh =
  DB (OG (HEADS0 (O1 oi ob) w.hgn) (D512 h w.wgh)) w.wbh := rfl
theorem d1_eq (h : FVec Ideal S256x1024 .bf16) (y : V1) : k0_pay285 (k0_pay264 (k0_pay261 h w.wgg) (k0_pay262 h w.wgg) k0_pay263) (k0_pay265 h w.wgm) y (z1 w oi ob) w.wbg w.wo =
  D1024 (MERGE (D2048 h w.wgm) y (DB (OG (HEADS1 (O1 oi ob) w.gln) (D512 h w.wgg)) w.wbg)) w.wo := rfl
theorem m1_eq (d : V1) : k0_pay289 (k0_pay6 w.md) (k0_pay255 x) d w.post1 = RES (X1 x) d w.post1 (k0_pay6 w.md) := rfl
theorem f1_eq (d : V1) : k0_pay292 (k0_pay7 w.md) (k0_pay290 (k0_pay6 w.md) (k0_pay8 w.md) (k0_pay255 x) d w.post1 w.pre2) w.wg w.wu w.wd =
  DD (ACT (DU (AFF (RES (X1 x) d w.post1 (k0_pay6 w.md)) w.pre2 (k0_pay8 w.md) (k0_pay7 w.md)) w.wg) (DU (AFF (RES (X1 x) d w.post1 (k0_pay6 w.md)) w.pre2 (k0_pay8 w.md) (k0_pay7 w.md)) w.wu)) w.wd := rfl
theorem o1_eq (m d : V1) : k0_pay2 (k0_pay9 w.md) m d w.post2 = shapeCast S1x256x1024 (RES m d w.post2 (k0_pay9 w.md)) shapeCasts_S256x1024_S1x256x1024 := rfl

theorem rows1_eq : rows1 w x oi ob = OUT w x oi ob := by
  unfold rows1 d1 y1 h1
  rw [o1_eq, m1_eq, f1_eq, d1_eq, y1_eq, h1_eq]
  rfl

end Cert.Words

end
-- ==== Proof.PointA.lean ====
/- What one grid point leaves (a batch opens): the state in the scratch, and the rows of its output block. -/
module

public import proofs.«01_k».proof.Proof.StepsA
public import proofs.«01_k».proof.Proof.Block
public import proofs.«01_k».proof.Proof.Words
import all proofs.«01_k».proof.Proof.Gen.KernelIdeal.Frame.RunA

@[expose] public section

set_option maxRecDepth 16384
set_option maxHeartbeats 4000000

noncomputable section

namespace Cert.PointA

open Idealize.ShloMosaic Idealize.ShloMosaic.TcCoe Cert.KernelIdeal Cert.KernelIdeal.Gen Cert.Spec Cert.Chain Cert.Rows Cert.Block

theorem state  (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg7 : Memref sig .tc .vmem S1x8x128x128 .f32) (harg7 : arg7.IsWhole) (arg8 : Memref sig .tc .vmem S1x512x1024 .f32) (harg8 : arg8.IsWhole) (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x512x1024 .f32) (harg25 : arg25.IsWhole) (arg26 : Memref sig .tc .vmem S8x128x128 .f32) (harg26 : arg26.IsWhole) (hc0 : cond0_0 i)
    (x0 : Vec Ideal S1x512x1024 .bf16) (x1 : Vec Ideal S1x512x1024 .bf16) (x2 : Vec Ideal S1x512x1024 .bf16) (x3 : Vec Ideal S1x512x1024 .bf16) (x4 : Vec Ideal S1x8x1x1024 .f32) (x5 : Vec Ideal S1x8x128x128 .f32) (x6 : Vec Ideal S1x512x1024 .f32) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) (u : Fin 8) (a b : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 (ix3 u a b) = iterS (fL x2 x3 x4) (s0A x5) 8 u a b := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22)]
  unfold kernelRun0_A
  dsimp only
  exact good_all (good_upd harg4 harg5 harg6 x2 x3 x4 7 7 (iterS (fL x2 x3 x4) (s0A x5) 7) (StepsA.g63 c arg4 harg4 arg5 harg5 arg6 harg6 arg7 harg7 arg26 x2 x3 x4 x5)) u a b

def WL (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) : VW :=
  { md := (View.readAt (Elt Ideal) arg9.view (Rect.unit ![0, 0, 0] S1x1x6144.size (by decide)).toLoadRect (harg9.unread x7)), hgn := (View.readAt (Elt Ideal) arg10.view (Rect.unit ![0, 0] S1x128.size (by decide)).toLoadRect (harg10.unread x8)), gln := (View.readAt (Elt Ideal) arg11.view (Rect.unit ![0, 0] S1x128.size (by decide)).toLoadRect (harg11.unread x9)), pre1 := (View.readAt (Elt Ideal) arg12.view (Rect.unit ![0, 0] S1x1024.size (by decide)).toLoadRect (harg12.unread x10)), post1 := (View.readAt (Elt Ideal) arg13.view (Rect.unit ![0, 0] S1x1024.size (by decide)).toLoadRect (harg13.unread x11)), pre2 := (View.readAt (Elt Ideal) arg14.view (Rect.unit ![0, 0] S1x1024.size (by decide)).toLoadRect (harg14.unread x12)), post2 := (View.readAt (Elt Ideal) arg15.view (Rect.unit ![0, 0] S1x1024.size (by decide)).toLoadRect (harg15.unread x13)), wgh := (View.readAt (Elt Ideal) arg16.view (Rect.unit ![0, 0] S1024x512.size (by decide)).toLoadRect (harg16.unread x14)), wgg := (View.readAt (Elt Ideal) arg17.view (Rect.unit ![0, 0] S1024x512.size (by decide)).toLoadRect (harg17.unread x15)), wgm := (View.readAt (Elt Ideal) arg18.view (Rect.unit ![0, 0] S1024x2048.size (by decide)).toLoadRect (harg18.unread x16)), wbh := (View.readAt (Elt Ideal) arg19.view (Rect.unit ![0, 0] S512x1024.size (by decide)).toLoadRect (harg19.unread x17)), wbg := (View.readAt (Elt Ideal) arg20.view (Rect.unit ![0, 0] S512x1024.size (by decide)).toLoadRect (harg20.unread x18)), wo := (View.readAt (Elt Ideal) arg21.view (Rect.unit ![0, 0] S1024x1024.size (by decide)).toLoadRect (harg21.unread x19)), wg := (View.readAt (Elt Ideal) arg22.view (Rect.unit ![0, 0] S1024x2816.size (by decide)).toLoadRect (harg22.unread x20)), wu := (View.readAt (Elt Ideal) arg23.view (Rect.unit ![0, 0] S1024x2816.size (by decide)).toLoadRect (harg23.unread x21)), wd := (View.readAt (Elt Ideal) arg24.view (Rect.unit ![0, 0] S2816x1024.size (by decide)).toLoadRect (harg24.unread x22)) }

theorem WL_eq (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) : WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22 = { md := x7, hgn := x8, gln := x9, pre1 := x10, post1 := x11, pre2 := x12, post2 := x13, wgh := x14, wgg := x15, wgm := x16, wbh := x17, wbg := x18, wo := x19, wg := x20, wu := x21, wd := x22 } := by
  simp only [WL, whole0 harg9, whole1 harg10, whole2 harg11, whole3 harg12, whole4 harg13, whole5 harg14, whole6 harg15, whole7 harg16, whole8 harg17, whole9 harg18, whole10 harg19, whole11 harg20, whole12 harg21, whole13 harg22, whole14 harg23, whole15 harg24]

theorem rows  (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg7 : Memref sig .tc .vmem S1x8x128x128 .f32) (harg7 : arg7.IsWhole) (arg8 : Memref sig .tc .vmem S1x512x1024 .f32) (harg8 : arg8.IsWhole) (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x512x1024 .f32) (harg25 : arg25.IsWhole) (arg26 : Memref sig .tc .vmem S8x128x128 .f32) (harg26 : arg26.IsWhole) (hc0 : cond0_0 i)
    (x0 : Vec Ideal S1x512x1024 .bf16) (x1 : Vec Ideal S1x512x1024 .bf16) (x2 : Vec Ideal S1x512x1024 .bf16) (x3 : Vec Ideal S1x512x1024 .bf16) (x4 : Vec Ideal S1x8x1x1024 .f32) (x5 : Vec Ideal S1x8x128x128 .f32) (x6 : Vec Ideal S1x512x1024 .f32) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) (R : Fin 512) (j : Fin 1024) :
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 (ix3 0 R j) = rowOut (VW.wts { md := x7, hgn := x8, gln := x9, pre1 := x10, post1 := x11, pre2 := x12, post2 := x13, wgh := x14, wgg := x15, wgm := x16, wbh := x17, wbg := x18, wo := x19, wg := x20, wu := x21, wd := x22 }) (fun k => x6 (ix3 0 R k)) (fun k => x0 (ix3 0 R k) + OB x1 (iterS (fL x2 x3 x4) (s0A x5)) R k) j := by
  unfold out0_A_23
  rw [View.read_writes_eq_canon _ _ _ (cover0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22)]
  unfold kernelRun0_A
  dsimp only
  refine (show View.canon [(⟨half 256 (by decide), (Words.rows1 (WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22) (View.readAt (Elt Ideal) arg8.view (half 256 (by decide)).toLoadRect (harg8.unread x6)) (View.readAt (Elt Ideal) arg2.view (half 256 (by decide)).toLoadRect (harg2.unread x0)) (kernelRun0_A.sl.r_79 c arg3 harg3 arg4 harg4 arg5 harg5 arg6 harg6 arg7 harg7 arg26 x1 x2 x3 x4 x5))⟩ : View.Piece (Elt Ideal) S1x512x1024 .f32), ⟨half 0 (by decide), (Words.rows0 (WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22) (View.readAt (Elt Ideal) arg8.view (half 0 (by decide)).toLoadRect (harg8.unread x6)) (View.readAt (Elt Ideal) arg2.view (half 0 (by decide)).toLoadRect (harg2.unread x0)) (kernelRun0_A.sl.r_151 c arg3 harg3 arg4 harg4 arg5 harg5 arg6 harg6 arg7 harg7 arg26 x1 x2 x3 x4 x5))⟩] (ix3 0 R j) = _ from ?_)
  rw [WL_eq, Words.rows1_eq, Words.rows0_eq]
  refine two_at _ _ (fun R j => rowOut (VW.wts { md := x7, hgn := x8, gln := x9, pre1 := x10, post1 := x11, pre2 := x12, post2 := x13, wgh := x14, wgg := x15, wgm := x16, wbh := x17, wbg := x18, wo := x19, wg := x20, wu := x21, wd := x22 }) (fun k => x6 (ix3 0 R k)) (fun k => x0 (ix3 0 R k) + OB x1 (iterS (fL x2 x3 x4) (s0A x5)) R k) j) (fun r j => ?_) (fun r j => ?_) R j
  · exact half_row _ harg8 harg2 x6 x0 256 (by decide) _ _ (StepsA.r_79_at c arg3 harg3 arg4 harg4 arg5 harg5 arg6 harg6 arg7 harg7 arg26 x1 x2 x3 x4 x5) r j
  · exact half_row _ harg8 harg2 x6 x0 0 (by decide) _ _ (StepsA.r_151_at c arg3 harg3 arg4 harg4 arg5 harg5 arg6 harg6 arg7 harg7 arg26 x1 x2 x3 x4 x5) r j

end Cert.PointA
-- ==== Proof.StepsB.lean ====
/- The states a grid point's chunks go through (the state is the scratch as it was found), and what their rows
   read. -/
module

public import proofs.«01_k».proof.Proof.Chain
public import proofs.«01_k».proof.Proof.Gen.KernelIdeal.Value
import all proofs.«01_k».proof.Proof.Gen.KernelIdeal.Frame.RunB

@[expose] public section

set_option maxRecDepth 16384
set_option maxHeartbeats 4000000

noncomputable section

namespace Cert.StepsB

open Idealize.ShloMosaic Idealize.ShloMosaic.TcCoe Cert.KernelIdeal Cert.KernelIdeal.Gen Cert.Spec Cert.Chain

variable (c : Dev nD) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg26 : Memref sig .tc .vmem S8x128x128 .f32) (harg26 : arg26.IsWhole) (x1 : Vec Ideal S1x512x1024 .bf16) (x2 : Vec Ideal S1x512x1024 .bf16) (x3 : Vec Ideal S1x512x1024 .bf16) (x4 : Vec Ideal S1x8x1x1024 .f32) (xs0 : Vec Ideal S8x128x128 .f32)

theorem g8 : Good arg26.view (kernelRun0_B.sl.HS0_8 c arg4 harg4 arg5 harg5 arg6 harg6 arg26 harg26 x2 x3 x4 xs0) (mix (fun w => arg26.view.readCov (Val := Elt Ideal) [] (row w).toLoadRect) (stV (iterS (fL x2 x3 x4) (s0B xs0) 1)) 8) :=
  good_upd0 harg4 harg5 harg6 x2 x3 x4 0 7 (s0B xs0) (RD harg26 xs0 7) (RD_eq harg26 xs0 7) (good_upd0 harg4 harg5 harg6 x2 x3 x4 0 6 (s0B xs0) (RD harg26 xs0 6) (RD_eq harg26 xs0 6) (good_upd0 harg4 harg5 harg6 x2 x3 x4 0 5 (s0B xs0) (RD harg26 xs0 5) (RD_eq harg26 xs0 5) (good_upd0 harg4 harg5 harg6 x2 x3 x4 0 4 (s0B xs0) (RD harg26 xs0 4) (RD_eq harg26 xs0 4) (good_upd0 harg4 harg5 harg6 x2 x3 x4 0 3 (s0B xs0) (RD harg26 xs0 3) (RD_eq harg26 xs0 3) (good_upd0 harg4 harg5 harg6 x2 x3 x4 0 2 (s0B xs0) (RD harg26 xs0 2) (RD_eq harg26 xs0 2) (good_upd0 harg4 harg5 harg6 x2 x3 x4 0 1 (s0B xs0) (RD harg26 xs0 1) (RD_eq harg26 xs0 1) (good_upd0 harg4 harg5 harg6 x2 x3 x4 0 0 (s0B xs0) (RD harg26 xs0 0) (RD_eq harg26 xs0 0) (good_nil _ _))))))))

theorem g9 : Good arg26.view (kernelRun0_B.sl.HS0_9 c arg4 harg4 arg5 harg5 arg6 harg6 arg26 harg26 x2 x3 x4 xs0) (mix (stV (iterS (fL x2 x3 x4) (s0B xs0) 1)) (stV (iterS (fL x2 x3 x4) (s0B xs0) 2)) 1) :=
  good_upd harg4 harg5 harg6 x2 x3 x4 1 0 (iterS (fL x2 x3 x4) (s0B xs0) 1) (good_turn (g8 c arg4 harg4 arg5 harg5 arg6 harg6 arg26 harg26 x2 x3 x4 xs0))

theorem g10 : Good arg26.view (kernelRun0_B.sl.HS0_10 c arg4 harg4 arg5 harg5 arg6 harg6 arg26 harg26 x2 x3 x4 xs0) (mix (stV (iterS (fL x2 x3 x4) (s0B xs0) 1)) (stV (iterS (fL x2 x3 x4) (s0B xs0) 2)) 2) :=
  good_upd harg4 harg5 harg6 x2 x3 x4 1 1 (iterS (fL x2 x3 x4) (s0B xs0) 1) (g9 c arg4 harg4 arg5 harg5 arg6 harg6 arg26 harg26 x2 x3 x4 xs0)

theorem g11 : Good arg26.view (kernelRun0_B.sl.HS0_11 c arg4 harg4 arg5 harg5 arg6 harg6 arg26 harg26 x2 x3 x4 xs0) (mix (stV (iterS (fL x2 x3 x4) (s0B xs0) 1)) (stV (iterS (fL x2 x3 x4) (s0B xs0) 2)) 3) :=
  good_upd harg4 harg5 harg6 x2 x3 x4 1 2 (iterS (fL x2 x3 x4) (s0B xs0) 1) (g10 c arg4 harg4 arg5 harg5 arg6 harg6 arg26 harg26 x2 x3 x4 xs0)

theorem g12 : Good arg26.view (kernelRun0_B.sl.HS0_12 c arg4 harg4 arg5 harg5 arg6 harg6 arg26 harg26 x2 x3 x4 xs0) (mix (stV (iterS (fL x2 x3 x4) (s0B xs0) 1)) (stV (iterS (fL x2 x3 x4) (s0B xs0) 2)) 4) :=
  good_upd harg4 harg5 harg6 x2 x3 x4 1 3 (iterS (fL x2 x3 x4) (s0B xs0) 1) (g11 c arg4 harg4 arg5 harg5 arg6 harg6 arg26 harg26 x2 x3 x4 xs0)

theorem g13 : Good arg26.view (kernelRun0_B.sl.HS0_13 c arg4 harg4 arg5 harg5 arg6 harg6 arg26 harg26 x2 x3 x4 xs0) (mix (stV (iterS (fL x2 x3 x4) (s0B xs0) 1)) (stV (iterS (fL x2 x3 x4) (s0B xs0) 2)) 5) :=
  good_upd harg4 harg5 harg6 x2 x3 x4 1 4 (iterS (fL x2 x3 x4) (s0B xs0) 1) (g12 c arg4 harg4 arg5 harg5 arg6 harg6 arg26 harg26 x2 x3 x4 xs0)

theorem g14 : Good arg26.view (kernelRun0_B.sl.HS0_14 c arg4 harg4 arg5 harg5 arg6 harg6 arg26 harg26 x2 x3 x4 xs0) (mix (stV (iterS (fL x2 x3 x4) (s0B xs0) 1)) (stV (iterS (fL x2 x3 x4) (s0B xs0) 2)) 6) :=
  good_upd harg4 harg5 harg6 x2 x3 x4 1 5 (iterS (fL x2 x3 x4) (s0B xs0) 1) (g13 c arg4 harg4 arg5 harg5 arg6 harg6 arg26 harg26 x2 x3 x4 xs0)

theorem g15 : Good arg26.view (kernelRun0_B.sl.HS0_15 c arg4 harg4 arg5 harg5 arg6 harg6 arg26 harg26 x2 x3 x4 xs0) (mix (stV (iterS (fL x2 x3 x4) (s0B xs0) 1)) (stV (iterS (fL x2 x3 x4) (s0B xs0) 2)) 7) :=
  good_upd harg4 harg5 harg6 x2 x3 x4 1 6 (iterS (fL x2 x3 x4) (s0B xs0) 1) (g14 c arg4 harg4 arg5 harg5 arg6 harg6 arg26 harg26 x2 x3 x4 xs0)

theorem g16 : Good arg26.view (kernelRun0_B.sl.HS0_16 c arg4 harg4 arg5 harg5 arg6 harg6 arg26 harg26 x2 x3 x4 xs0) (mix (stV (iterS (fL x2 x3 x4) (s0B xs0) 1)) (stV (iterS (fL x2 x3 x4) (s0B xs0) 2)) 8) :=
  good_upd harg4 harg5 harg6 x2 x3 x4 1 7 (iterS (fL x2 x3 x4) (s0B xs0) 1) (g15 c arg4 harg4 arg5 harg5 arg6 harg6 arg26 harg26 x2 x3 x4 xs0)

theorem g17 : Good arg26.view (kernelRun0_B.sl.HS0_17 c arg4 harg4 arg5 harg5 arg6 harg6 arg26 harg26 x2 x3 x4 xs0) (mix (stV (iterS (fL x2 x3 x4) (s0B xs0) 2)) (stV (iterS (fL x2 x3 x4) (s0B xs0) 3)) 1) :=
  good_upd harg4 harg5 harg6 x2 x3 x4 2 0 (iterS (fL x2 x3 x4) (s0B xs0) 2) (good_turn (g16 c arg4 harg4 arg5 harg5 arg6 harg6 arg26 harg26 x2 x3 x4 xs0))

theorem g18 : Good arg26.view (kernelRun0_B.sl.HS0_18 c arg4 harg4 arg5 harg5 arg6 harg6 arg26 harg26 x2 x3 x4 xs0) (mix (stV (iterS (fL x2 x3 x4) (s0B xs0) 2)) (stV (iterS (fL x2 x3 x4) (s0B xs0) 3)) 2) :=
  good_upd harg4 harg5 harg6 x2 x3 x4 2 1 (iterS (fL x2 x3 x4) (s0B xs0) 2) (g17 c arg4 harg4 arg5 harg5 arg6 harg6 arg26 harg26 x2 x3 x4 xs0)

theorem g19 : Good arg26.view (kernelRun0_B.sl.HS0_19 c arg4 harg4 arg5 harg5 arg6 harg6 arg26 harg26 x2 x3 x4 xs0) (mix (stV (iterS (fL x2 x3 x4) (s0B xs0) 2)) (stV (iterS (fL x2 x3 x4) (s0B xs0) 3)) 3) :=
  good_upd harg4 harg5 harg6 x2 x3 x4 2 2 (iterS (fL x2 x3 x4) (s0B xs0) 2) (g18 c arg4 harg4 arg5 harg5 arg6 harg6 arg26 harg26 x2 x3 x4 xs0)

theorem g20 : Good arg26.view (kernelRun0_B.sl.HS0_20 c arg4 harg4 arg5 harg5 arg6 harg6 arg26 harg26 x2 x3 x4 xs0) (mix (stV (iterS (fL x2 x3 x4) (s0B xs0) 2)) (stV (iterS (fL x2 x3 x4) (s0B xs0) 3)) 4) :=
  good_upd harg4 harg5 harg6 x2 x3 x4 2 3 (iterS (fL x2 x3 x4) (s0B xs0) 2) (g19 c arg4 harg4 arg5 harg5 arg6 harg6 arg26 harg26 x2 x3 x4 xs0)

theorem g21 : Good arg26.view (kernelRun0_B.sl.HS0_21 c arg4 harg4 arg5 harg5 arg6 harg6 arg26 harg26 x2 x3 x4 xs0) (mix (stV (iterS (fL x2 x3 x4) (s0B xs0) 2)) (stV (iterS (fL x2 x3 x4) (s0B xs0) 3)) 5) :=
  good_upd harg4 harg5 harg6 x2 x3 x4 2 4 (iterS (fL x2 x3 x4) (s0B xs0) 2) (g20 c arg4 harg4 arg5 harg5 arg6 harg6 arg26 harg26 x2 x3 x4 xs0)

theorem g22 : Good arg26.view (kernelRun0_B.sl.HS0_22 c arg4 harg4 arg5 harg5 arg6 harg6 arg26 harg26 x2 x3 x4 xs0) (mix (stV (iterS (fL x2 x3 x4) (s0B xs0) 2)) (stV (iterS (fL x2 x3 x4) (s0B xs0) 3)) 6) :=
  good_upd harg4 harg5 harg6 x2 x3 x4 2 5 (iterS (fL x2 x3 x4) (s0B xs0) 2) (g21 c arg4 harg4 arg5 harg5 arg6 harg6 arg26 harg26 x2 x3 x4 xs0)

theorem g23 : Good arg26.view (kernelRun0_B.sl.HS0_23 c arg4 harg4 arg5 harg5 arg6 harg6 arg26 harg26 x2 x3 x4 xs0) (mix (stV (iterS (fL x2 x3 x4) (s0B xs0) 2)) (stV (iterS (fL x2 x3 x4) (s0B xs0) 3)) 7) :=
  good_upd harg4 harg5 harg6 x2 x3 x4 2 6 (iterS (fL x2 x3 x4) (s0B xs0) 2) (g22 c arg4 harg4 arg5 harg5 arg6 harg6 arg26 harg26 x2 x3 x4 xs0)

theorem g24 : Good arg26.view (kernelRun0_B.sl.HS0_24 c arg4 harg4 arg5 harg5 arg6 harg6 arg26 harg26 x2 x3 x4 xs0) (mix (stV (iterS (fL x2 x3 x4) (s0B xs0) 2)) (stV (iterS (fL x2 x3 x4) (s0B xs0) 3)) 8) :=
  good_upd harg4 harg5 harg6 x2 x3 x4 2 7 (iterS (fL x2 x3 x4) (s0B xs0) 2) (g23 c arg4 harg4 arg5 harg5 arg6 harg6 arg26 harg26 x2 x3 x4 xs0)

theorem g25 : Good arg26.view (kernelRun0_B.sl.HS0_25 c arg4 harg4 arg5 harg5 arg6 harg6 arg26 harg26 x2 x3 x4 xs0) (mix (stV (iterS (fL x2 x3 x4) (s0B xs0) 3)) (stV (iterS (fL x2 x3 x4) (s0B xs0) 4)) 1) :=
  good_upd harg4 harg5 harg6 x2 x3 x4 3 0 (iterS (fL x2 x3 x4) (s0B xs0) 3) (good_turn (g24 c arg4 harg4 arg5 harg5 arg6 harg6 arg26 harg26 x2 x3 x4 xs0))

theorem g26 : Good arg26.view (kernelRun0_B.sl.HS0_26 c arg4 harg4 arg5 harg5 arg6 harg6 arg26 harg26 x2 x3 x4 xs0) (mix (stV (iterS (fL x2 x3 x4) (s0B xs0) 3)) (stV (iterS (fL x2 x3 x4) (s0B xs0) 4)) 2) :=
  good_upd harg4 harg5 harg6 x2 x3 x4 3 1 (iterS (fL x2 x3 x4) (s0B xs0) 3) (g25 c arg4 harg4 arg5 harg5 arg6 harg6 arg26 harg26 x2 x3 x4 xs0)

theorem g27 : Good arg26.view (kernelRun0_B.sl.HS0_27 c arg4 harg4 arg5 harg5 arg6 harg6 arg26 harg26 x2 x3 x4 xs0) (mix (stV (iterS (fL x2 x3 x4) (s0B xs0) 3)) (stV (iterS (fL x2 x3 x4) (s0B xs0) 4)) 3) :=
  good_upd harg4 harg5 harg6 x2 x3 x4 3 2 (iterS (fL x2 x3 x4) (s0B xs0) 3) (g26 c arg4 harg4 arg5 harg5 arg6 harg6 arg26 harg26 x2 x3 x4 xs0)

theorem g28 : Good arg26.view (kernelRun0_B.sl.HS0_28 c arg4 harg4 arg5 harg5 arg6 harg6 arg26 harg26 x2 x3 x4 xs0) (mix (stV (iterS (fL x2 x3 x4) (s0B xs0) 3)) (stV (iterS (fL x2 x3 x4) (s0B xs0) 4)) 4) :=
  good_upd harg4 harg5 harg6 x2 x3 x4 3 3 (iterS (fL x2 x3 x4) (s0B xs0) 3) (g27 c arg4 harg4 arg5 harg5 arg6 harg6 arg26 harg26 x2 x3 x4 xs0)

theorem g29 : Good arg26.view (kernelRun0_B.sl.HS0_29 c arg4 harg4 arg5 harg5 arg6 harg6 arg26 harg26 x2 x3 x4 xs0) (mix (stV (iterS (fL x2 x3 x4) (s0B xs0) 3)) (stV (iterS (fL x2 x3 x4) (s0B xs0) 4)) 5) :=
  good_upd harg4 harg5 harg6 x2 x3 x4 3 4 (iterS (fL x2 x3 x4) (s0B xs0) 3) (g28 c arg4 harg4 arg5 harg5 arg6 harg6 arg26 harg26 x2 x3 x4 xs0)

theorem g30 : Good arg26.view (kernelRun0_B.sl.HS0_30 c arg4 harg4 arg5 harg5 arg6 harg6 arg26 harg26 x2 x3 x4 xs0) (mix (stV (iterS (fL x2 x3 x4) (s0B xs0) 3)) (stV (iterS (fL x2 x3 x4) (s0B xs0) 4)) 6) :=
  good_upd harg4 harg5 harg6 x2 x3 x4 3 5 (iterS (fL x2 x3 x4) (s0B xs0) 3) (g29 c arg4 harg4 arg5 harg5 arg6 harg6 arg26 harg26 x2 x3 x4 xs0)

theorem g31 : Good arg26.view (kernelRun0_B.sl.HS0_31 c arg4 harg4 arg5 harg5 arg6 harg6 arg26 harg26 x2 x3 x4 xs0) (mix (stV (iterS (fL x2 x3 x4) (s0B xs0) 3)) (stV (iterS (fL x2 x3 x4) (s0B xs0) 4)) 7) :=
  good_upd harg4 harg5 harg6 x2 x3 x4 3 6 (iterS (fL x2 x3 x4) (s0B xs0) 3) (g30 c arg4 harg4 arg5 harg5 arg6 harg6 arg26 harg26 x2 x3 x4 xs0)

theorem g32 : Good arg26.view (kernelRun0_B.sl.HS0_32 c arg4 harg4 arg5 harg5 arg6 harg6 arg26 harg26 x2 x3 x4 xs0) (mix (stV (iterS (fL x2 x3 x4) (s0B xs0) 3)) (stV (iterS (fL x2 x3 x4) (s0B xs0) 4)) 8) :=
  good_upd harg4 harg5 harg6 x2 x3 x4 3 7 (iterS (fL x2 x3 x4) (s0B xs0) 3) (g31 c arg4 harg4 arg5 harg5 arg6 harg6 arg26 harg26 x2 x3 x4 xs0)

theorem g33 : Good arg26.view (kernelRun0_B.sl.HS0_33 c arg4 harg4 arg5 harg5 arg6 harg6 arg26 harg26 x2 x3 x4 xs0) (mix (stV (iterS (fL x2 x3 x4) (s0B xs0) 4)) (stV (iterS (fL x2 x3 x4) (s0B xs0) 5)) 1) :=
  good_upd harg4 harg5 harg6 x2 x3 x4 4 0 (iterS (fL x2 x3 x4) (s0B xs0) 4) (good_turn (g32 c arg4 harg4 arg5 harg5 arg6 harg6 arg26 harg26 x2 x3 x4 xs0))

theorem g34 : Good arg26.view (kernelRun0_B.sl.HS0_34 c arg4 harg4 arg5 harg5 arg6 harg6 arg26 harg26 x2 x3 x4 xs0) (mix (stV (iterS (fL x2 x3 x4) (s0B xs0) 4)) (stV (iterS (fL x2 x3 x4) (s0B xs0) 5)) 2) :=
  good_upd harg4 harg5 harg6 x2 x3 x4 4 1 (iterS (fL x2 x3 x4) (s0B xs0) 4) (g33 c arg4 harg4 arg5 harg5 arg6 harg6 arg26 harg26 x2 x3 x4 xs0)

theorem g35 : Good arg26.view (kernelRun0_B.sl.HS0_35 c arg4 harg4 arg5 harg5 arg6 harg6 arg26 harg26 x2 x3 x4 xs0) (mix (stV (iterS (fL x2 x3 x4) (s0B xs0) 4)) (stV (iterS (fL x2 x3 x4) (s0B xs0) 5)) 3) :=
  good_upd harg4 harg5 harg6 x2 x3 x4 4 2 (iterS (fL x2 x3 x4) (s0B xs0) 4) (g34 c arg4 harg4 arg5 harg5 arg6 harg6 arg26 harg26 x2 x3 x4 xs0)

theorem g36 : Good arg26.view (kernelRun0_B.sl.HS0_36 c arg4 harg4 arg5 harg5 arg6 harg6 arg26 harg26 x2 x3 x4 xs0) (mix (stV (iterS (fL x2 x3 x4) (s0B xs0) 4)) (stV (iterS (fL x2 x3 x4) (s0B xs0) 5)) 4) :=
  good_upd harg4 harg5 harg6 x2 x3 x4 4 3 (iterS (fL x2 x3 x4) (s0B xs0) 4) (g35 c arg4 harg4 arg5 harg5 arg6 harg6 arg26 harg26 x2 x3 x4 xs0)

theorem g37 : Good arg26.view (kernelRun0_B.sl.HS0_37 c arg4 harg4 arg5 harg5 arg6 harg6 arg26 harg26 x2 x3 x4 xs0) (mix (stV (iterS (fL x2 x3 x4) (s0B xs0) 4)) (stV (iterS (fL x2 x3 x4) (s0B xs0) 5)) 5) :=
  good_upd harg4 harg5 harg6 x2 x3 x4 4 4 (iterS (fL x2 x3 x4) (s0B xs0) 4) (g36 c arg4 harg4 arg5 harg5 arg6 harg6 arg26 harg26 x2 x3 x4 xs0)

theorem g38 : Good arg26.view (kernelRun0_B.sl.HS0_38 c arg4 harg4 arg5 harg5 arg6 harg6 arg26 harg26 x2 x3 x4 xs0) (mix (stV (iterS (fL x2 x3 x4) (s0B xs0) 4)) (stV (iterS (fL x2 x3 x4) (s0B xs0) 5)) 6) :=
  good_upd harg4 harg5 harg6 x2 x3 x4 4 5 (iterS (fL x2 x3 x4) (s0B xs0) 4) (g37 c arg4 harg4 arg5 harg5 arg6 harg6 arg26 harg26 x2 x3 x4 xs0)

theorem g39 : Good arg26.view (kernelRun0_B.sl.HS0_39 c arg4 harg4 arg5 harg5 arg6 harg6 arg26 harg26 x2 x3 x4 xs0) (mix (stV (iterS (fL x2 x3 x4) (s0B xs0) 4)) (stV (iterS (fL x2 x3 x4) (s0B xs0) 5)) 7) :=
  good_upd harg4 harg5 harg6 x2 x3 x4 4 6 (iterS (fL x2 x3 x4) (s0B xs0) 4) (g38 c arg4 harg4 arg5 harg5 arg6 harg6 arg26 harg26 x2 x3 x4 xs0)

theorem g40 : Good arg26.view (kernelRun0_B.sl.HS0_40 c arg4 harg4 arg5 harg5 arg6 harg6 arg26 harg26 x2 x3 x4 xs0) (mix (stV (iterS (fL x2 x3 x4) (s0B xs0) 4)) (stV (iterS (fL x2 x3 x4) (s0B xs0) 5)) 8) :=
  good_upd harg4 harg5 harg6 x2 x3 x4 4 7 (iterS (fL x2 x3 x4) (s0B xs0) 4) (g39 c arg4 harg4 arg5 harg5 arg6 harg6 arg26 harg26 x2 x3 x4 xs0)

theorem g41 : Good arg26.view (kernelRun0_B.sl.HS0_41 c arg4 harg4 arg5 harg5 arg6 harg6 arg26 harg26 x2 x3 x4 xs0) (mix (stV (iterS (fL x2 x3 x4) (s0B xs0) 5)) (stV (iterS (fL x2 x3 x4) (s0B xs0) 6)) 1) :=
  good_upd harg4 harg5 harg6 x2 x3 x4 5 0 (iterS (fL x2 x3 x4) (s0B xs0) 5) (good_turn (g40 c arg4 harg4 arg5 harg5 arg6 harg6 arg26 harg26 x2 x3 x4 xs0))

theorem g42 : Good arg26.view (kernelRun0_B.sl.HS0_42 c arg4 harg4 arg5 harg5 arg6 harg6 arg26 harg26 x2 x3 x4 xs0) (mix (stV (iterS (fL x2 x3 x4) (s0B xs0) 5)) (stV (iterS (fL x2 x3 x4) (s0B xs0) 6)) 2) :=
  good_upd harg4 harg5 harg6 x2 x3 x4 5 1 (iterS (fL x2 x3 x4) (s0B xs0) 5) (g41 c arg4 harg4 arg5 harg5 arg6 harg6 arg26 harg26 x2 x3 x4 xs0)

theorem g43 : Good arg26.view (kernelRun0_B.sl.HS0_43 c arg4 harg4 arg5 harg5 arg6 harg6 arg26 harg26 x2 x3 x4 xs0) (mix (stV (iterS (fL x2 x3 x4) (s0B xs0) 5)) (stV (iterS (fL x2 x3 x4) (s0B xs0) 6)) 3) :=
  good_upd harg4 harg5 harg6 x2 x3 x4 5 2 (iterS (fL x2 x3 x4) (s0B xs0) 5) (g42 c arg4 harg4 arg5 harg5 arg6 harg6 arg26 harg26 x2 x3 x4 xs0)

theorem g44 : Good arg26.view (kernelRun0_B.sl.HS0_44 c arg4 harg4 arg5 harg5 arg6 harg6 arg26 harg26 x2 x3 x4 xs0) (mix (stV (iterS (fL x2 x3 x4) (s0B xs0) 5)) (stV (iterS (fL x2 x3 x4) (s0B xs0) 6)) 4) :=
  good_upd harg4 harg5 harg6 x2 x3 x4 5 3 (iterS (fL x2 x3 x4) (s0B xs0) 5) (g43 c arg4 harg4 arg5 harg5 arg6 harg6 arg26 harg26 x2 x3 x4 xs0)

theorem g45 : Good arg26.view (kernelRun0_B.sl.HS0_45 c arg4 harg4 arg5 harg5 arg6 harg6 arg26 harg26 x2 x3 x4 xs0) (mix (stV (iterS (fL x2 x3 x4) (s0B xs0) 5)) (stV (iterS (fL x2 x3 x4) (s0B xs0) 6)) 5) :=
  good_upd harg4 harg5 harg6 x2 x3 x4 5 4 (iterS (fL x2 x3 x4) (s0B xs0) 5) (g44 c arg4 harg4 arg5 harg5 arg6 harg6 arg26 harg26 x2 x3 x4 xs0)

theorem g46 : Good arg26.view (kernelRun0_B.sl.HS0_46 c arg4 harg4 arg5 harg5 arg6 harg6 arg26 harg26 x2 x3 x4 xs0) (mix (stV (iterS (fL x2 x3 x4) (s0B xs0) 5)) (stV (iterS (fL x2 x3 x4) (s0B xs0) 6)) 6) :=
  good_upd harg4 harg5 harg6 x2 x3 x4 5 5 (iterS (fL x2 x3 x4) (s0B xs0) 5) (g45 c arg4 harg4 arg5 harg5 arg6 harg6 arg26 harg26 x2 x3 x4 xs0)

theorem g47 : Good arg26.view (kernelRun0_B.sl.HS0_47 c arg4 harg4 arg5 harg5 arg6 harg6 arg26 harg26 x2 x3 x4 xs0) (mix (stV (iterS (fL x2 x3 x4) (s0B xs0) 5)) (stV (iterS (fL x2 x3 x4) (s0B xs0) 6)) 7) :=
  good_upd harg4 harg5 harg6 x2 x3 x4 5 6 (iterS (fL x2 x3 x4) (s0B xs0) 5) (g46 c arg4 harg4 arg5 harg5 arg6 harg6 arg26 harg26 x2 x3 x4 xs0)

theorem g48 : Good arg26.view (kernelRun0_B.sl.HS0_48 c arg4 harg4 arg5 harg5 arg6 harg6 arg26 harg26 x2 x3 x4 xs0) (mix (stV (iterS (fL x2 x3 x4) (s0B xs0) 5)) (stV (iterS (fL x2 x3 x4) (s0B xs0) 6)) 8) :=
  good_upd harg4 harg5 harg6 x2 x3 x4 5 7 (iterS (fL x2 x3 x4) (s0B xs0) 5) (g47 c arg4 harg4 arg5 harg5 arg6 harg6 arg26 harg26 x2 x3 x4 xs0)

theorem g49 : Good arg26.view (kernelRun0_B.sl.HS0_49 c arg4 harg4 arg5 harg5 arg6 harg6 arg26 harg26 x2 x3 x4 xs0) (mix (stV (iterS (fL x2 x3 x4) (s0B xs0) 6)) (stV (iterS (fL x2 x3 x4) (s0B xs0) 7)) 1) :=
  good_upd harg4 harg5 harg6 x2 x3 x4 6 0 (iterS (fL x2 x3 x4) (s0B xs0) 6) (good_turn (g48 c arg4 harg4 arg5 harg5 arg6 harg6 arg26 harg26 x2 x3 x4 xs0))

theorem g50 : Good arg26.view (kernelRun0_B.sl.HS0_50 c arg4 harg4 arg5 harg5 arg6 harg6 arg26 harg26 x2 x3 x4 xs0) (mix (stV (iterS (fL x2 x3 x4) (s0B xs0) 6)) (stV (iterS (fL x2 x3 x4) (s0B xs0) 7)) 2) :=
  good_upd harg4 harg5 harg6 x2 x3 x4 6 1 (iterS (fL x2 x3 x4) (s0B xs0) 6) (g49 c arg4 harg4 arg5 harg5 arg6 harg6 arg26 harg26 x2 x3 x4 xs0)

theorem g51 : Good arg26.view (kernelRun0_B.sl.HS0_51 c arg4 harg4 arg5 harg5 arg6 harg6 arg26 harg26 x2 x3 x4 xs0) (mix (stV (iterS (fL x2 x3 x4) (s0B xs0) 6)) (stV (iterS (fL x2 x3 x4) (s0B xs0) 7)) 3) :=
  good_upd harg4 harg5 harg6 x2 x3 x4 6 2 (iterS (fL x2 x3 x4) (s0B xs0) 6) (g50 c arg4 harg4 arg5 harg5 arg6 harg6 arg26 harg26 x2 x3 x4 xs0)

theorem g52 : Good arg26.view (kernelRun0_B.sl.HS0_52 c arg4 harg4 arg5 harg5 arg6 harg6 arg26 harg26 x2 x3 x4 xs0) (mix (stV (iterS (fL x2 x3 x4) (s0B xs0) 6)) (stV (iterS (fL x2 x3 x4) (s0B xs0) 7)) 4) :=
  good_upd harg4 harg5 harg6 x2 x3 x4 6 3 (iterS (fL x2 x3 x4) (s0B xs0) 6) (g51 c arg4 harg4 arg5 harg5 arg6 harg6 arg26 harg26 x2 x3 x4 xs0)

theorem g53 : Good arg26.view (kernelRun0_B.sl.HS0_53 c arg4 harg4 arg5 harg5 arg6 harg6 arg26 harg26 x2 x3 x4 xs0) (mix (stV (iterS (fL x2 x3 x4) (s0B xs0) 6)) (stV (iterS (fL x2 x3 x4) (s0B xs0) 7)) 5) :=
  good_upd harg4 harg5 harg6 x2 x3 x4 6 4 (iterS (fL x2 x3 x4) (s0B xs0) 6) (g52 c arg4 harg4 arg5 harg5 arg6 harg6 arg26 harg26 x2 x3 x4 xs0)

theorem g54 : Good arg26.view (kernelRun0_B.sl.HS0_54 c arg4 harg4 arg5 harg5 arg6 harg6 arg26 harg26 x2 x3 x4 xs0) (mix (stV (iterS (fL x2 x3 x4) (s0B xs0) 6)) (stV (iterS (fL x2 x3 x4) (s0B xs0) 7)) 6) :=
  good_upd harg4 harg5 harg6 x2 x3 x4 6 5 (iterS (fL x2 x3 x4) (s0B xs0) 6) (g53 c arg4 harg4 arg5 harg5 arg6 harg6 arg26 harg26 x2 x3 x4 xs0)

theorem g55 : Good arg26.view (kernelRun0_B.sl.HS0_55 c arg4 harg4 arg5 harg5 arg6 harg6 arg26 harg26 x2 x3 x4 xs0) (mix (stV (iterS (fL x2 x3 x4) (s0B xs0) 6)) (stV (iterS (fL x2 x3 x4) (s0B xs0) 7)) 7) :=
  good_upd harg4 harg5 harg6 x2 x3 x4 6 6 (iterS (fL x2 x3 x4) (s0B xs0) 6) (g54 c arg4 harg4 arg5 harg5 arg6 harg6 arg26 harg26 x2 x3 x4 xs0)

theorem g56 : Good arg26.view (kernelRun0_B.sl.HS0_56 c arg4 harg4 arg5 harg5 arg6 harg6 arg26 harg26 x2 x3 x4 xs0) (mix (stV (iterS (fL x2 x3 x4) (s0B xs0) 6)) (stV (iterS (fL x2 x3 x4) (s0B xs0) 7)) 8) :=
  good_upd harg4 harg5 harg6 x2 x3 x4 6 7 (iterS (fL x2 x3 x4) (s0B xs0) 6) (g55 c arg4 harg4 arg5 harg5 arg6 harg6 arg26 harg26 x2 x3 x4 xs0)

theorem g57 : Good arg26.view (kernelRun0_B.sl.HS0_57 c arg4 harg4 arg5 harg5 arg6 harg6 arg26 harg26 x2 x3 x4 xs0) (mix (stV (iterS (fL x2 x3 x4) (s0B xs0) 7)) (stV (iterS (fL x2 x3 x4) (s0B xs0) 8)) 1) :=
  good_upd harg4 harg5 harg6 x2 x3 x4 7 0 (iterS (fL x2 x3 x4) (s0B xs0) 7) (good_turn (g56 c arg4 harg4 arg5 harg5 arg6 harg6 arg26 harg26 x2 x3 x4 xs0))

theorem g58 : Good arg26.view (kernelRun0_B.sl.HS0_58 c arg4 harg4 arg5 harg5 arg6 harg6 arg26 harg26 x2 x3 x4 xs0) (mix (stV (iterS (fL x2 x3 x4) (s0B xs0) 7)) (stV (iterS (fL x2 x3 x4) (s0B xs0) 8)) 2) :=
  good_upd harg4 harg5 harg6 x2 x3 x4 7 1 (iterS (fL x2 x3 x4) (s0B xs0) 7) (g57 c arg4 harg4 arg5 harg5 arg6 harg6 arg26 harg26 x2 x3 x4 xs0)

theorem g59 : Good arg26.view (kernelRun0_B.sl.HS0_59 c arg4 harg4 arg5 harg5 arg6 harg6 arg26 harg26 x2 x3 x4 xs0) (mix (stV (iterS (fL x2 x3 x4) (s0B xs0) 7)) (stV (iterS (fL x2 x3 x4) (s0B xs0) 8)) 3) :=
  good_upd harg4 harg5 harg6 x2 x3 x4 7 2 (iterS (fL x2 x3 x4) (s0B xs0) 7) (g58 c arg4 harg4 arg5 harg5 arg6 harg6 arg26 harg26 x2 x3 x4 xs0)

theorem g60 : Good arg26.view (kernelRun0_B.sl.HS0_60 c arg4 harg4 arg5 harg5 arg6 harg6 arg26 harg26 x2 x3 x4 xs0) (mix (stV (iterS (fL x2 x3 x4) (s0B xs0) 7)) (stV (iterS (fL x2 x3 x4) (s0B xs0) 8)) 4) :=
  good_upd harg4 harg5 harg6 x2 x3 x4 7 3 (iterS (fL x2 x3 x4) (s0B xs0) 7) (g59 c arg4 harg4 arg5 harg5 arg6 harg6 arg26 harg26 x2 x3 x4 xs0)

theorem g61 : Good arg26.view (kernelRun0_B.sl.HS0_61 c arg4 harg4 arg5 harg5 arg6 harg6 arg26 harg26 x2 x3 x4 xs0) (mix (stV (iterS (fL x2 x3 x4) (s0B xs0) 7)) (stV (iterS (fL x2 x3 x4) (s0B xs0) 8)) 5) :=
  good_upd harg4 harg5 harg6 x2 x3 x4 7 4 (iterS (fL x2 x3 x4) (s0B xs0) 7) (g60 c arg4 harg4 arg5 harg5 arg6 harg6 arg26 harg26 x2 x3 x4 xs0)

theorem g62 : Good arg26.view (kernelRun0_B.sl.HS0_62 c arg4 harg4 arg5 harg5 arg6 harg6 arg26 harg26 x2 x3 x4 xs0) (mix (stV (iterS (fL x2 x3 x4) (s0B xs0) 7)) (stV (iterS (fL x2 x3 x4) (s0B xs0) 8)) 6) :=
  good_upd harg4 harg5 harg6 x2 x3 x4 7 5 (iterS (fL x2 x3 x4) (s0B xs0) 7) (g61 c arg4 harg4 arg5 harg5 arg6 harg6 arg26 harg26 x2 x3 x4 xs0)

theorem g63 : Good arg26.view (kernelRun0_B.sl.HS0_63 c arg4 harg4 arg5 harg5 arg6 harg6 arg26 harg26 x2 x3 x4 xs0) (mix (stV (iterS (fL x2 x3 x4) (s0B xs0) 7)) (stV (iterS (fL x2 x3 x4) (s0B xs0) 8)) 7) :=
  good_upd harg4 harg5 harg6 x2 x3 x4 7 6 (iterS (fL x2 x3 x4) (s0B xs0) 7) (g62 c arg4 harg4 arg5 harg5 arg6 harg6 arg26 harg26 x2 x3 x4 xs0)

abbrev C0 : FVec Ideal S64x1024 .f32 :=
  CAT harg3 x1 (ch 0) (RD harg26 xs0 0)
    (RD harg26 xs0 1)
    (RD harg26 xs0 2)
    (RD harg26 xs0 3)
    (RD harg26 xs0 4)
    (RD harg26 xs0 5)
    (RD harg26 xs0 6)
    (RD harg26 xs0 7)

abbrev C1 : FVec Ideal S64x1024 .f32 :=
  CAT harg3 x1 (ch 1) (arg26.view.readCov (Val := Elt Ideal) (kernelRun0_B.sl.HS0_8 c arg4 harg4 arg5 harg5 arg6 harg6 arg26 harg26 x2 x3 x4 xs0) (row 0).toLoadRect)
    (arg26.view.readCov (Val := Elt Ideal) (kernelRun0_B.sl.HS0_9 c arg4 harg4 arg5 harg5 arg6 harg6 arg26 harg26 x2 x3 x4 xs0) (row 1).toLoadRect)
    (arg26.view.readCov (Val := Elt Ideal) (kernelRun0_B.sl.HS0_10 c arg4 harg4 arg5 harg5 arg6 harg6 arg26 harg26 x2 x3 x4 xs0) (row 2).toLoadRect)
    (arg26.view.readCov (Val := Elt Ideal) (kernelRun0_B.sl.HS0_11 c arg4 harg4 arg5 harg5 arg6 harg6 arg26 harg26 x2 x3 x4 xs0) (row 3).toLoadRect)
    (arg26.view.readCov (Val := Elt Ideal) (kernelRun0_B.sl.HS0_12 c arg4 harg4 arg5 harg5 arg6 harg6 arg26 harg26 x2 x3 x4 xs0) (row 4).toLoadRect)
    (arg26.view.readCov (Val := Elt Ideal) (kernelRun0_B.sl.HS0_13 c arg4 harg4 arg5 harg5 arg6 harg6 arg26 harg26 x2 x3 x4 xs0) (row 5).toLoadRect)
    (arg26.view.readCov (Val := Elt Ideal) (kernelRun0_B.sl.HS0_14 c arg4 harg4 arg5 harg5 arg6 harg6 arg26 harg26 x2 x3 x4 xs0) (row 6).toLoadRect)
    (arg26.view.readCov (Val := Elt Ideal) (kernelRun0_B.sl.HS0_15 c arg4 harg4 arg5 harg5 arg6 harg6 arg26 harg26 x2 x3 x4 xs0) (row 7).toLoadRect)

abbrev C2 : FVec Ideal S64x1024 .f32 :=
  CAT harg3 x1 (ch 2) (arg26.view.readCov (Val := Elt Ideal) (kernelRun0_B.sl.HS0_16 c arg4 harg4 arg5 harg5 arg6 harg6 arg26 harg26 x2 x3 x4 xs0) (row 0).toLoadRect)
    (arg26.view.readCov (Val := Elt Ideal) (kernelRun0_B.sl.HS0_17 c arg4 harg4 arg5 harg5 arg6 harg6 arg26 harg26 x2 x3 x4 xs0) (row 1).toLoadRect)
    (arg26.view.readCov (Val := Elt Ideal) (kernelRun0_B.sl.HS0_18 c arg4 harg4 arg5 harg5 arg6 harg6 arg26 harg26 x2 x3 x4 xs0) (row 2).toLoadRect)
    (arg26.view.readCov (Val := Elt Ideal) (kernelRun0_B.sl.HS0_19 c arg4 harg4 arg5 harg5 arg6 harg6 arg26 harg26 x2 x3 x4 xs0) (row 3).toLoadRect)
    (arg26.view.readCov (Val := Elt Ideal) (kernelRun0_B.sl.HS0_20 c arg4 harg4 arg5 harg5 arg6 harg6 arg26 harg26 x2 x3 x4 xs0) (row 4).toLoadRect)
    (arg26.view.readCov (Val := Elt Ideal) (kernelRun0_B.sl.HS0_21 c arg4 harg4 arg5 harg5 arg6 harg6 arg26 harg26 x2 x3 x4 xs0) (row 5).toLoadRect)
    (arg26.view.readCov (Val := Elt Ideal) (kernelRun0_B.sl.HS0_22 c arg4 harg4 arg5 harg5 arg6 harg6 arg26 harg26 x2 x3 x4 xs0) (row 6).toLoadRect)
    (arg26.view.readCov (Val := Elt Ideal) (kernelRun0_B.sl.HS0_23 c arg4 harg4 arg5 harg5 arg6 harg6 arg26 harg26 x2 x3 x4 xs0) (row 7).toLoadRect)

abbrev C3 : FVec Ideal S64x1024 .f32 :=
  CAT harg3 x1 (ch 3) (arg26.view.readCov (Val := Elt Ideal) (kernelRun0_B.sl.HS0_24 c arg4 harg4 arg5 harg5 arg6 harg6 arg26 harg26 x2 x3 x4 xs0) (row 0).toLoadRect)
    (arg26.view.readCov (Val := Elt Ideal) (kernelRun0_B.sl.HS0_25 c arg4 harg4 arg5 harg5 arg6 harg6 arg26 harg26 x2 x3 x4 xs0) (row 1).toLoadRect)
    (arg26.view.readCov (Val := Elt Ideal) (kernelRun0_B.sl.HS0_26 c arg4 harg4 arg5 harg5 arg6 harg6 arg26 harg26 x2 x3 x4 xs0) (row 2).toLoadRect)
    (arg26.view.readCov (Val := Elt Ideal) (kernelRun0_B.sl.HS0_27 c arg4 harg4 arg5 harg5 arg6 harg6 arg26 harg26 x2 x3 x4 xs0) (row 3).toLoadRect)
    (arg26.view.readCov (Val := Elt Ideal) (kernelRun0_B.sl.HS0_28 c arg4 harg4 arg5 harg5 arg6 harg6 arg26 harg26 x2 x3 x4 xs0) (row 4).toLoadRect)
    (arg26.view.readCov (Val := Elt Ideal) (kernelRun0_B.sl.HS0_29 c arg4 harg4 arg5 harg5 arg6 harg6 arg26 harg26 x2 x3 x4 xs0) (row 5).toLoadRect)
    (arg26.view.readCov (Val := Elt Ideal) (kernelRun0_B.sl.HS0_30 c arg4 harg4 arg5 harg5 arg6 harg6 arg26 harg26 x2 x3 x4 xs0) (row 6).toLoadRect)
    (arg26.view.readCov (Val := Elt Ideal) (kernelRun0_B.sl.HS0_31 c arg4 harg4 arg5 harg5 arg6 harg6 arg26 harg26 x2 x3 x4 xs0) (row 7).toLoadRect)

abbrev C4 : FVec Ideal S64x1024 .f32 :=
  CAT harg3 x1 (ch 4) (arg26.view.readCov (Val := Elt Ideal) (kernelRun0_B.sl.HS0_32 c arg4 harg4 arg5 harg5 arg6 harg6 arg26 harg26 x2 x3 x4 xs0) (row 0).toLoadRect)
    (arg26.view.readCov (Val := Elt Ideal) (kernelRun0_B.sl.HS0_33 c arg4 harg4 arg5 harg5 arg6 harg6 arg26 harg26 x2 x3 x4 xs0) (row 1).toLoadRect)
    (arg26.view.readCov (Val := Elt Ideal) (kernelRun0_B.sl.HS0_34 c arg4 harg4 arg5 harg5 arg6 harg6 arg26 harg26 x2 x3 x4 xs0) (row 2).toLoadRect)
    (arg26.view.readCov (Val := Elt Ideal) (kernelRun0_B.sl.HS0_35 c arg4 harg4 arg5 harg5 arg6 harg6 arg26 harg26 x2 x3 x4 xs0) (row 3).toLoadRect)
    (arg26.view.readCov (Val := Elt Ideal) (kernelRun0_B.sl.HS0_36 c arg4 harg4 arg5 harg5 arg6 harg6 arg26 harg26 x2 x3 x4 xs0) (row 4).toLoadRect)
    (arg26.view.readCov (Val := Elt Ideal) (kernelRun0_B.sl.HS0_37 c arg4 harg4 arg5 harg5 arg6 harg6 arg26 harg26 x2 x3 x4 xs0) (row 5).toLoadRect)
    (arg26.view.readCov (Val := Elt Ideal) (kernelRun0_B.sl.HS0_38 c arg4 harg4 arg5 harg5 arg6 harg6 arg26 harg26 x2 x3 x4 xs0) (row 6).toLoadRect)
    (arg26.view.readCov (Val := Elt Ideal) (kernelRun0_B.sl.HS0_39 c arg4 harg4 arg5 harg5 arg6 harg6 arg26 harg26 x2 x3 x4 xs0) (row 7).toLoadRect)

abbrev C5 : FVec Ideal S64x1024 .f32 :=
  CAT harg3 x1 (ch 5) (arg26.view.readCov (Val := Elt Ideal) (kernelRun0_B.sl.HS0_40 c arg4 harg4 arg5 harg5 arg6 harg6 arg26 harg26 x2 x3 x4 xs0) (row 0).toLoadRect)
    (arg26.view.readCov (Val := Elt Ideal) (kernelRun0_B.sl.HS0_41 c arg4 harg4 arg5 harg5 arg6 harg6 arg26 harg26 x2 x3 x4 xs0) (row 1).toLoadRect)
    (arg26.view.readCov (Val := Elt Ideal) (kernelRun0_B.sl.HS0_42 c arg4 harg4 arg5 harg5 arg6 harg6 arg26 harg26 x2 x3 x4 xs0) (row 2).toLoadRect)
    (arg26.view.readCov (Val := Elt Ideal) (kernelRun0_B.sl.HS0_43 c arg4 harg4 arg5 harg5 arg6 harg6 arg26 harg26 x2 x3 x4 xs0) (row 3).toLoadRect)
    (arg26.view.readCov (Val := Elt Ideal) (kernelRun0_B.sl.HS0_44 c arg4 harg4 arg5 harg5 arg6 harg6 arg26 harg26 x2 x3 x4 xs0) (row 4).toLoadRect)
    (arg26.view.readCov (Val := Elt Ideal) (kernelRun0_B.sl.HS0_45 c arg4 harg4 arg5 harg5 arg6 harg6 arg26 harg26 x2 x3 x4 xs0) (row 5).toLoadRect)
    (arg26.view.readCov (Val := Elt Ideal) (kernelRun0_B.sl.HS0_46 c arg4 harg4 arg5 harg5 arg6 harg6 arg26 harg26 x2 x3 x4 xs0) (row 6).toLoadRect)
    (arg26.view.readCov (Val := Elt Ideal) (kernelRun0_B.sl.HS0_47 c arg4 harg4 arg5 harg5 arg6 harg6 arg26 harg26 x2 x3 x4 xs0) (row 7).toLoadRect)

abbrev C6 : FVec Ideal S64x1024 .f32 :=
  CAT harg3 x1 (ch 6) (arg26.view.readCov (Val := Elt Ideal) (kernelRun0_B.sl.HS0_48 c arg4 harg4 arg5 harg5 arg6 harg6 arg26 harg26 x2 x3 x4 xs0) (row 0).toLoadRect)
    (arg26.view.readCov (Val := Elt Ideal) (kernelRun0_B.sl.HS0_49 c arg4 harg4 arg5 harg5 arg6 harg6 arg26 harg26 x2 x3 x4 xs0) (row 1).toLoadRect)
    (arg26.view.readCov (Val := Elt Ideal) (kernelRun0_B.sl.HS0_50 c arg4 harg4 arg5 harg5 arg6 harg6 arg26 harg26 x2 x3 x4 xs0) (row 2).toLoadRect)
    (arg26.view.readCov (Val := Elt Ideal) (kernelRun0_B.sl.HS0_51 c arg4 harg4 arg5 harg5 arg6 harg6 arg26 harg26 x2 x3 x4 xs0) (row 3).toLoadRect)
    (arg26.view.readCov (Val := Elt Ideal) (kernelRun0_B.sl.HS0_52 c arg4 harg4 arg5 harg5 arg6 harg6 arg26 harg26 x2 x3 x4 xs0) (row 4).toLoadRect)
    (arg26.view.readCov (Val := Elt Ideal) (kernelRun0_B.sl.HS0_53 c arg4 harg4 arg5 harg5 arg6 harg6 arg26 harg26 x2 x3 x4 xs0) (row 5).toLoadRect)
    (arg26.view.readCov (Val := Elt Ideal) (kernelRun0_B.sl.HS0_54 c arg4 harg4 arg5 harg5 arg6 harg6 arg26 harg26 x2 x3 x4 xs0) (row 6).toLoadRect)
    (arg26.view.readCov (Val := Elt Ideal) (kernelRun0_B.sl.HS0_55 c arg4 harg4 arg5 harg5 arg6 harg6 arg26 harg26 x2 x3 x4 xs0) (row 7).toLoadRect)

abbrev C7 : FVec Ideal S64x1024 .f32 :=
  CAT harg3 x1 (ch 7) (arg26.view.readCov (Val := Elt Ideal) (kernelRun0_B.sl.HS0_56 c arg4 harg4 arg5 harg5 arg6 harg6 arg26 harg26 x2 x3 x4 xs0) (row 0).toLoadRect)
    (arg26.view.readCov (Val := Elt Ideal) (kernelRun0_B.sl.HS0_57 c arg4 harg4 arg5 harg5 arg6 harg6 arg26 harg26 x2 x3 x4 xs0) (row 1).toLoadRect)
    (arg26.view.readCov (Val := Elt Ideal) (kernelRun0_B.sl.HS0_58 c arg4 harg4 arg5 harg5 arg6 harg6 arg26 harg26 x2 x3 x4 xs0) (row 2).toLoadRect)
    (arg26.view.readCov (Val := Elt Ideal) (kernelRun0_B.sl.HS0_59 c arg4 harg4 arg5 harg5 arg6 harg6 arg26 harg26 x2 x3 x4 xs0) (row 3).toLoadRect)
    (arg26.view.readCov (Val := Elt Ideal) (kernelRun0_B.sl.HS0_60 c arg4 harg4 arg5 harg5 arg6 harg6 arg26 harg26 x2 x3 x4 xs0) (row 4).toLoadRect)
    (arg26.view.readCov (Val := Elt Ideal) (kernelRun0_B.sl.HS0_61 c arg4 harg4 arg5 harg5 arg6 harg6 arg26 harg26 x2 x3 x4 xs0) (row 5).toLoadRect)
    (arg26.view.readCov (Val := Elt Ideal) (kernelRun0_B.sl.HS0_62 c arg4 harg4 arg5 harg5 arg6 harg6 arg26 harg26 x2 x3 x4 xs0) (row 6).toLoadRect)
    (arg26.view.readCov (Val := Elt Ideal) (kernelRun0_B.sl.HS0_63 c arg4 harg4 arg5 harg5 arg6 harg6 arg26 harg26 x2 x3 x4 xs0) (row 7).toLoadRect)

theorem c0 (r : Fin 64) (j : Fin 1024) : C0 arg3 harg3 arg26 harg26 x1 xs0 (ix2 r j) = readS (fun k => x1 (ix3 0 ⟨(7 - 0) * 64 + r.val, by omega⟩ k)) (s0B xs0) j :=
  CAT_at harg3 x1 (ch 0) (s0B xs0) (RD_eq harg26 xs0 0)
    (RD_eq harg26 xs0 1)
    (RD_eq harg26 xs0 2)
    (RD_eq harg26 xs0 3)
    (RD_eq harg26 xs0 4)
    (RD_eq harg26 xs0 5)
    (RD_eq harg26 xs0 6)
    (RD_eq harg26 xs0 7) r j

theorem c1 (r : Fin 64) (j : Fin 1024) : C1 c arg3 harg3 arg4 harg4 arg5 harg5 arg6 harg6 arg26 harg26 x1 x2 x3 x4 xs0 (ix2 r j) = readS (fun k => x1 (ix3 0 ⟨(7 - 1) * 64 + r.val, by omega⟩ k)) (iterS (fL x2 x3 x4) (s0B xs0) 1) j :=
  CAT_at harg3 x1 (ch 1) (iterS (fL x2 x3 x4) (s0B xs0) 1) ((good_turn (K := stV (iterS (fL x2 x3 x4) (s0B xs0) 2)) (g8 c arg4 harg4 arg5 harg5 arg6 harg6 arg26 harg26 x2 x3 x4 xs0)).head (u := 0))
    ((g9 c arg4 harg4 arg5 harg5 arg6 harg6 arg26 harg26 x2 x3 x4 xs0).head (u := 1))
    ((g10 c arg4 harg4 arg5 harg5 arg6 harg6 arg26 harg26 x2 x3 x4 xs0).head (u := 2))
    ((g11 c arg4 harg4 arg5 harg5 arg6 harg6 arg26 harg26 x2 x3 x4 xs0).head (u := 3))
    ((g12 c arg4 harg4 arg5 harg5 arg6 harg6 arg26 harg26 x2 x3 x4 xs0).head (u := 4))
    ((g13 c arg4 harg4 arg5 harg5 arg6 harg6 arg26 harg26 x2 x3 x4 xs0).head (u := 5))
    ((g14 c arg4 harg4 arg5 harg5 arg6 harg6 arg26 harg26 x2 x3 x4 xs0).head (u := 6))
    ((g15 c arg4 harg4 arg5 harg5 arg6 harg6 arg26 harg26 x2 x3 x4 xs0).head (u := 7)) r j

theorem c2 (r : Fin 64) (j : Fin 1024) : C2 c arg3 harg3 arg4 harg4 arg5 harg5 arg6 harg6 arg26 harg26 x1 x2 x3 x4 xs0 (ix2 r j) = readS (fun k => x1 (ix3 0 ⟨(7 - 2) * 64 + r.val, by omega⟩ k)) (iterS (fL x2 x3 x4) (s0B xs0) 2) j :=
  CAT_at harg3 x1 (ch 2) (iterS (fL x2 x3 x4) (s0B xs0) 2) ((good_turn (K := stV (iterS (fL x2 x3 x4) (s0B xs0) 3)) (g16 c arg4 harg4 arg5 harg5 arg6 harg6 arg26 harg26 x2 x3 x4 xs0)).head (u := 0))
    ((g17 c arg4 harg4 arg5 harg5 arg6 harg6 arg26 harg26 x2 x3 x4 xs0).head (u := 1))
    ((g18 c arg4 harg4 arg5 harg5 arg6 harg6 arg26 harg26 x2 x3 x4 xs0).head (u := 2))
    ((g19 c arg4 harg4 arg5 harg5 arg6 harg6 arg26 harg26 x2 x3 x4 xs0).head (u := 3))
    ((g20 c arg4 harg4 arg5 harg5 arg6 harg6 arg26 harg26 x2 x3 x4 xs0).head (u := 4))
    ((g21 c arg4 harg4 arg5 harg5 arg6 harg6 arg26 harg26 x2 x3 x4 xs0).head (u := 5))
    ((g22 c arg4 harg4 arg5 harg5 arg6 harg6 arg26 harg26 x2 x3 x4 xs0).head (u := 6))
    ((g23 c arg4 harg4 arg5 harg5 arg6 harg6 arg26 harg26 x2 x3 x4 xs0).head (u := 7)) r j

theorem c3 (r : Fin 64) (j : Fin 1024) : C3 c arg3 harg3 arg4 harg4 arg5 harg5 arg6 harg6 arg26 harg26 x1 x2 x3 x4 xs0 (ix2 r j) = readS (fun k => x1 (ix3 0 ⟨(7 - 3) * 64 + r.val, by omega⟩ k)) (iterS (fL x2 x3 x4) (s0B xs0) 3) j :=
  CAT_at harg3 x1 (ch 3) (iterS (fL x2 x3 x4) (s0B xs0) 3) ((good_turn (K := stV (iterS (fL x2 x3 x4) (s0B xs0) 4)) (g24 c arg4 harg4 arg5 harg5 arg6 harg6 arg26 harg26 x2 x3 x4 xs0)).head (u := 0))
    ((g25 c arg4 harg4 arg5 harg5 arg6 harg6 arg26 harg26 x2 x3 x4 xs0).head (u := 1))
    ((g26 c arg4 harg4 arg5 harg5 arg6 harg6 arg26 harg26 x2 x3 x4 xs0).head (u := 2))
    ((g27 c arg4 harg4 arg5 harg5 arg6 harg6 arg26 harg26 x2 x3 x4 xs0).head (u := 3))
    ((g28 c arg4 harg4 arg5 harg5 arg6 harg6 arg26 harg26 x2 x3 x4 xs0).head (u := 4))
    ((g29 c arg4 harg4 arg5 harg5 arg6 harg6 arg26 harg26 x2 x3 x4 xs0).head (u := 5))
    ((g30 c arg4 harg4 arg5 harg5 arg6 harg6 arg26 harg26 x2 x3 x4 xs0).head (u := 6))
    ((g31 c arg4 harg4 arg5 harg5 arg6 harg6 arg26 harg26 x2 x3 x4 xs0).head (u := 7)) r j

theorem c4 (r : Fin 64) (j : Fin 1024) : C4 c arg3 harg3 arg4 harg4 arg5 harg5 arg6 harg6 arg26 harg26 x1 x2 x3 x4 xs0 (ix2 r j) = readS (fun k => x1 (ix3 0 ⟨(7 - 4) * 64 + r.val, by omega⟩ k)) (iterS (fL x2 x3 x4) (s0B xs0) 4) j :=
  CAT_at harg3 x1 (ch 4) (iterS (fL x2 x3 x4) (s0B xs0) 4) ((good_turn (K := stV (iterS (fL x2 x3 x4) (s0B xs0) 5)) (g32 c arg4 harg4 arg5 harg5 arg6 harg6 arg26 harg26 x2 x3 x4 xs0)).head (u := 0))
    ((g33 c arg4 harg4 arg5 harg5 arg6 harg6 arg26 harg26 x2 x3 x4 xs0).head (u := 1))
    ((g34 c arg4 harg4 arg5 harg5 arg6 harg6 arg26 harg26 x2 x3 x4 xs0).head (u := 2))
    ((g35 c arg4 harg4 arg5 harg5 arg6 harg6 arg26 harg26 x2 x3 x4 xs0).head (u := 3))
    ((g36 c arg4 harg4 arg5 harg5 arg6 harg6 arg26 harg26 x2 x3 x4 xs0).head (u := 4))
    ((g37 c arg4 harg4 arg5 harg5 arg6 harg6 arg26 harg26 x2 x3 x4 xs0).head (u := 5))
    ((g38 c arg4 harg4 arg5 harg5 arg6 harg6 arg26 harg26 x2 x3 x4 xs0).head (u := 6))
    ((g39 c arg4 harg4 arg5 harg5 arg6 harg6 arg26 harg26 x2 x3 x4 xs0).head (u := 7)) r j

theorem c5 (r : Fin 64) (j : Fin 1024) : C5 c arg3 harg3 arg4 harg4 arg5 harg5 arg6 harg6 arg26 harg26 x1 x2 x3 x4 xs0 (ix2 r j) = readS (fun k => x1 (ix3 0 ⟨(7 - 5) * 64 + r.val, by omega⟩ k)) (iterS (fL x2 x3 x4) (s0B xs0) 5) j :=
  CAT_at harg3 x1 (ch 5) (iterS (fL x2 x3 x4) (s0B xs0) 5) ((good_turn (K := stV (iterS (fL x2 x3 x4) (s0B xs0) 6)) (g40 c arg4 harg4 arg5 harg5 arg6 harg6 arg26 harg26 x2 x3 x4 xs0)).head (u := 0))
    ((g41 c arg4 harg4 arg5 harg5 arg6 harg6 arg26 harg26 x2 x3 x4 xs0).head (u := 1))
    ((g42 c arg4 harg4 arg5 harg5 arg6 harg6 arg26 harg26 x2 x3 x4 xs0).head (u := 2))
    ((g43 c arg4 harg4 arg5 harg5 arg6 harg6 arg26 harg26 x2 x3 x4 xs0).head (u := 3))
    ((g44 c arg4 harg4 arg5 harg5 arg6 harg6 arg26 harg26 x2 x3 x4 xs0).head (u := 4))
    ((g45 c arg4 harg4 arg5 harg5 arg6 harg6 arg26 harg26 x2 x3 x4 xs0).head (u := 5))
    ((g46 c arg4 harg4 arg5 harg5 arg6 harg6 arg26 harg26 x2 x3 x4 xs0).head (u := 6))
    ((g47 c arg4 harg4 arg5 harg5 arg6 harg6 arg26 harg26 x2 x3 x4 xs0).head (u := 7)) r j

theorem c6 (r : Fin 64) (j : Fin 1024) : C6 c arg3 harg3 arg4 harg4 arg5 harg5 arg6 harg6 arg26 harg26 x1 x2 x3 x4 xs0 (ix2 r j) = readS (fun k => x1 (ix3 0 ⟨(7 - 6) * 64 + r.val, by omega⟩ k)) (iterS (fL x2 x3 x4) (s0B xs0) 6) j :=
  CAT_at harg3 x1 (ch 6) (iterS (fL x2 x3 x4) (s0B xs0) 6) ((good_turn (K := stV (iterS (fL x2 x3 x4) (s0B xs0) 7)) (g48 c arg4 harg4 arg5 harg5 arg6 harg6 arg26 harg26 x2 x3 x4 xs0)).head (u := 0))
    ((g49 c arg4 harg4 arg5 harg5 arg6 harg6 arg26 harg26 x2 x3 x4 xs0).head (u := 1))
    ((g50 c arg4 harg4 arg5 harg5 arg6 harg6 arg26 harg26 x2 x3 x4 xs0).head (u := 2))
    ((g51 c arg4 harg4 arg5 harg5 arg6 harg6 arg26 harg26 x2 x3 x4 xs0).head (u := 3))
    ((g52 c arg4 harg4 arg5 harg5 arg6 harg6 arg26 harg26 x2 x3 x4 xs0).head (u := 4))
    ((g53 c arg4 harg4 arg5 harg5 arg6 harg6 arg26 harg26 x2 x3 x4 xs0).head (u := 5))
    ((g54 c arg4 harg4 arg5 harg5 arg6 harg6 arg26 harg26 x2 x3 x4 xs0).head (u := 6))
    ((g55 c arg4 harg4 arg5 harg5 arg6 harg6 arg26 harg26 x2 x3 x4 xs0).head (u := 7)) r j

theorem c7 (r : Fin 64) (j : Fin 1024) : C7 c arg3 harg3 arg4 harg4 arg5 harg5 arg6 harg6 arg26 harg26 x1 x2 x3 x4 xs0 (ix2 r j) = readS (fun k => x1 (ix3 0 ⟨(7 - 7) * 64 + r.val, by omega⟩ k)) (iterS (fL x2 x3 x4) (s0B xs0) 7) j :=
  CAT_at harg3 x1 (ch 7) (iterS (fL x2 x3 x4) (s0B xs0) 7) ((good_turn (K := stV (iterS (fL x2 x3 x4) (s0B xs0) 8)) (g56 c arg4 harg4 arg5 harg5 arg6 harg6 arg26 harg26 x2 x3 x4 xs0)).head (u := 0))
    ((g57 c arg4 harg4 arg5 harg5 arg6 harg6 arg26 harg26 x2 x3 x4 xs0).head (u := 1))
    ((g58 c arg4 harg4 arg5 harg5 arg6 harg6 arg26 harg26 x2 x3 x4 xs0).head (u := 2))
    ((g59 c arg4 harg4 arg5 harg5 arg6 harg6 arg26 harg26 x2 x3 x4 xs0).head (u := 3))
    ((g60 c arg4 harg4 arg5 harg5 arg6 harg6 arg26 harg26 x2 x3 x4 xs0).head (u := 4))
    ((g61 c arg4 harg4 arg5 harg5 arg6 harg6 arg26 harg26 x2 x3 x4 xs0).head (u := 5))
    ((g62 c arg4 harg4 arg5 harg5 arg6 harg6 arg26 harg26 x2 x3 x4 xs0).head (u := 6))
    ((g63 c arg4 harg4 arg5 harg5 arg6 harg6 arg26 harg26 x2 x3 x4 xs0).head (u := 7)) r j

theorem r_79_at (r : Fin 256) (j : Fin 1024) : kernelRun0_B.sl.r_79 c arg3 harg3 arg4 harg4 arg5 harg5 arg6 harg6 arg26 harg26 x1 x2 x3 x4 xs0 (ix2 r j) = OB x1 (iterS (fL x2 x3 x4) (s0B xs0)) ⟨4 * 64 + r.val, by omega⟩ j :=
  (show CATR (C3 c arg3 harg3 arg4 harg4 arg5 harg5 arg6 harg6 arg26 harg26 x1 x2 x3 x4 xs0) (C2 c arg3 harg3 arg4 harg4 arg5 harg5 arg6 harg6 arg26 harg26 x1 x2 x3 x4 xs0) (C1 c arg3 harg3 arg4 harg4 arg5 harg5 arg6 harg6 arg26 harg26 x1 x2 x3 x4 xs0) (C0 arg3 harg3 arg26 harg26 x1 xs0) (ix2 r j) = _ from
    CATR_at x1 (iterS (fL x2 x3 x4) (s0B xs0)) 4 (by decide) (c3 c arg3 harg3 arg4 harg4 arg5 harg5 arg6 harg6 arg26 harg26 x1 x2 x3 x4 xs0) (c2 c arg3 harg3 arg4 harg4 arg5 harg5 arg6 harg6 arg26 harg26 x1 x2 x3 x4 xs0) (c1 c arg3 harg3 arg4 harg4 arg5 harg5 arg6 harg6 arg26 harg26 x1 x2 x3 x4 xs0) (c0 arg3 harg3 arg26 harg26 x1 xs0) r j)

theorem r_151_at (r : Fin 256) (j : Fin 1024) : kernelRun0_B.sl.r_151 c arg3 harg3 arg4 harg4 arg5 harg5 arg6 harg6 arg26 harg26 x1 x2 x3 x4 xs0 (ix2 r j) = OB x1 (iterS (fL x2 x3 x4) (s0B xs0)) ⟨0 * 64 + r.val, by omega⟩ j :=
  (show CATR (C7 c arg3 harg3 arg4 harg4 arg5 harg5 arg6 harg6 arg26 harg26 x1 x2 x3 x4 xs0) (C6 c arg3 harg3 arg4 harg4 arg5 harg5 arg6 harg6 arg26 harg26 x1 x2 x3 x4 xs0) (C5 c arg3 harg3 arg4 harg4 arg5 harg5 arg6 harg6 arg26 harg26 x1 x2 x3 x4 xs0) (C4 c arg3 harg3 arg4 harg4 arg5 harg5 arg6 harg6 arg26 harg26 x1 x2 x3 x4 xs0) (ix2 r j) = _ from
    CATR_at x1 (iterS (fL x2 x3 x4) (s0B xs0)) 0 (by decide) (c7 c arg3 harg3 arg4 harg4 arg5 harg5 arg6 harg6 arg26 harg26 x1 x2 x3 x4 xs0) (c6 c arg3 harg3 arg4 harg4 arg5 harg5 arg6 harg6 arg26 harg26 x1 x2 x3 x4 xs0) (c5 c arg3 harg3 arg4 harg4 arg5 harg5 arg6 harg6 arg26 harg26 x1 x2 x3 x4 xs0) (c4 c arg3 harg3 arg4 harg4 arg5 harg5 arg6 harg6 arg26 harg26 x1 x2 x3 x4 xs0) r j)

end Cert.StepsB
-- ==== Proof.PointB.lean ====
/- What one grid point leaves (inside a batch): the state in the scratch, and the rows of its output block. -/
module

public import proofs.«01_k».proof.Proof.StepsB
public import proofs.«01_k».proof.Proof.Block
public import proofs.«01_k».proof.Proof.Words
import all proofs.«01_k».proof.Proof.Gen.KernelIdeal.Frame.RunB

@[expose] public section

set_option maxRecDepth 16384
set_option maxHeartbeats 4000000

noncomputable section

namespace Cert.PointB

open Idealize.ShloMosaic Idealize.ShloMosaic.TcCoe Cert.KernelIdeal Cert.KernelIdeal.Gen Cert.Spec Cert.Chain Cert.Rows Cert.Block

theorem state  (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg7 : Memref sig .tc .vmem S1x8x128x128 .f32) (harg7 : arg7.IsWhole) (arg8 : Memref sig .tc .vmem S1x512x1024 .f32) (harg8 : arg8.IsWhole) (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x512x1024 .f32) (harg25 : arg25.IsWhole) (arg26 : Memref sig .tc .vmem S8x128x128 .f32) (harg26 : arg26.IsWhole) (hc0 : ¬cond0_0 i)
    (x0 : Vec Ideal S1x512x1024 .bf16) (x1 : Vec Ideal S1x512x1024 .bf16) (x2 : Vec Ideal S1x512x1024 .bf16) (x3 : Vec Ideal S1x512x1024 .bf16) (x4 : Vec Ideal S1x8x1x1024 .f32) (x5 : Vec Ideal S1x8x128x128 .f32) (x6 : Vec Ideal S1x512x1024 .f32) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) (xs0 : Vec Ideal S8x128x128 .f32) (u : Fin 8) (a b : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0 (ix3 u a b) = iterS (fL x2 x3 x4) (s0B xs0) 8 u a b := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0)]
  unfold kernelRun0_B
  dsimp only
  exact good_all (good_upd harg4 harg5 harg6 x2 x3 x4 7 7 (iterS (fL x2 x3 x4) (s0B xs0) 7) (StepsB.g63 c arg4 harg4 arg5 harg5 arg6 harg6 arg26 harg26 x2 x3 x4 xs0)) u a b

def WL (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) : VW :=
  { md := (View.readAt (Elt Ideal) arg9.view (Rect.unit ![0, 0, 0] S1x1x6144.size (by decide)).toLoadRect (harg9.unread x7)), hgn := (View.readAt (Elt Ideal) arg10.view (Rect.unit ![0, 0] S1x128.size (by decide)).toLoadRect (harg10.unread x8)), gln := (View.readAt (Elt Ideal) arg11.view (Rect.unit ![0, 0] S1x128.size (by decide)).toLoadRect (harg11.unread x9)), pre1 := (View.readAt (Elt Ideal) arg12.view (Rect.unit ![0, 0] S1x1024.size (by decide)).toLoadRect (harg12.unread x10)), post1 := (View.readAt (Elt Ideal) arg13.view (Rect.unit ![0, 0] S1x1024.size (by decide)).toLoadRect (harg13.unread x11)), pre2 := (View.readAt (Elt Ideal) arg14.view (Rect.unit ![0, 0] S1x1024.size (by decide)).toLoadRect (harg14.unread x12)), post2 := (View.readAt (Elt Ideal) arg15.view (Rect.unit ![0, 0] S1x1024.size (by decide)).toLoadRect (harg15.unread x13)), wgh := (View.readAt (Elt Ideal) arg16.view (Rect.unit ![0, 0] S1024x512.size (by decide)).toLoadRect (harg16.unread x14)), wgg := (View.readAt (Elt Ideal) arg17.view (Rect.unit ![0, 0] S1024x512.size (by decide)).toLoadRect (harg17.unread x15)), wgm := (View.readAt (Elt Ideal) arg18.view (Rect.unit ![0, 0] S1024x2048.size (by decide)).toLoadRect (harg18.unread x16)), wbh := (View.readAt (Elt Ideal) arg19.view (Rect.unit ![0, 0] S512x1024.size (by decide)).toLoadRect (harg19.unread x17)), wbg := (View.readAt (Elt Ideal) arg20.view (Rect.unit ![0, 0] S512x1024.size (by decide)).toLoadRect (harg20.unread x18)), wo := (View.readAt (Elt Ideal) arg21.view (Rect.unit ![0, 0] S1024x1024.size (by decide)).toLoadRect (harg21.unread x19)), wg := (View.readAt (Elt Ideal) arg22.view (Rect.unit ![0, 0] S1024x2816.size (by decide)).toLoadRect (harg22.unread x20)), wu := (View.readAt (Elt Ideal) arg23.view (Rect.unit ![0, 0] S1024x2816.size (by decide)).toLoadRect (harg23.unread x21)), wd := (View.readAt (Elt Ideal) arg24.view (Rect.unit ![0, 0] S2816x1024.size (by decide)).toLoadRect (harg24.unread x22)) }

theorem WL_eq (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) : WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22 = { md := x7, hgn := x8, gln := x9, pre1 := x10, post1 := x11, pre2 := x12, post2 := x13, wgh := x14, wgg := x15, wgm := x16, wbh := x17, wbg := x18, wo := x19, wg := x20, wu := x21, wd := x22 } := by
  simp only [WL, whole0 harg9, whole1 harg10, whole2 harg11, whole3 harg12, whole4 harg13, whole5 harg14, whole6 harg15, whole7 harg16, whole8 harg17, whole9 harg18, whole10 harg19, whole11 harg20, whole12 harg21, whole13 harg22, whole14 harg23, whole15 harg24]

theorem rows  (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x8x1x1024 .f32) (harg6 : arg6.IsWhole) (arg7 : Memref sig .tc .vmem S1x8x128x128 .f32) (harg7 : arg7.IsWhole) (arg8 : Memref sig .tc .vmem S1x512x1024 .f32) (harg8 : arg8.IsWhole) (arg9 : Memref sig .tc .vmem S1x1x6144 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x2048 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x512x1024 .f32) (harg25 : arg25.IsWhole) (arg26 : Memref sig .tc .vmem S8x128x128 .f32) (harg26 : arg26.IsWhole) (hc0 : ¬cond0_0 i)
    (x0 : Vec Ideal S1x512x1024 .bf16) (x1 : Vec Ideal S1x512x1024 .bf16) (x2 : Vec Ideal S1x512x1024 .bf16) (x3 : Vec Ideal S1x512x1024 .bf16) (x4 : Vec Ideal S1x8x1x1024 .f32) (x5 : Vec Ideal S1x8x128x128 .f32) (x6 : Vec Ideal S1x512x1024 .f32) (x7 : Vec Ideal S1x1x6144 .f32) (x8 : Vec Ideal S1x128 .f32) (x9 : Vec Ideal S1x128 .f32) (x10 : Vec Ideal S1x1024 .f32) (x11 : Vec Ideal S1x1024 .f32) (x12 : Vec Ideal S1x1024 .f32) (x13 : Vec Ideal S1x1024 .f32) (x14 : Vec Ideal S1024x512 .bf16) (x15 : Vec Ideal S1024x512 .bf16) (x16 : Vec Ideal S1024x2048 .bf16) (x17 : Vec Ideal S512x1024 .bf16) (x18 : Vec Ideal S512x1024 .bf16) (x19 : Vec Ideal S1024x1024 .bf16) (x20 : Vec Ideal S1024x2816 .bf16) (x21 : Vec Ideal S1024x2816 .bf16) (x22 : Vec Ideal S2816x1024 .bf16) (xs0 : Vec Ideal S8x128x128 .f32) (R : Fin 512) (j : Fin 1024) :
    out0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0 (ix3 0 R j) = rowOut (VW.wts { md := x7, hgn := x8, gln := x9, pre1 := x10, post1 := x11, pre2 := x12, post2 := x13, wgh := x14, wgg := x15, wgm := x16, wbh := x17, wbg := x18, wo := x19, wg := x20, wu := x21, wd := x22 }) (fun k => x6 (ix3 0 R k)) (fun k => x0 (ix3 0 R k) + OB x1 (iterS (fL x2 x3 x4) (s0B xs0)) R k) j := by
  unfold out0_B_23
  rw [View.read_writes_eq_canon _ _ _ (cover0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 x21 x22 xs0)]
  unfold kernelRun0_B
  dsimp only
  refine (show View.canon [(⟨half 256 (by decide), (Words.rows1 (WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22) (View.readAt (Elt Ideal) arg8.view (half 256 (by decide)).toLoadRect (harg8.unread x6)) (View.readAt (Elt Ideal) arg2.view (half 256 (by decide)).toLoadRect (harg2.unread x0)) (kernelRun0_B.sl.r_79 c arg3 harg3 arg4 harg4 arg5 harg5 arg6 harg6 arg26 harg26 x1 x2 x3 x4 xs0))⟩ : View.Piece (Elt Ideal) S1x512x1024 .f32), ⟨half 0 (by decide), (Words.rows0 (WL arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x7 x8 x9 x10 x11 x12 x13 x14 x15 x16 x17 x18 x19 x20 x21 x22) (View.readAt (Elt Ideal) arg8.view (half 0 (by decide)).toLoadRect (harg8.unread x6)) (View.readAt (Elt Ideal) arg2.view (half 0 (by decide)).toLoadRect (harg2.unread x0)) (kernelRun0_B.sl.r_151 c arg3 harg3 arg4 harg4 arg5 harg5 arg6 harg6 arg26 harg26 x1 x2 x3 x4 xs0))⟩] (ix3 0 R j) = _ from ?_)
  rw [WL_eq, Words.rows1_eq, Words.rows0_eq]
  refine two_at _ _ (fun R j => rowOut (VW.wts { md := x7, hgn := x8, gln := x9, pre1 := x10, post1 := x11, pre2 := x12, post2 := x13, wgh := x14, wgg := x15, wgm := x16, wbh := x17, wbg := x18, wo := x19, wg := x20, wu := x21, wd := x22 }) (fun k => x6 (ix3 0 R k)) (fun k => x0 (ix3 0 R k) + OB x1 (iterS (fL x2 x3 x4) (s0B xs0)) R k) j) (fun r j => ?_) (fun r j => ?_) R j
  · exact half_row _ harg8 harg2 x6 x0 256 (by decide) _ _ (StepsB.r_79_at c arg3 harg3 arg4 harg4 arg5 harg5 arg6 harg6 arg26 harg26 x1 x2 x3 x4 xs0) r j
  · exact half_row _ harg8 harg2 x6 x0 0 (by decide) _ _ (StepsB.r_151_at c arg3 harg3 arg4 harg4 arg5 harg5 arg6 harg6 arg26 harg26 x1 x2 x3 x4 xs0) r j

end Cert.PointB
-- ==== Proof.Grid.lean ====
/- What the grid leaves: a batch's four points carry the state on, and write its rows. -/
module

public import proofs.«01_k».proof.Proof.Chain
public import proofs.«01_k».proof.Proof.Rows
public import proofs.«01_k».proof.Proof.Gen.KernelIdeal.Value
public import Idealize.ShloMosaic.Lib.Pipeline.ValueKit

@[expose] public section

set_option maxRecDepth 16384
set_option maxHeartbeats 1000000

noncomputable section

namespace Cert.Grid

open Idealize.ShloMosaic Idealize.ShloMosaic.TcCoe Cert.KernelIdeal Cert.KernelIdeal.Gen Cert.KernelIdeal.Value Cert.Spec Cert.Chain Cert.Rows
open Idealize.ShloMosaic.Pipeline (Dat)

/-- The arrays of the arguments. -/
def ofArgs (a0 : Vec Ideal S8x2048x1024 .bf16) (a1 : Vec Ideal S8x2048x1024 .bf16) (a2 : Vec Ideal S8x2048x1024 .bf16) (a3 : Vec Ideal S8x2048x1024 .bf16) (a4 : Vec Ideal S8x32x1x1024 .f32) (a5 : Vec Ideal S8x8x128x128 .f32) (a6 : Vec Ideal S8x2048x1024 .f32) (a7 : Vec Ideal S16x1x6144 .f32) (a8 : Vec Ideal S1x128 .f32) (a9 : Vec Ideal S1x128 .f32) (a10 : Vec Ideal S1x1024 .f32) (a11 : Vec Ideal S1x1024 .f32) (a12 : Vec Ideal S1x1024 .f32) (a13 : Vec Ideal S1x1024 .f32) (a14 : Vec Ideal S1024x512 .bf16) (a15 : Vec Ideal S1024x512 .bf16) (a16 : Vec Ideal S1024x2048 .bf16) (a17 : Vec Ideal S512x1024 .bf16) (a18 : Vec Ideal S512x1024 .bf16) (a19 : Vec Ideal S1024x1024 .bf16) (a20 : Vec Ideal S1024x2816 .bf16) (a21 : Vec Ideal S1024x2816 .bf16) (a22 : Vec Ideal S2816x1024 .bf16) : Arr where
  oi b R k := a0 (ix3 b R k)
  qd b R k := a1 (ix3 b R k)
  kd b R k := a2 (ix3 b R k)
  v b R k := a3 (ix3 b R k)
  el b n k := a4 (ix4 b n 0 k)
  s0 b u p q := a5 (ix4 b u p q)
  x b R k := a6 (ix3 b R k)
  w b := {
    md k := a7 (ix3 ⟨b.val + 1, by omega⟩ 0 k)
    hgn k := a8 (ix2 0 k)
    gln k := a9 (ix2 0 k)
    pre1 k := a10 (ix2 0 k)
    post1 k := a11 (ix2 0 k)
    pre2 k := a12 (ix2 0 k)
    post2 k := a13 (ix2 0 k)
    wgh k j := a14 (ix2 k j)
    wgg k j := a15 (ix2 k j)
    wgm k j := a16 (ix2 k j)
    wbh k j := a17 (ix2 k j)
    wbg k j := a18 (ix2 k j)
    wo k j := a19 (ix2 k j)
    wg k j := a20 (ix2 k j)
    wu k j := a21 (ix2 k j)
    wd k j := a22 (ix2 k j) }

variable (m : (ℓ : Loc nD τ sig) → Buf (Elt Ideal) ℓ) (c : Dev nD)

/-- The arrays a device holds at the start. -/
def AR : Arr := ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

theorem idx0 : ∀ t : Fin cfg0.N, win0_0.index t = ![t.val / 4, 3 - t.val % 4, 0] := (by decide +kernel : ∀ t : Fin grid0.N, _)
theorem idx1 : ∀ t : Fin cfg0.N, win0_1.index t = ![t.val / 4, 3 - t.val % 4, 0] := (by decide +kernel : ∀ t : Fin grid0.N, _)
theorem idx2 : ∀ t : Fin cfg0.N, win0_2.index t = ![t.val / 4, 3 - t.val % 4, 0] := (by decide +kernel : ∀ t : Fin grid0.N, _)
theorem idx3 : ∀ t : Fin cfg0.N, win0_3.index t = ![t.val / 4, 3 - t.val % 4, 0] := (by decide +kernel : ∀ t : Fin grid0.N, _)
theorem idx4 : ∀ t : Fin cfg0.N, win0_4.index t = ![t.val / 4, 3 - t.val % 4, 0, 0] := (by decide +kernel : ∀ t : Fin grid0.N, _)
theorem idx5 : ∀ t : Fin cfg0.N, win0_5.index t = ![t.val / 4, 0, 0, 0] := (by decide +kernel : ∀ t : Fin grid0.N, _)
theorem idx6 : ∀ t : Fin cfg0.N, win0_6.index t = ![t.val / 4, 3 - t.val % 4, 0] := (by decide +kernel : ∀ t : Fin grid0.N, _)
theorem idx7 : ∀ t : Fin cfg0.N, win0_7.index t = ![t.val / 4 + 1, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![t.val / 4, 3 - t.val % 4, 0] := (by decide +kernel : ∀ t : Fin grid0.N, _)

theorem lt32 (t : Fin cfg0.N) : t.val < 32 := lt_of_lt_of_eq t.isLt N_0

/-- A point's batch. -/
abbrev bt (t : Fin cfg0.N) : Fin 8 := ⟨t.val / 4, by have := lt32 t; omega⟩

theorem blk0 (t : Fin cfg0.N) (R : Fin 512) (k : Fin 1024) : iblk m c 0 t (ix3 0 R k) = (AR m c).oi (bt t) ⟨(3 - t.val % 4) * 512 + R.val, by omega⟩ k := by
  blk_ext [iblk, V, AR, ofArgs, idx0 t]

theorem blk1 (t : Fin cfg0.N) (R : Fin 512) (k : Fin 1024) : iblk m c 1 t (ix3 0 R k) = (AR m c).qd (bt t) ⟨(3 - t.val % 4) * 512 + R.val, by omega⟩ k := by
  blk_ext [iblk, V, AR, ofArgs, idx1 t]

theorem blk2 (t : Fin cfg0.N) (R : Fin 512) (k : Fin 1024) : iblk m c 2 t (ix3 0 R k) = (AR m c).kd (bt t) ⟨(3 - t.val % 4) * 512 + R.val, by omega⟩ k := by
  blk_ext [iblk, V, AR, ofArgs, idx2 t]

theorem blk3 (t : Fin cfg0.N) (R : Fin 512) (k : Fin 1024) : iblk m c 3 t (ix3 0 R k) = (AR m c).v (bt t) ⟨(3 - t.val % 4) * 512 + R.val, by omega⟩ k := by
  blk_ext [iblk, V, AR, ofArgs, idx3 t]

theorem blk6 (t : Fin cfg0.N) (R : Fin 512) (k : Fin 1024) : iblk m c 6 t (ix3 0 R k) = (AR m c).x (bt t) ⟨(3 - t.val % 4) * 512 + R.val, by omega⟩ k := by
  blk_ext [iblk, V, AR, ofArgs, idx6 t]

theorem blk4 (t : Fin cfg0.N) (n : Fin 8) (k : Fin 1024) : iblk m c 4 t (ix4 0 n 0 k) = (AR m c).el (bt t) ⟨(3 - t.val % 4) * 8 + n.val, by omega⟩ k := by
  blk_ext [iblk, V, AR, ofArgs, idx4 t]

theorem blk5 (t : Fin cfg0.N) (u : Fin 8) (p q : Fin 128) : iblk m c 5 t (ix4 0 u p q) = (AR m c).s0 (bt t) u p q := by
  blk_ext [iblk, V, AR, ofArgs, idx5 t]

theorem blk7 (t : Fin cfg0.N) (k : Fin 6144) : iblk m c 7 t (ix3 0 0 k) = ((AR m c).w (bt t)).md k := by
  blk_ext [iblk, V, AR, ofArgs, idx7 t]

theorem blk8 (t : Fin cfg0.N) (k : Fin 128) : iblk m c 8 t (ix2 0 k) = ((AR m c).w (bt t)).hgn k := by
  blk_ext [iblk, V, AR, ofArgs, idx8 t]

theorem blk9 (t : Fin cfg0.N) (k : Fin 128) : iblk m c 9 t (ix2 0 k) = ((AR m c).w (bt t)).gln k := by
  blk_ext [iblk, V, AR, ofArgs, idx9 t]

theorem blk10 (t : Fin cfg0.N) (k : Fin 1024) : iblk m c 10 t (ix2 0 k) = ((AR m c).w (bt t)).pre1 k := by
  blk_ext [iblk, V, AR, ofArgs, idx10 t]

theorem blk11 (t : Fin cfg0.N) (k : Fin 1024) : iblk m c 11 t (ix2 0 k) = ((AR m c).w (bt t)).post1 k := by
  blk_ext [iblk, V, AR, ofArgs, idx11 t]

theorem blk12 (t : Fin cfg0.N) (k : Fin 1024) : iblk m c 12 t (ix2 0 k) = ((AR m c).w (bt t)).pre2 k := by
  blk_ext [iblk, V, AR, ofArgs, idx12 t]

theorem blk13 (t : Fin cfg0.N) (k : Fin 1024) : iblk m c 13 t (ix2 0 k) = ((AR m c).w (bt t)).post2 k := by
  blk_ext [iblk, V, AR, ofArgs, idx13 t]

theorem blk14 (t : Fin cfg0.N) (k : Fin 1024) (j : Fin 512) : iblk m c 14 t (ix2 k j) = ((AR m c).w (bt t)).wgh k j := by
  blk_ext [iblk, V, AR, ofArgs, idx14 t]

theorem blk15 (t : Fin cfg0.N) (k : Fin 1024) (j : Fin 512) : iblk m c 15 t (ix2 k j) = ((AR m c).w (bt t)).wgg k j := by
  blk_ext [iblk, V, AR, ofArgs, idx15 t]

theorem blk16 (t : Fin cfg0.N) (k : Fin 1024) (j : Fin 2048) : iblk m c 16 t (ix2 k j) = ((AR m c).w (bt t)).wgm k j := by
  blk_ext [iblk, V, AR, ofArgs, idx16 t]

theorem blk17 (t : Fin cfg0.N) (k : Fin 512) (j : Fin 1024) : iblk m c 17 t (ix2 k j) = ((AR m c).w (bt t)).wbh k j := by
  blk_ext [iblk, V, AR, ofArgs, idx17 t]

theorem blk18 (t : Fin cfg0.N) (k : Fin 512) (j : Fin 1024) : iblk m c 18 t (ix2 k j) = ((AR m c).w (bt t)).wbg k j := by
  blk_ext [iblk, V, AR, ofArgs, idx18 t]

theorem blk19 (t : Fin cfg0.N) (k : Fin 1024) (j : Fin 1024) : iblk m c 19 t (ix2 k j) = ((AR m c).w (bt t)).wo k j := by
  blk_ext [iblk, V, AR, ofArgs, idx19 t]

theorem blk20 (t : Fin cfg0.N) (k : Fin 1024) (j : Fin 2816) : iblk m c 20 t (ix2 k j) = ((AR m c).w (bt t)).wg k j := by
  blk_ext [iblk, V, AR, ofArgs, idx20 t]

theorem blk21 (t : Fin cfg0.N) (k : Fin 1024) (j : Fin 2816) : iblk m c 21 t (ix2 k j) = ((AR m c).w (bt t)).wu k j := by
  blk_ext [iblk, V, AR, ofArgs, idx21 t]

theorem blk22 (t : Fin cfg0.N) (k : Fin 2816) (j : Fin 1024) : iblk m c 22 t (ix2 k j) = ((AR m c).w (bt t)).wd k j := by
  blk_ext [iblk, V, AR, ofArgs, idx22 t]

/-- A point's weights are its batch's. -/
theorem wts_eq (t : Fin cfg0.N) : VW.wts { md := iblk m c 7 t, hgn := iblk m c 8 t, gln := iblk m c 9 t, pre1 := iblk m c 10 t, post1 := iblk m c 11 t, pre2 := iblk m c 12 t, post2 := iblk m c 13 t, wgh := iblk m c 14 t, wgg := iblk m c 15 t, wgm := iblk m c 16 t, wbh := iblk m c 17 t, wbg := iblk m c 18 t, wo := iblk m c 19 t, wg := iblk m c 20 t, wu := iblk m c 21 t, wd := iblk m c 22 t } = (AR m c).w (bt t) := by
  have h : ∀ a b : Wts, a.md = b.md → a.hgn = b.hgn → a.gln = b.gln → a.pre1 = b.pre1 → a.post1 = b.post1 → a.pre2 = b.pre2 → a.post2 = b.post2 → a.wgh = b.wgh → a.wgg = b.wgg → a.wgm = b.wgm → a.wbh = b.wbh → a.wbg = b.wbg → a.wo = b.wo → a.wg = b.wg → a.wu = b.wu → a.wd = b.wd → a = b := by
    intro a b e0 e1 e2 e3 e4 e5 e6 e7 e8 e9 e10 e11 e12 e13 e14 e15
    cases a; cases b
    simp only at e0 e1 e2 e3 e4 e5 e6 e7 e8 e9 e10 e11 e12 e13 e14 e15
    subst e0 e1 e2 e3 e4 e5 e6 e7 e8 e9 e10 e11 e12 e13 e14 e15
    rfl
  refine h _ _ ?_ ?_ ?_ ?_ ?_ ?_ ?_ ?_ ?_ ?_ ?_ ?_ ?_ ?_ ?_ ?_
  · funext k; exact blk7 m c t k
  · funext k; exact blk8 m c t k
  · funext k; exact blk9 m c t k
  · funext k; exact blk10 m c t k
  · funext k; exact blk11 m c t k
  · funext k; exact blk12 m c t k
  · funext k; exact blk13 m c t k
  · funext k j; exact blk14 m c t k j
  · funext k j; exact blk15 m c t k j
  · funext k j; exact blk16 m c t k j
  · funext k j; exact blk17 m c t k j
  · funext k j; exact blk18 m c t k j
  · funext k j; exact blk19 m c t k j
  · funext k j; exact blk20 m c t k j
  · funext k j; exact blk21 m c t k j
  · funext k j; exact blk22 m c t k j

/-- A point's chunks are its batch's. -/
theorem fL_eq (t : Fin cfg0.N) (n : ℕ) (hn : n < 8) : fL (iblk m c 2 t) (iblk m c 3 t) (iblk m c 4 t) n = (AR m c).f (bt t) (8 * (t.val % 4) + n) := by
  unfold fL Arr.f
  have e1 : (fun k => iblk m c 4 t (ix4 0 ⟨7 - n, by omega⟩ 0 k)) = (AR m c).el (bt t) ⟨31 - (8 * (t.val % 4) + n), by omega⟩ := by
    funext k
    refine (blk4 m c t _ k).trans ?_
    exact congrArg (fun q => (AR m c).el (bt t) q k) (Fin.ext (by dsimp only; omega))
  have e2 : (fun (r : Fin 64) k => iblk m c 3 t (ix3 0 ⟨(7 - n) * 64 + r.val, by omega⟩ k)) = fun r k => (AR m c).v (bt t) ⟨(31 - (8 * (t.val % 4) + n)) * 64 + r.val, by omega⟩ k := by
    funext r k
    refine (blk3 m c t _ k).trans ?_
    exact congrArg (fun q => (AR m c).v (bt t) q k) (Fin.ext (by dsimp only; omega))
  have e3 : (fun (r : Fin 64) k => iblk m c 2 t (ix3 0 ⟨(7 - n) * 64 + r.val, by omega⟩ k)) = fun r k => (AR m c).kd (bt t) ⟨(31 - (8 * (t.val % 4) + n)) * 64 + r.val, by omega⟩ k := by
    funext r k
    refine (blk2 m c t _ k).trans ?_
    exact congrArg (fun q => (AR m c).kd (bt t) q k) (Fin.ext (by dsimp only; omega))
  exact congr (congr (congrArg stepS e1) e2) e3

theorem states_eq (t : Fin cfg0.N) (n : ℕ) (hn : n ≤ 8) (s : St) (hs : s = (AR m c).S (bt t) (8 * (t.val % 4))) :
    iterS (fL (iblk m c 2 t) (iblk m c 3 t) (iblk m c 4 t)) s n = (AR m c).S (bt t) (8 * (t.val % 4) + n) := by
  unfold Arr.S
  rw [iterS_add, hs]
  exact iterS_congr _ _ _ n fun i hi => fL_eq m c t i (lt_of_lt_of_le hi hn)

abbrev X0 (t : Fin cfg0.N) : Vec Ideal S1x512x1024 .bf16 := iblk m c 0 t

/-- The rows a point writes, from the state it starts with. -/
theorem rows_eq (t : Fin cfg0.N) (s : St) (hs : s = (AR m c).S (bt t) (8 * (t.val % 4))) (R : Fin 512) (j : Fin 1024) :
    rowOut (VW.wts { md := iblk m c 7 t, hgn := iblk m c 8 t, gln := iblk m c 9 t, pre1 := iblk m c 10 t, post1 := iblk m c 11 t, pre2 := iblk m c 12 t, post2 := iblk m c 13 t, wgh := iblk m c 14 t, wgg := iblk m c 15 t, wgm := iblk m c 16 t, wbh := iblk m c 17 t, wbg := iblk m c 18 t, wo := iblk m c 19 t, wg := iblk m c 20 t, wu := iblk m c 21 t, wd := iblk m c 22 t }) (fun k => iblk m c 6 t (ix3 0 R k))
      (fun k => X0 m c t (ix3 0 R k) + OB (iblk m c 1 t) (iterS (fL (iblk m c 2 t) (iblk m c 3 t) (iblk m c 4 t)) s) R k) j =
      (AR m c).out (bt t) ⟨(3 - t.val % 4) * 512 + R.val, by omega⟩ j := by
  have e1 : (fun k => iblk m c 6 t (ix3 0 R k)) = (AR m c).x (bt t) ⟨(3 - t.val % 4) * 512 + R.val, by omega⟩ := funext (blk6 m c t R)
  have e2 : (fun k => iblk m c 1 t (ix3 0 R k)) = (AR m c).qd (bt t) ⟨(3 - t.val % 4) * 512 + R.val, by omega⟩ := funext (blk1 m c t R)
  have e3 : iterS (fL (iblk m c 2 t) (iblk m c 3 t) (iblk m c 4 t)) s (7 - R.val / 64) = (AR m c).S (bt t) (31 - ((3 - t.val % 4) * 512 + R.val) / 64) :=
    (states_eq m c t _ (by omega) s hs).trans (congrArg ((AR m c).S (bt t)) (by omega))
  have e4 : (fun k => X0 m c t (ix3 0 R k) + OB (iblk m c 1 t) (iterS (fL (iblk m c 2 t) (iblk m c 3 t) (iblk m c 4 t)) s) R k) =
      fun k => (AR m c).oi (bt t) ⟨(3 - t.val % 4) * 512 + R.val, by omega⟩ k +
        readS ((AR m c).qd (bt t) ⟨(3 - t.val % 4) * 512 + R.val, by omega⟩) ((AR m c).S (bt t) (31 - ((3 - t.val % 4) * 512 + R.val) / 64)) k := by
    funext k
    refine congr (congrArg HAdd.hAdd (blk0 m c t R k)) ?_
    exact congr (congr (congrArg readS e2) e3) rfl
  exact congr (congr (congr (congrArg rowOut (wts_eq m c t)) e1) e4) rfl

end Cert.Grid
-- ==== Proof.Result.lean ====
/- The kernel's result, from its arrays at the start. -/
module

public import proofs.«01_k».proof.Proof.PointA
public import proofs.«01_k».proof.Proof.PointB
public import proofs.«01_k».proof.Proof.Grid

@[expose] public section

set_option maxRecDepth 16384
set_option maxHeartbeats 1000000

noncomputable section

namespace Cert.Result

open Idealize.ShloMosaic Idealize.ShloMosaic.TcCoe Cert.KernelIdeal Cert.KernelIdeal.Gen Cert.KernelIdeal.Value Cert.Spec Cert.Chain Cert.Rows Cert.Grid
open Idealize.ShloMosaic.Pipeline (Dat)

variable (m : (ℓ : Loc nD τ sig) → Buf (Elt Ideal) ℓ) (c : Dev nD)

theorem open_eq (t : Fin cfg0.N) (h0 : t.val % 4 = 0) : s0A (iblk m c 5 t) = (AR m c).S (bt t) (8 * (t.val % 4)) := by
  rw [h0]
  funext u p q
  exact blk5 m c t u p q

theorem state_A (t : Fin cfg0.N) (h0 : t.val % 4 = 0) (u : Fin 8) (p q : Fin 128) :
    (outsAt0 m c t.val t.isLt).2 (ix3 u p q) = (AR m c).S (bt t) (8 * (t.val % 4) + 8) u p q := by
  rw [outsAt0_A m c t h0]
  dsimp only
  refine (PointA.state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u p q).trans ?_
  exact congrFun (congrFun (congrFun (states_eq m c t 8 le_rfl _ (open_eq m c t h0)) u) p) q

theorem state_B (t : Fin cfg0.N) (h0 : ¬t.val % 4 = 0) (hp : t.val - 1 < cfg0.N)
    (hs : s0B ((outsAt0 m c (t.val - 1) hp).2) = (AR m c).S (bt t) (8 * (t.val % 4))) (u : Fin 8) (p q : Fin 128) :
    (outsAt0 m c t.val t.isLt).2 (ix3 u p q) = (AR m c).S (bt t) (8 * (t.val % 4) + 8) u p q := by
  rw [outsAt0_B m c t h0]
  dsimp only
  refine (PointB.state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ u p q).trans ?_
  exact congrFun (congrFun (congrFun (states_eq m c t 8 le_rfl _ hs) u) p) q

theorem prev_eq (t : Fin cfg0.N) (h0 : ¬t.val % 4 = 0) (hp : t.val - 1 < cfg0.N)
    (h : ∀ (u : Fin 8) (p q : Fin 128), (outsAt0 m c (t.val - 1) hp).2 (ix3 u p q) = (AR m c).S (bt ⟨t.val - 1, hp⟩) (8 * ((t.val - 1) % 4) + 8) u p q) :
    s0B ((outsAt0 m c (t.val - 1) hp).2) = (AR m c).S (bt t) (8 * (t.val % 4)) := by
  have e1 : bt ⟨t.val - 1, hp⟩ = bt t := Fin.ext (by dsimp only [bt]; omega)
  have e2 : 8 * ((t.val - 1) % 4) + 8 = 8 * (t.val % 4) := by omega
  rw [e1, e2] at h
  funext u p q
  exact h u p q

theorem state (n : ℕ) : ∀ (hn : n < cfg0.N) (u : Fin 8) (p q : Fin 128),
    (outsAt0 m c n hn).2 (ix3 u p q) = (AR m c).S (bt ⟨n, hn⟩) (8 * (n % 4) + 8) u p q := by
  induction n with
  | zero => exact fun hn u p q => state_A m c ⟨0, hn⟩ rfl u p q
  | succ n ih =>
    intro hn u p q
    by_cases h0 : (n + 1) % 4 = 0
    · exact state_A m c ⟨n + 1, hn⟩ h0 u p q
    · exact state_B m c ⟨n + 1, hn⟩ h0 (Nat.lt_of_succ_lt hn) (prev_eq m c ⟨n + 1, hn⟩ h0 (Nat.lt_of_succ_lt hn) (ih (Nat.lt_of_succ_lt hn))) u p q

/-- The rows a point leaves in its output block. -/
theorem rows (t : Fin cfg0.N) (R : Fin 512) (j : Fin 1024) :
    (outsAt0 m c t.val t.isLt).1 (ix3 0 R j) = (AR m c).out (bt t) ⟨(3 - t.val % 4) * 512 + R.val, by omega⟩ j := by
  by_cases h0 : t.val % 4 = 0
  · rw [outsAt0_A m c t h0]
    dsimp only
    refine (PointA.rows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R j).trans ?_
    exact rows_eq m c t _ (open_eq m c t h0) R j
  · have hp : t.val - 1 < cfg0.N := lt_of_le_of_lt (Nat.sub_le _ _) t.isLt
    rw [outsAt0_B m c t h0]
    dsimp only
    refine (PointB.rows _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ R j).trans ?_
    exact rows_eq m c t _ (prev_eq m c t h0 hp (state m c _ hp)) R j

/-- Where an element of a point's output block lies in the array. -/
theorem place (t : Fin cfg0.N) (y1 : Fin 512) (y2 : Fin 1024) :
    (win0_23.blk t).view.emb (ix3 (0 : Fin 1) y1 y2) = (ix3 (bt t) ⟨(3 - t.val % 4) * 512 + y1.val, by omega⟩ y2 : S8x2048x1024.Idx) := by
  have := lt32 t
  blk_ext [idx23 t]

/-- The result array. -/
theorem final : (dats m 0 c).arrAt 23 cfg0.N = fun i : S8x2048x1024.Idx => (AR m c).out (i 0) (i 1) (i 2) := by
  refine (dats m 0 c).arrAt_eq_of_covers 23 (fun i : S8x2048x1024.Idx => (AR m c).out (i 0) (i 1) (i 2)) (by decide +kernel) fun t hf y => ?_
  blk_simp
  rw [after0_23]
  have hy : y = ix3 (0 : Fin 1) (y 1) (y 2) := by
    funext a; fin_cases a
    · exact Subsingleton.elim (α := Fin 1) _ _
    · rfl
    · rfl
  rw [hy]
  refine (rows m c t (y 1) (y 2)).trans ?_
  exact congrArg (fun i : S8x2048x1024.Idx => (AR m c).out (i 0) (i 1) (i 2)) (place t (y 1) (y 2)).symm

end Cert.Result

end
-- ==== Proof.Join.lean ====
/- The two programs' results from the same arrays. -/
module

public import proofs.«01_k».proof.Proof.Entry
public import proofs.«01_k».proof.Proof.Result

@[expose] public section

set_option maxRecDepth 16384
set_option maxHeartbeats 1000000

noncomputable section

namespace Cert.Join

open Idealize.ShloMosaic Idealize.ShloMosaic.TcCoe Cert.Spec

theorem wts_congr {w w' : Wts} (h0 : w.md = w'.md) (h1 : w.hgn = w'.hgn) (h2 : w.gln = w'.gln) (h3 : w.pre1 = w'.pre1) (h4 : w.post1 = w'.post1) (h5 : w.pre2 = w'.pre2) (h6 : w.post2 = w'.post2) (h7 : w.wgh = w'.wgh) (h8 : w.wgg = w'.wgg) (h9 : w.wgm = w'.wgm) (h10 : w.wbh = w'.wbh) (h11 : w.wbg = w'.wbg) (h12 : w.wo = w'.wo) (h13 : w.wg = w'.wg) (h14 : w.wu = w'.wu) (h15 : w.wd = w'.wd) : w = w' := by
  cases w; cases w'
  simp only at h0 h1 h2 h3 h4 h5 h6 h7 h8 h9 h10 h11 h12 h13 h14 h15
  subst h0 h1 h2 h3 h4 h5 h6 h7 h8 h9 h10 h11 h12 h13 h14 h15
  rfl

theorem arr_congr {A A' : Arr} (h0 : A.oi = A'.oi) (h1 : A.qd = A'.qd) (h2 : A.kd = A'.kd) (h3 : A.v = A'.v) (h4 : A.el = A'.el) (h5 : A.s0 = A'.s0) (h6 : A.x = A'.x) (h7 : A.w = A'.w) : A = A' := by
  cases A; cases A'
  simp only at h0 h1 h2 h3 h4 h5 h6 h7
  subst h0 h1 h2 h3 h4 h5 h6 h7
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- What the reference's loop starts from, as arrays of the arguments. -/
theorem entry_eq : Cert.RefRun.arr (Idealize.ShloMosaic.StableHlo.entryContents Cert.ReferenceIdeal.Value.preI m' c) = Cert.Grid.ofArgs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) := by
  apply arr_congr
  · exact funext fun b => funext fun R => funext fun k => Cert.Entry.oiC_at m' c b R k
  · exact funext fun b => funext fun R => funext fun k => Cert.Entry.qdC_at m' c b R k
  · exact funext fun b => funext fun R => funext fun k => Cert.Entry.kdC_at m' c b R k
  · exact funext fun b => funext fun R => funext fun k => Cert.Entry.vC_at m' c b R k
  · exact funext fun b => funext fun i => funext fun k => Cert.Entry.elC_at m' c b i k
  · exact funext fun b => funext fun u => funext fun p => funext fun q => congrFun (Cert.Entry.sC_eq m' c) (ix4 b u p q)
  · exact funext fun b => funext fun R => funext fun k => Cert.Entry.xC_at m' c b R k
  · funext b
    apply wts_congr
    · exact funext fun k => Cert.Entry.mdC_at m' c b k
    · exact funext fun k => congrFun (Cert.Entry.ghC_eq m' c) (ix2 0 k)
    · exact funext fun k => congrFun (Cert.Entry.glC_eq m' c) (ix2 0 k)
    · exact funext fun k => congrFun (Cert.Entry.p1C_eq m' c) (ix2 0 k)
    · exact funext fun k => congrFun (Cert.Entry.q1C_eq m' c) (ix2 0 k)
    · exact funext fun k => congrFun (Cert.Entry.p2C_eq m' c) (ix2 0 k)
    · exact funext fun k => congrFun (Cert.Entry.q2C_eq m' c) (ix2 0 k)
    · exact funext fun k => funext fun j => congrFun (Cert.Entry.whC_eq m' c) (ix2 k j)
    · exact funext fun k => funext fun j => congrFun (Cert.Entry.wlC_eq m' c) (ix2 k j)
    · exact funext fun k => funext fun j => congrFun (Cert.Entry.wmC_eq m' c) (ix2 k j)
    · exact funext fun k => funext fun j => congrFun (Cert.Entry.bhC_eq m' c) (ix2 k j)
    · exact funext fun k => funext fun j => congrFun (Cert.Entry.blC_eq m' c) (ix2 k j)
    · exact funext fun k => funext fun j => congrFun (Cert.Entry.woC_eq m' c) (ix2 k j)
    · exact funext fun k => funext fun j => congrFun (Cert.Entry.wgC_eq m' c) (ix2 k j)
    · exact funext fun k => funext fun j => congrFun (Cert.Entry.wuC_eq m' c) (ix2 k j)
    · exact funext fun k => funext fun j => congrFun (Cert.Entry.wdC_eq m' c) (ix2 k j)

theorem value_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Value.out_main_v15 (Cert.ReferenceIdeal.Value.STEP^[32] (Idealize.ShloMosaic.StableHlo.entryContents Cert.ReferenceIdeal.Value.preI m' c))
      = (Cert.KernelIdeal.Gen.dats m 0 c).arrAt 23 Cert.KernelIdeal.cfg0.N := by
  have e : Cert.Grid.AR m c = Cert.RefRun.arr (Idealize.ShloMosaic.StableHlo.entryContents Cert.ReferenceIdeal.Value.preI m' c) := by
    refine Eq.trans ?_ (entry_eq m' c).symm
    unfold Cert.Grid.AR
    rw [h0, h1, h2, h3, h4, h5, h6, h7, h8, h9, h10, h11, h12, h13, h14, h15, h16, h17, h18, h19, h20, h21, h22]
  rw [Cert.Result.final, e]
  funext i
  have hi : i = (ix3 (i 0) (i 1) (i 2) : Cert.ReferenceIdeal.S8x2048x1024.Idx) := eq_ix3 i
  refine (congrArg (Cert.ReferenceIdeal.Value.out_main_v15 (Cert.ReferenceIdeal.Value.STEP^[32] (Idealize.ShloMosaic.StableHlo.entryContents Cert.ReferenceIdeal.Value.preI m' c))) hi).trans ?_
  exact Cert.RefRun.out_eq _ (Cert.ReferenceIdeal.Value.ctr_entry m' c) (i 0) (i 1) (i 2)

end Cert.Join

end
-- ==== Proof.Modulation.lean ====
/- The modulation call: its array, the reference's, and that they are the same. -/
module

public import proofs.«01_k».proof.Proof.Spec
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Claim

@[expose] public section

set_option maxRecDepth 16384
set_option maxHeartbeats 1000000

noncomputable section

namespace Cert.Modulation

open Idealize.ShloMosaic Idealize.ShloMosaic.TcCoe Cert.Spec

/-- A row of conditions through `x ↦ x σ(x)`, times the weights, plus the bias. -/
def modOut (a : Fin 1024 → EReal) (w : Fin 1024 → Fin 6144 → EReal) (b : Fin 6144 → EReal) (j : Fin 6144) : EReal := vm (fun k => silu (a k)) w j + b j

section Kernel

open Cert.Kernel2Ideal Cert.Kernel2Ideal.Gen
open Idealize.ShloMosaic.Pipeline (Dat)

/-- The context's condition, the batch rows' and rows of zeros, one above the other. -/
abbrev cond (cc : FVec Ideal S1024 .f32) (cb : FVec Ideal S8x1024 .f32) : FVec Ideal S16x1024 .f32 :=
  concatenate S16x1024 0 [⟨S1x1024, broadcastInDim S1x1024 ![1] bcast_S1024_S1x1024_1 cc⟩, ⟨S8x1024, cb⟩,
    ⟨S7x1024, broadcastInDim S7x1024 ![] bcast_S_S7x1024 (constant S_ .f32 0x00000000#32)⟩] concatenates_S1x1024_S8x1024_S7x1024_S16x1024_d0

/-- What one point stores. -/
theorem pay_at (a : Vec Ideal S16x1024 .f32) (w : Vec Ideal S1024x1024 .f32) (b : Vec Ideal S1x1024 .f32) (r : Fin 16) (j : Fin 1024) :
    k0_pay1 a w b (ix3 r 0 j) = vm (fun k => silu (a (ix2 r k))) (fun k j => w (ix2 k j)) j + b (ix2 0 j) := by
  pointwise [k0_pay1, vm, silu, sg, zero_add, zero_sub]

theorem out_at (a : Vec Ideal S16x1024 .f32) (w : Vec Ideal S1024x1024 .f32) (b : Vec Ideal S1x1024 .f32) (r : Fin 16) (j : Fin 1024) :
    out0_3 a w b (ix3 r 0 j) = vm (fun k => silu (a (ix2 r k))) (fun k j => w (ix2 k j)) j + b (ix2 0 j) := by
  have ea : View.ld a r0_0 = a := View.ld_unit_zero (by decide) _ a
  have ew : View.ld w r0_1 = w := View.ld_unit_zero (by decide) _ w
  have eb : View.ld b r0_2 = b := View.ld_unit_zero (by decide) _ b
  unfold out0_3
  rw [ea, ew, eb]
  rw [View.canon_unit_zero (by decide)]
  exact pay_at a w b r j

variable (m : (ℓ : Loc nD τ sig) → Buf (Elt Ideal) ℓ) (c : Dev nD)

theorem V_cond : V m c main_v2 = cond (m ((c : Thread nD τ).loc main_arg1)) (m ((c : Thread nD τ).loc main_arg0)) := by
  unfold V
  simp only [hostOps0]
  after_results <;> rfl

theorem V_weights : V m c main_v3 = (shapeCast S1024x6144 (m ((c : Thread nD τ).loc main_arg2) : FVec Ideal S1x1024x6144 .f32) shapeCasts_S1x1024x6144_S1024x6144 : FVec Ideal S1024x6144 .f32) := by
  unfold V
  simp only [hostOps0]
  after_results <;> rfl

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, 0, t.val] := (by decide +kernel : ∀ t : Fin grid0.N, _)

theorem lt6 (t : Fin cfg0.N) : t.val < 6 := lt_of_lt_of_eq t.isLt N_0

theorem blk0 (t : Fin cfg0.N) (r : Fin 16) (k : Fin 1024) : iblk m c 0 t (ix2 r k) = V m c main_v2 (ix2 r k : S16x1024.Idx) := by
  blk_ext [iblk, idx0 t]
theorem blk1 (t : Fin cfg0.N) (k j : Fin 1024) : iblk m c 1 t (ix2 k j) = V m c main_v3 (ix2 k ⟨t.val * 1024 + j.val, by have := lt6 t; omega⟩ : S1024x6144.Idx) := by
  blk_ext [iblk, idx1 t]
theorem blk2 (t : Fin cfg0.N) (j : Fin 1024) : iblk m c 2 t (ix2 0 j) = V m c main_arg3 (ix2 0 ⟨t.val * 1024 + j.val, by have := lt6 t; omega⟩ : S1x6144.Idx) := by
  blk_ext [iblk, idx2 t]

/-- The array that the call leaves, index by index. -/
def G (i : S16x1x6144.Idx) : EReal :=
  modOut (fun k => (V m c main_v2 : FVec Ideal S16x1024 .f32) (ix2 (i 0) k)) (fun k j => (V m c main_v3 : FVec Ideal S1024x6144 .f32) (ix2 k j))
    (fun j => (V m c main_arg3 : FVec Ideal S1x6144 .f32) (ix2 0 j)) (i 2)

theorem place (t : Fin cfg0.N) (r : Fin 16) (j : Fin 1024) :
    (win0_3.blk t).view.emb (ix3 r (0 : Fin 1) j) = (ix3 r 0 ⟨t.val * 1024 + j.val, by have := lt6 t; omega⟩ : S16x1x6144.Idx) := by
  have := lt6 t
  blk_ext [idx3 t]

theorem point (t : Fin cfg0.N) (r : Fin 16) (j : Fin 1024) :
    out0_3 (iblk m c 0 t) (iblk m c 1 t) (iblk m c 2 t) (ix3 r 0 j) = G m c (ix3 r 0 ⟨t.val * 1024 + j.val, by have := lt6 t; omega⟩) := by
  rw [out_at, blk2]
  simp only [blk0, blk1]
  rfl

theorem final : (dats m 0 c).arrAt 3 cfg0.N = G m c := by
  refine (dats m 0 c).arrAt_eq_of_covers 3 (G m c) (by decide +kernel) fun t hf y => ?_
  blk_simp
  rw [after0_3]
  have hy : y = ix3 (y 0) (0 : Fin 1) (y 2) := by
    funext a; fin_cases a
    · rfl
    · exact Subsingleton.elim (α := Fin 1) _ _
    · rfl
  rw [hy]
  exact (point m c t (y 0) (y 2)).trans (congrArg (G m c) (place t (y 0) (y 2)).symm)

end Kernel

section Reference

open Cert.Reference2Ideal Cert.Reference2Ideal.Gen

/-- The reference's rows of conditions. -/
abbrev rcond (cc : FVec Ideal S1024 .f32) (cb : FVec Ideal S8x1024 .f32) : FVec Ideal S16x1024 .f32 :=
  concatenate S16x1024 0 [⟨S1x1024, shapeCast S1x1024 cc shapeCasts_S1024_S1x1024⟩, ⟨S8x1024, cb⟩,
    ⟨S7x1024, broadcastInDim S7x1024 ![] bcast_S_S7x1024 (constant S_ .f32 0x00000000#32)⟩] concatenates_S1x1024_S8x1024_S7x1024_S16x1024_d0

/-- The reference's array, from its rows of conditions. -/
def RM (a : FVec Ideal S16x1024 .f32) (w : FVec Ideal S1x1024x6144 .f32) (b : FVec Ideal S1x6144 .f32) : FVec Ideal S16x1x6144 .f32 :=
  shapeCast S16x1x6144 (addf (Host.dotGeneral dot_S16x1024_S1024x6144_S16x6144_1_0_0_1_n_n none
    (mulf a (Host.divf (broadcastInDim S16x1024 ![] bcast_S_S16x1024 (constant S_ .f32 0x3F800000#32))
      (addf (broadcastInDim S16x1024 ![] bcast_S_S16x1024 (constant S_ .f32 0x3F800000#32)) (Host.exp (Host.negf a)))))
    (shapeCast S1024x6144 w shapeCasts_S1x1024x6144_S1024x6144))
    (broadcastInDim S16x6144 ![0, 1] bcast_S1x6144_S16x6144_0_1 (broadcastInDim S1x6144 ![1] bcast_S6144_S1x6144_1 (shapeCast S6144 b shapeCasts_S1x6144_S6144)))) shapeCasts_S16x6144_S16x1x6144

theorem RM_at (a : FVec Ideal S16x1024 .f32) (w : FVec Ideal S1x1024x6144 .f32) (b : FVec Ideal S1x6144 .f32) (r : Fin 16) (j : Fin 6144) :
    RM a w b (ix3 r 0 j) = modOut (fun k => a (ix2 r k)) (fun k j => w (ix3 0 k j)) (fun j => b (ix2 0 j)) j := by
  pointwise [RM, modOut, vm, silu, sg]

end Reference

theorem row_of (cc : FVec Ideal Cert.Kernel2Ideal.S1024 .f32) (k : Fin 1024) :
    (shapeCast Cert.Reference2Ideal.S1x1024 cc Cert.Reference2Ideal.Gen.shapeCasts_S1024_S1x1024 : FVec Ideal Cert.Reference2Ideal.S1x1024 .f32) (ix2 0 k)
      = (broadcastInDim Cert.Kernel2Ideal.S1x1024 ![1] Cert.Kernel2Ideal.Gen.bcast_S1024_S1x1024_1 cc : FVec Ideal Cert.Kernel2Ideal.S1x1024 .f32) (ix2 0 k) := by
  pointwise

theorem cond_eq (cc : FVec Ideal Cert.Kernel2Ideal.S1024 .f32) (cb : FVec Ideal Cert.Kernel2Ideal.S8x1024 .f32) : rcond cc cb = cond cc cb := by
  have e : shapeCast Cert.Reference2Ideal.S1x1024 cc Cert.Reference2Ideal.Gen.shapeCasts_S1024_S1x1024
      = broadcastInDim Cert.Kernel2Ideal.S1x1024 ![1] Cert.Kernel2Ideal.Gen.bcast_S1024_S1x1024_1 cc := by
    refine funext fun i => ?_
    have hi : i = (ix2 0 (i 1) : Cert.Kernel2Ideal.S1x1024.Idx) := by
      funext a; fin_cases a
      · exact Subsingleton.elim (α := Fin 1) _ _
      · rfl
    rw [hi]
    exact row_of _ (i 1)
  unfold rcond cond
  rw [e]

theorem weights_at (w : FVec Ideal Cert.Kernel2Ideal.S1x1024x6144 .f32) (k : Fin 1024) (j : Fin 6144) :
    (shapeCast Cert.Kernel2Ideal.S1024x6144 w Cert.Kernel2Ideal.Gen.shapeCasts_S1x1024x6144_S1024x6144 : FVec Ideal Cert.Kernel2Ideal.S1024x6144 .f32) (ix2 k j) = w (ix3 0 k j) := by
  pointwise

theorem idx_form (i : Cert.Kernel2Ideal.S16x1x6144.Idx) : ∃ (r : Fin 16) (j : Fin 6144), i = ix3 r 0 j := by
  refine ⟨i 0, i 2, ?_⟩
  funext a; fin_cases a
  · rfl
  · exact Subsingleton.elim (α := Fin 1) _ _
  · rfl

theorem value_eq (m : (ℓ : Loc Cert.Kernel2Ideal.nD Cert.Kernel2Ideal.τ Cert.Kernel2Ideal.sig) → Buf (Elt Ideal) ℓ) (c : Dev Cert.Kernel2Ideal.nD)
    (a0 : FVec Ideal Cert.Kernel2Ideal.S8x1024 .f32) (a1 : FVec Ideal Cert.Kernel2Ideal.S1024 .f32) (a2 : FVec Ideal Cert.Kernel2Ideal.S1x1024x6144 .f32)
    (a3 : FVec Ideal Cert.Kernel2Ideal.S1x6144 .f32)
    (h0 : a0 = m ((c : Thread Cert.Kernel2Ideal.nD Cert.Kernel2Ideal.τ).loc Cert.Kernel2Ideal.main_arg0))
    (h1 : a1 = m ((c : Thread Cert.Kernel2Ideal.nD Cert.Kernel2Ideal.τ).loc Cert.Kernel2Ideal.main_arg1))
    (h2 : a2 = m ((c : Thread Cert.Kernel2Ideal.nD Cert.Kernel2Ideal.τ).loc Cert.Kernel2Ideal.main_arg2))
    (h3 : a3 = m ((c : Thread Cert.Kernel2Ideal.nD Cert.Kernel2Ideal.τ).loc Cert.Kernel2Ideal.main_arg3)) :
    RM (rcond a1 a0) a2 a3 = (Cert.Kernel2Ideal.Gen.dats m 0 c).arrAt 3 Cert.Kernel2Ideal.cfg0.N := by
  rw [final]
  refine funext fun i => ?_
  obtain ⟨r, j, rfl⟩ := idx_form i
  refine (RM_at _ _ _ r j).trans ?_
  rw [cond_eq]
  unfold G
  rw [V_cond, V_weights, Cert.Kernel2Ideal.Gen.V_main_arg3, ← h0, ← h1, ← h2, ← h3]
  simp only [weights_at]
  rfl

end Cert.Modulation

end
-- ==== Proof.lean ====
module

public import proofs.«01_k».proof.Proof.Gen.KernelIdeal.Value
public import proofs.«01_k».proof.Proof.Gen.ReferenceIdeal.Run
public import proofs.«01_k».proof.Proof.Join
public import proofs.«01_k».proof.Proof.Modulation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates with every argument as it was and every counter at zero. -/
theorem frame_ref : Cert.quiescent_ReferenceIdeal (hReferenceIdeal := Cert.ReferenceIdeal.Gen.facts) := by
  intro m g _
  exact (θ_run _ _ _).mono (fun r h => ⟨fun c => (h c).2, sem_eq_zero_of_no_sems rfl _⟩) (Cert.ReferenceIdeal.Value.run m g)

/-- The kernel and the reference, at the extended reals, give the same array. -/
theorem same_values : Cert.algebraic_KernelIdeal_ReferenceIdeal (hKernelIdeal := Cert.KernelIdeal.Gen.facts) (hReferenceIdeal := Cert.ReferenceIdeal.Gen.facts) := by
  intro m g m' g' _ ha
  refine ⟨fun c => (Cert.KernelIdeal.Gen.dats m 0 c).arrAt 23 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨h0, h1, h2, h3, h4, h5, h6, h7, h8, h9, h10, h11, h12, h13, h14, h15, h16, h17, h18, h19, h20, h21, h22⟩ := ha c
  exact Cert.Join.value_eq m m' c h0 h1 h2 h3 h4 h5 h6 h7 h8 h9 h10 h11 h12 h13 h14 h15 h16 h17 h18 h19 h20 h21 h22

/-- The modulation's reference terminates with every argument as it was and every counter at zero. -/
theorem frame_ref2 : Cert.quiescent_Reference2Ideal (hReference2Ideal := Cert.Reference2Ideal.Gen.facts) := by
  intro m g _
  exact (θ_run _ _ _).mono (fun r h => ⟨fun c => (h c).2, sem_eq_zero_of_no_sems rfl _⟩) (Cert.Reference2Ideal.Value.run m g)

/-- The modulation call and its reference, at the extended reals, give the same array. -/
theorem same_values2 : Cert.algebraic_Kernel2Ideal_Reference2Ideal (hKernel2Ideal := Cert.Kernel2Ideal.Gen.facts) (hReference2Ideal := Cert.Reference2Ideal.Gen.facts) := by
  intro m g m' g' _ ha
  refine ⟨fun c => (Cert.Kernel2Ideal.Gen.dats m 0 c).arrAt 3 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3⟩ := ha c
  exact Cert.Modulation.value_eq m c _ _ _ _ h0 h1 h2 h3

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  trivial, same_values, trivial, same_values2⟩

end Cert.Proof

end
